-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ preserves_Kernel_KernelIdeal
    ∧ algebraic_KernelIdeal_ReferenceIdeal_pre_finite_values (hKernelIdeal := hKernelIdeal) (hReferenceIdeal := hReferenceIdeal) (hPre_finite_values := hPre_finite_values)
-- ==== Pre_finite_values.lean ====
abbrev S1x2048x12x64 : Shape := ⟨4, ![1, 2048, 12, 64]⟩
abbrev S_ : Shape := ⟨0, ![]⟩

class Facts : Prop where
  bcast_S_S1x2048x12x64 : S_.BroadcastsInDim S1x2048x12x64 (![] : Fin 0 → Fin S1x2048x12x64.rank)

variable [Facts]

def fn {F : FTy → Type} [FloatOps F] (main_arg0 : FVec F S1x2048x12x64 .f32) (main_arg1 : FVec F S1x2048x12x64 .f32) (main_arg2 : FVec F S1x2048x12x64 .f32) : IVec S1x2048x12x64 1 :=
  let main_v0 : FVec F S1x2048x12x64 .f32 := Host.absf main_arg0
  let main_cst : FVec F S_ .f32 := constant S_ .f32 0x7F800000#32
  let main_v1 : FVec F S1x2048x12x64 .f32 := broadcastInDim S1x2048x12x64 ![] bcast_S_S1x2048x12x64 main_cst
  let main_v2 : IVec S1x2048x12x64 1 := cmpf .olt main_v0 main_v1
  let main_v3 : FVec F S1x2048x12x64 .f32 := Host.absf main_arg1
  let main_cst_0 : FVec F S_ .f32 := constant S_ .f32 0x7F800000#32
  let main_v4 : FVec F S1x2048x12x64 .f32 := broadcastInDim S1x2048x12x64 ![] bcast_S_S1x2048x12x64 main_cst_0
  let main_v5 : IVec S1x2048x12x64 1 := cmpf .olt main_v3 main_v4
  let main_v6 : IVec S1x2048x12x64 1 := andi main_v2 main_v5
  let main_v7 : FVec F S1x2048x12x64 .f32 := Host.absf main_arg2
  let main_cst_1 : FVec F S_ .f32 := constant S_ .f32 0x7F800000#32
  let main_v8 : FVec F S1x2048x12x64 .f32 := broadcastInDim S1x2048x12x64 ![] bcast_S_S1x2048x12x64 main_cst_1
  let main_v9 : IVec S1x2048x12x64 1 := cmpf .olt main_v7 main_v8
  let main_v10 : IVec S1x2048x12x64 1 := andi main_v6 main_v9
  main_v10
-- ==== Kernel.lean ====
abbrev S1x2048x12x64 : Shape := ⟨4, ![1, 2048, 12, 64]⟩
abbrev S152x152 : Shape := ⟨2, ![152, 152]⟩
abbrev S2048x768 : Shape := ⟨2, ![2048, 768]⟩
abbrev S1024x768 : Shape := ⟨2, ![1024, 768]⟩
abbrev S1x768 : Shape := ⟨2, ![1, 768]⟩
abbrev S304x768 : Shape := ⟨2, ![304, 768]⟩
abbrev S152x768 : Shape := ⟨2, ![152, 768]⟩
abbrev S38 : Shape := ⟨1, ![38]⟩
abbrev S1 : Shape := ⟨1, ![1]⟩
abbrev S_ : Shape := ⟨0, ![]⟩
abbrev S16x768 : Shape := ⟨2, ![16, 768]⟩
abbrev S768 : Shape := ⟨1, ![768]⟩
abbrev S8x768 : Shape := ⟨2, ![8, 768]⟩
abbrev S152 : Shape := ⟨1, ![152]⟩
abbrev S152x1 : Shape := ⟨2, ![152, 1]⟩
abbrev S152x64 : Shape := ⟨2, ![152, 64]⟩
abbrev S64x152 : Shape := ⟨2, ![64, 152]⟩
abbrev S1x64 : Shape := ⟨2, ![1, 64]⟩

abbrev nBuf : Space → Nat
  | .hbm => 9
  | .vmem => 10
  | .smem => 0
  | _ => 0

abbrev bufTy : (tb : Table) → Fin (tcTables nBuf tb) → BufTy
  | .hbm, ⟨0, _⟩ => ⟨S1x2048x12x64, .f32⟩
  | .hbm, ⟨1, _⟩ => ⟨S1x2048x12x64, .f32⟩
  | .hbm, ⟨2, _⟩ => ⟨S1x2048x12x64, .f32⟩
  | .hbm, ⟨3, _⟩ => ⟨S152x152, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S1x2048x12x64, .f32⟩
  | .local _ .vmem, ⟨0, _⟩ => ⟨S1024x768, .f32⟩
  | .local _ .vmem, ⟨1, _⟩ => ⟨S1024x768, .f32⟩
  | .local _ .vmem, ⟨2, _⟩ => ⟨S152x152, .f32⟩
  | .local _ .vmem, ⟨3, _⟩ => ⟨S1024x768, .f32⟩
  | .local _ .vmem, ⟨4, _⟩ => ⟨S1024x768, .f32⟩
  | .local _ .vmem, ⟨5, _⟩ => ⟨S1x768, .f32⟩
  | .local _ .vmem, ⟨6, _⟩ => ⟨S304x768, .f32⟩
  | .local _ .vmem, ⟨7, _⟩ => ⟨S304x768, .f32⟩
  | .local _ .vmem, ⟨8, _⟩ => ⟨S152x768, .f32⟩
  | .local _ .vmem, ⟨9, _⟩ => ⟨S152x768, .f32⟩
  | _, _ => ⟨S1x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def k0_cond23 (i : grid0.Coords) : BitVec 1 :=
  let arg0 : BitVec 32 := BitVec.ofNat 32 (i 0).val
  let c1_i32_41 : BitVec 32 := 1#32
  let v66 : BitVec 1 := Scalar.cmpi .sge arg0 c1_i32_41
  let v67 : BitVec 32 := Scalar.extui v66
  let c0_i32_42 : BitVec 32 := 0#32
  let v68 : BitVec 1 := Scalar.cmpi .ne v67 c0_i32_42
  v68

def k0_cond24 (i : grid0.Coords) : BitVec 1 :=
  let arg0 : BitVec 32 := BitVec.ofNat 32 (i 0).val
  let c1_i32_43 : BitVec 32 := 1#32
  let v69 : BitVec 1 := Scalar.cmpi .eq arg0 c1_i32_43
  let v70 : BitVec 32 := Scalar.extui v69
  let c0_i32_44 : BitVec 32 := 0#32
  let v71 : BitVec 1 := Scalar.cmpi .ne v70 c0_i32_44
  v71

def k0_cond25 (i : grid0.Coords) : BitVec 1 :=
  let arg0 : BitVec 32 := BitVec.ofNat 32 (i 0).val
  let c1_i32_45 : BitVec 32 := 1#32
  let v72 : BitVec 1 := Scalar.cmpi .eq arg0 c1_i32_45
  let v73 : BitVec 32 := Scalar.extui v72
  let c0_i32_46 : BitVec 32 := 0#32
  let v74 : BitVec 1 := Scalar.cmpi .ne v73 c0_i32_46
  v74

def k0_cond26 (i : grid0.Coords) : BitVec 1 :=
  let arg0 : BitVec 32 := BitVec.ofNat 32 (i 0).val
  let c1_i32_47 : BitVec 32 := 1#32
  let v75 : BitVec 1 := Scalar.cmpi .eq arg0 c1_i32_47
  let v76 : BitVec 32 := Scalar.extui v75
  let c0_i32_48 : BitVec 32 := 0#32
  let v77 : BitVec 1 := Scalar.cmpi .ne v76 c0_i32_48
  v77

def k0_cond27 (i : grid0.Coords) : BitVec 1 :=
  let arg0 : BitVec 32 := BitVec.ofNat 32 (i 0).val
  let c1_i32_49 : BitVec 32 := 1#32
  let v78 : BitVec 1 := Scalar.cmpi .eq arg0 c1_i32_49
  let v79 : BitVec 32 := Scalar.extui v78
  let c0_i32_50 : BitVec 32 := 0#32
  let v80 : BitVec 1 := Scalar.cmpi .ne v79 c0_i32_50
  v80

def k0_cond28 (i : grid0.Coords) : BitVec 1 :=
  let arg0 : BitVec 32 := BitVec.ofNat 32 (i 0).val
  let c1_i32_51 : BitVec 32 := 1#32
  let v81 : BitVec 1 := Scalar.cmpi .eq arg0 c1_i32_51
  let v82 : BitVec 32 := Scalar.extui v81
  let c0_i32_52 : BitVec 32 := 0#32
  let v83 : BitVec 1 := Scalar.cmpi .ne v82 c0_i32_52
  v83

def k0_cond29 (i : grid0.Coords) : BitVec 1 :=
  let arg0 : BitVec 32 := BitVec.ofNat 32 (i 0).val
  let c1_i32_53 : BitVec 32 := 1#32
  let v84 : BitVec 1 := Scalar.cmpi .eq arg0 c1_i32_53
  let v85 : BitVec 32 := Scalar.extui v84
  let c0_i32_54 : BitVec 32 := 0#32
  let v86 : BitVec 1 := Scalar.cmpi .ne v85 c0_i32_54
  v86

def k0_cond30 (i : grid0.Coords) : BitVec 1 :=
  let arg0 : BitVec 32 := BitVec.ofNat 32 (i 0).val
  let c1_i32_55 : BitVec 32 := 1#32
  let v87 : BitVec 1 := Scalar.cmpi .eq arg0 c1_i32_55
  let v88 : BitVec 32 := Scalar.extui v87
  let c0_i32_56 : BitVec 32 := 0#32
  let v89 : BitVec 1 := Scalar.cmpi .ne v88 c0_i32_56
  v89

def k0_cond31 (i : grid0.Coords) : BitVec 1 :=
  let arg0 : BitVec 32 := BitVec.ofNat 32 (i 0).val
  let c1_i32_57 : BitVec 32 := 1#32
  let v90 : BitVec 1 := Scalar.cmpi .eq arg0 c1_i32_57
  let v91 : BitVec 32 := Scalar.extui v90
  let c0_i32_58 : BitVec 32 := 0#32
  let v92 : BitVec 1 := Scalar.cmpi .ne v91 c0_i32_58
  v92

def k0_cond32 (i : grid0.Coords) : BitVec 1 :=
  let arg0 : BitVec 32 := BitVec.ofNat 32 (i 0).val
  let c1_i32_59 : BitVec 32 := 1#32
  let v93 : BitVec 1 := Scalar.cmpi .eq arg0 c1_i32_59
  let v94 : BitVec 32 := Scalar.extui v93
  let c0_i32_60 : BitVec 32 := 0#32
  let v95 : BitVec 1 := Scalar.cmpi .ne v94 c0_i32_60
  v95

def k0_cond33 (i : grid0.Coords) : BitVec 1 :=
  let arg0 : BitVec 32 := BitVec.ofNat 32 (i 0).val
  let c2_i32_61 : BitVec 32 := 2#32
  let v96 : BitVec 1 := Scalar.cmpi .eq arg0 c2_i32_61
  let v97 : BitVec 32 := Scalar.extui v96
  let c0_i32_62 : BitVec 32 := 0#32
  let v98 : BitVec 1 := Scalar.cmpi .ne v97 c0_i32_62
  v98

def k0_cond34 (i : grid0.Coords) : BitVec 1 :=
  let arg0 : BitVec 32 := BitVec.ofNat 32 (i 0).val
  let c2_i32_63 : BitVec 32 := 2#32
  let v99 : BitVec 1 := Scalar.cmpi .eq arg0 c2_i32_63
  let v100 : BitVec 32 := Scalar.extui v99
  let c0_i32_64 : BitVec 32 := 0#32
  let v101 : BitVec 1 := Scalar.cmpi .ne v100 c0_i32_64
  v101

def k0_cond35 (i : grid0.Coords) : BitVec 1 :=
  let arg0 : BitVec 32 := BitVec.ofNat 32 (i 0).val
  let c2_i32_65 : BitVec 32 := 2#32
  let v102 : BitVec 1 := Scalar.cmpi .eq arg0 c2_i32_65
  let v103 : BitVec 32 := Scalar.extui v102
  let c0_i32_66 : BitVec 32 := 0#32
  let v104 : BitVec 1 := Scalar.cmpi .ne v103 c0_i32_66
  v104

def k0_cond36 (i : grid0.Coords) : BitVec 1 :=
  let arg0 : BitVec 32 := BitVec.ofNat 32 (i 0).val
  let c2_i32_67 : BitVec 32 := 2#32
  let v105 : BitVec 1 := Scalar.cmpi .eq arg0 c2_i32_67
  let v106 : BitVec 32 := Scalar.extui v105
  let c0_i32_68 : BitVec 32 := 0#32
  let v107 : BitVec 1 := Scalar.cmpi .ne v106 c0_i32_68
  v107

def k0_cond37 (i : grid0.Coords) : BitVec 1 :=
  let arg0 : BitVec 32 := BitVec.ofNat 32 (i 0).val
  let c2_i32_69 : BitVec 32 := 2#32
  let v108 : BitVec 1 := Scalar.cmpi .eq arg0 c2_i32_69
  let v109 : BitVec 32 := Scalar.extui v108
  let c0_i32_70 : BitVec 32 := 0#32
  let v110 : BitVec 1 := Scalar.cmpi .ne v109 c0_i32_70
  v110

def k0_cond38 (i : grid0.Coords) : BitVec 1 :=
  let arg0 : BitVec 32 := BitVec.ofNat 32 (i 0).val
  let c2_i32_71 : BitVec 32 := 2#32
  let v111 : BitVec 1 := Scalar.cmpi .eq arg0 c2_i32_71
  let v112 : BitVec 32 := Scalar.extui v111
  let c0_i32_72 : BitVec 32 := 0#32
  let v113 : BitVec 1 := Scalar.cmpi .ne v112 c0_i32_72
  v113

def k0_cond39 (i : grid0.Coords) : BitVec 1 :=
  let arg0 : BitVec 32 := BitVec.ofNat 32 (i 0).val
  let c2_i32_73 : BitVec 32 := 2#32
  let v114 : BitVec 1 := Scalar.cmpi .eq arg0 c2_i32_73
  let v115 : BitVec 32 := Scalar.extui v114
  let c0_i32_74 : BitVec 32 := 0#32
  let v116 : BitVec 1 := Scalar.cmpi .ne v115 c0_i32_74
  v116

def k0_cond40 (i : grid0.Coords) : BitVec 1 :=
  let arg0 : BitVec 32 := BitVec.ofNat 32 (i 0).val
  let c2_i32_75 : BitVec 32 := 2#32
  let v117 : BitVec 1 := Scalar.cmpi .eq arg0 c2_i32_75
  let v118 : BitVec 32 := Scalar.extui v117
  let c0_i32_76 : BitVec 32 := 0#32
  let v119 : BitVec 1 := Scalar.cmpi .ne v118 c0_i32_76
  v119

def k0_cond41 (i : grid0.Coords) : BitVec 1 :=
  let arg0 : BitVec 32 := BitVec.ofNat 32 (i 0).val
  let c2_i32_77 : BitVec 32 := 2#32
  let v120 : BitVec 1 := Scalar.cmpi .eq arg0 c2_i32_77
  let v121 : BitVec 32 := Scalar.extui v120
  let c0_i32_78 : BitVec 32 := 0#32
  let v122 : BitVec 1 := Scalar.cmpi .ne v121 c0_i32_78
  v122

def k0_cond42 (i : grid0.Coords) : BitVec 1 :=
  let arg0 : BitVec 32 := BitVec.ofNat 32 (i 0).val
  let c2_i32_79 : BitVec 32 := 2#32
  let v123 : BitVec 1 := Scalar.cmpi .eq arg0 c2_i32_79
  let v124 : BitVec 32 := Scalar.extui v123
  let c0_i32_80 : BitVec 32 := 0#32
  let v125 : BitVec 1 := Scalar.cmpi .ne v124 c0_i32_80
  v125

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S152x152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S1x2048x12x64 : Shape := ⟨4, ![1, 2048, 12, 64]⟩
abbrev S_ : Shape := ⟨0, ![]⟩
abbrev S1x12x2048x2048 : Shape := ⟨4, ![1, 12, 2048, 2048]⟩
abbrev S1x5x12x64 : Shape := ⟨4, ![1, 5, 12, 64]⟩
abbrev S1x12x5x5 : Shape := ⟨4, ![1, 12, 5, 5]⟩
abbrev S1 : Shape := ⟨1, ![1]⟩
abbrev S2 : Shape := ⟨1, ![2]⟩
abbrev S1x12x2048 : Shape := ⟨3, ![1, 12, 2048]⟩
abbrev S1x12x2048x1 : Shape := ⟨4, ![1, 12, 2048, 1]⟩
abbrev S1x12x64x2048 : Shape := ⟨4, ![1, 12, 64, 2048]⟩

abbrev nBuf : Space → Nat
  | .hbm => 248
  | .vmem => 0
  | .smem => 0
  | _ => 0

abbrev hbmTy0_0 (i : Nat) : BufTy := match i % 128 with
  | 0 => ⟨S1x2048x12x64, .f32⟩
  | 1 => ⟨S1x2048x12x64, .f32⟩
  | 2 => ⟨S1x2048x12x64, .f32⟩
  | 3 => ⟨S_, .f32⟩
  | 4 => ⟨S1x12x2048x2048, .f32⟩
  | 5 => ⟨S1x5x12x64, .f32⟩
  | 6 => ⟨S1x5x12x64, .f32⟩
  | 7 => ⟨S1x12x5x5, .f32⟩
  | 8 => ⟨S_, .i32⟩
  | 9 => ⟨S1, .i32⟩
  | 10 => ⟨S_, .i32⟩
  | 11 => ⟨S1, .i32⟩
  | 12 => ⟨S2, .i32⟩
  | 13 => ⟨S1x12x2048x2048, .f32⟩
  | 14 => ⟨S1x5x12x64, .f32⟩
  | 15 => ⟨S1x5x12x64, .f32⟩
  | 16 => ⟨S1x12x5x5, .f32⟩
  | 17 => ⟨S_, .i32⟩
  | 18 => ⟨S1, .i32⟩
  | 19 => ⟨S_, .i32⟩
  | 20 => ⟨S1, .i32⟩
  | 21 => ⟨S2, .i32⟩
  | 22 => ⟨S1x12x2048x2048, .f32⟩
  | 23 => ⟨S1x5x12x64, .f32⟩
  | 24 => ⟨S1x5x12x64, .f32⟩
  | 25 => ⟨S1x12x5x5, .f32⟩
  | 26 => ⟨S_, .i32⟩
  | 27 => ⟨S1, .i32⟩
  | 28 => ⟨S_, .i32⟩
  | 29 => ⟨S1, .i32⟩
  | 30 => ⟨S2, .i32⟩
  | 31 => ⟨S1x12x2048x2048, .f32⟩
  | 32 => ⟨S1x5x12x64, .f32⟩
  | 33 => ⟨S1x5x12x64, .f32⟩
  | 34 => ⟨S1x12x5x5, .f32⟩
  | 35 => ⟨S_, .i32⟩
  | 36 => ⟨S1, .i32⟩
  | 37 => ⟨S_, .i32⟩
  | 38 => ⟨S1, .i32⟩
  | 39 => ⟨S2, .i32⟩
  | 40 => ⟨S1x12x2048x2048, .f32⟩
  | 41 => ⟨S1x5x12x64, .f32⟩
  | 42 => ⟨S1x5x12x64, .f32⟩
  | 43 => ⟨S1x12x5x5, .f32⟩
  | 44 => ⟨S_, .i32⟩
  | 45 => ⟨S1, .i32⟩
  | 46 => ⟨S_, .i32⟩
  | 47 => ⟨S1, .i32⟩
  | 48 => ⟨S2, .i32⟩
  | 49 => ⟨S1x12x2048x2048, .f32⟩
  | 50 => ⟨S1x5x12x64, .f32⟩
  | 51 => ⟨S1x5x12x64, .f32⟩
  | 52 => ⟨S1x12x5x5, .f32⟩
  | 53 => ⟨S_, .i32⟩
  | 54 => ⟨S1, .i32⟩
  | 55 => ⟨S_, .i32⟩
  | 56 => ⟨S1, .i32⟩
  | 57 => ⟨S2, .i32⟩
  | 58 => ⟨S1x12x2048x2048, .f32⟩
  | 59 => ⟨S1x5x12x64, .f32⟩
  | 60 => ⟨S1x5x12x64, .f32⟩
  | 61 => ⟨S1x12x5x5, .f32⟩
  | 62 => ⟨S_, .i32⟩
  | 63 => ⟨S1, .i32⟩
  | 64 => ⟨S_, .i32⟩
  | 65 => ⟨S1, .i32⟩
  | 66 => ⟨S2, .i32⟩
  | 67 => ⟨S1x12x2048x2048, .f32⟩
  | 68 => ⟨S1x5x12x64, .f32⟩
  | 69 => ⟨S1x5x12x64, .f32⟩
  | 70 => ⟨S1x12x5x5, .f32⟩
  | 71 => ⟨S_, .i32⟩
  | 72 => ⟨S1, .i32⟩
  | 73 => ⟨S_, .i32⟩
  | 74 => ⟨S1, .i32⟩
  | 75 => ⟨S2, .i32⟩
  | 76 => ⟨S1x12x2048x2048, .f32⟩
  | 77 => ⟨S1x5x12x64, .f32⟩
  | 78 => ⟨S1x5x12x64, .f32⟩
  | 79 => ⟨S1x12x5x5, .f32⟩
  | 80 => ⟨S_, .i32⟩
  | 81 => ⟨S1, .i32⟩
  | 82 => ⟨S_, .i32⟩
  | 83 => ⟨S1, .i32⟩
  | 84 => ⟨S2, .i32⟩
  | 85 => ⟨S1x12x2048x2048, .f32⟩
  | 86 => ⟨S1x5x12x64, .f32⟩
  | 87 => ⟨S1x5x12x64, .f32⟩
  | 88 => ⟨S1x12x5x5, .f32⟩
  | 89 => ⟨S_, .i32⟩
  | 90 => ⟨S1, .i32⟩
  | 91 => ⟨S_, .i32⟩
  | 92 => ⟨S1, .i32⟩
  | 93 => ⟨S2, .i32⟩
  | 94 => ⟨S1x12x2048x2048, .f32⟩
  | 95 => ⟨S1x5x12x64, .f32⟩
  | 96 => ⟨S1x5x12x64, .f32⟩
  | 97 => ⟨S1x12x5x5, .f32⟩
  | 98 => ⟨S_, .i32⟩
  | 99 => ⟨S1, .i32⟩
  | 100 => ⟨S_, .i32⟩
  | 101 => ⟨S1, .i32⟩
  | 102 => ⟨S2, .i32⟩
  | 103 => ⟨S1x12x2048x2048, .f32⟩
  | 104 => ⟨S1x5x12x64, .f32⟩
  | 105 => ⟨S1x5x12x64, .f32⟩
  | 106 => ⟨S1x12x5x5, .f32⟩
  | 107 => ⟨S_, .i32⟩
  | 108 => ⟨S1, .i32⟩
  | 109 => ⟨S_, .i32⟩
  | 110 => ⟨S1, .i32⟩
  | 111 => ⟨S2, .i32⟩
  | 112 => ⟨S1x12x2048x2048, .f32⟩
  | 113 => ⟨S1x5x12x64, .f32⟩
  | 114 => ⟨S1x5x12x64, .f32⟩
  | 115 => ⟨S1x12x5x5, .f32⟩
  | 116 => ⟨S_, .i32⟩
  | 117 => ⟨S1, .i32⟩
  | 118 => ⟨S_, .i32⟩
  | 119 => ⟨S1, .i32⟩
  | 120 => ⟨S2, .i32⟩
  | 121 => ⟨S1x12x2048x2048, .f32⟩
  | 122 => ⟨S1x5x12x64, .f32⟩
  | 123 => ⟨S1x5x12x64, .f32⟩
  | 124 => ⟨S1x12x5x5, .f32⟩
  | 125 => ⟨S_, .i32⟩
  | 126 => ⟨S1, .i32⟩
  | 127 => ⟨S_, .i32⟩
  | _ => ⟨S1x2048x12x64, .f32⟩

abbrev hbmTy0_1 (i : Nat) : BufTy := match i % 128 with
  | 0 => ⟨S1, .i32⟩
  | 1 => ⟨S2, .i32⟩
  | 2 => ⟨S1x12x2048x2048, .f32⟩
  | 3 => ⟨S1x5x12x64, .f32⟩
  | 4 => ⟨S1x5x12x64, .f32⟩
  | 5 => ⟨S1x12x5x5, .f32⟩
  | 6 => ⟨S_, .i32⟩
  | 7 => ⟨S1, .i32⟩
  | 8 => ⟨S_, .i32⟩
  | 9 => ⟨S1, .i32⟩
  | 10 => ⟨S2, .i32⟩
  | 11 => ⟨S1x12x2048x2048, .f32⟩
  | 12 => ⟨S1x5x12x64, .f32⟩
  | 13 => ⟨S1x5x12x64, .f32⟩
  | 14 => ⟨S1x12x5x5, .f32⟩
  | 15 => ⟨S_, .i32⟩
  | 16 => ⟨S1, .i32⟩
  | 17 => ⟨S_, .i32⟩
  | 18 => ⟨S1, .i32⟩
  | 19 => ⟨S2, .i32⟩
  | 20 => ⟨S1x12x2048x2048, .f32⟩
  | 21 => ⟨S1x5x12x64, .f32⟩
  | 22 => ⟨S1x5x12x64, .f32⟩
  | 23 => ⟨S1x12x5x5, .f32⟩
  | 24 => ⟨S_, .i32⟩
  | 25 => ⟨S1, .i32⟩
  | 26 => ⟨S_, .i32⟩
  | 27 => ⟨S1, .i32⟩
  | 28 => ⟨S2, .i32⟩
  | 29 => ⟨S1x12x2048x2048, .f32⟩
  | 30 => ⟨S1x5x12x64, .f32⟩
  | 31 => ⟨S1x5x12x64, .f32⟩
  | 32 => ⟨S1x12x5x5, .f32⟩
  | 33 => ⟨S_, .i32⟩
  | 34 => ⟨S1, .i32⟩
  | 35 => ⟨S_, .i32⟩
  | 36 => ⟨S1, .i32⟩
  | 37 => ⟨S2, .i32⟩
  | 38 => ⟨S1x12x2048x2048, .f32⟩
  | 39 => ⟨S1x5x12x64, .f32⟩
  | 40 => ⟨S1x5x12x64, .f32⟩
  | 41 => ⟨S1x12x5x5, .f32⟩
  | 42 => ⟨S_, .i32⟩
  | 43 => ⟨S1, .i32⟩
  | 44 => ⟨S_, .i32⟩
  | 45 => ⟨S1, .i32⟩
  | 46 => ⟨S2, .i32⟩
  | 47 => ⟨S1x12x2048x2048, .f32⟩
  | 48 => ⟨S1x5x12x64, .f32⟩
  | 49 => ⟨S1x5x12x64, .f32⟩
  | 50 => ⟨S1x12x5x5, .f32⟩
  | 51 => ⟨S_, .i32⟩
  | 52 => ⟨S1, .i32⟩
  | 53 => ⟨S_, .i32⟩
  | 54 => ⟨S1, .i32⟩
  | 55 => ⟨S2, .i32⟩
  | 56 => ⟨S1x12x2048x2048, .f32⟩
  | 57 => ⟨S1x12x2048x2048, .f32⟩
  | 58 => ⟨S_, .f32⟩
  | 59 => ⟨S1x12x2048x2048, .i1⟩
  | 60 => ⟨S_, .i1⟩
  | 61 => ⟨S1x12x2048, .i1⟩
  | 62 => ⟨S1x12x2048x1, .i1⟩
  | 63 => ⟨S_, .f32⟩
  | 64 => ⟨S_, .f32⟩
  | 65 => ⟨S1x12x2048x2048, .i1⟩
  | 66 => ⟨S1x12x2048x2048, .f32⟩
  | 67 => ⟨S1x12x2048x2048, .f32⟩
  | 68 => ⟨S1x12x2048x2048, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .i32⟩
  | 89 => ⟨S_, .i32⟩
  | 90 => ⟨S1, .i32⟩
  | 91 => ⟨S1x12x2048x1, .f32⟩
  | 92 => ⟨S1, .i32⟩
  | 93 => ⟨S1x12x2048x1, .f32⟩
  | 94 => ⟨S1x12x2048x1, .f32⟩
  | 95 => ⟨S1x12x2048x1, .f32⟩
  | 96 => ⟨S1x12x2048x1, .f32⟩
  | 97 => ⟨S1x12x2048x1, .f32⟩
  | 98 => ⟨S1x12x2048x1, .f32⟩
  | 99 => ⟨S1x12x2048x2048, .f32⟩
  | 100 => ⟨S1x12x2048x2048, .i1⟩
  | 101 => ⟨S_, .f32⟩
  | 102 => ⟨S1x12x2048x2048, .f32⟩
  | 103 => ⟨S1x12x2048x2048, .f32⟩
  | 104 => ⟨S_, .f32⟩
  | 105 => ⟨S1x12x2048, .f32⟩
  | 106 => ⟨S_, .f32⟩
  | 107 => ⟨S1x12x2048, .f32⟩
  | 108 => ⟨S1x12x2048, .f32⟩
  | 109 => ⟨S1x12x2048x1, .f32⟩
  | 110 => ⟨S1x12x2048x2048, .f32⟩
  | 111 => ⟨S1x12x2048x2048, .f32⟩
  | 112 => ⟨S1x12x2048x2048, .f32⟩
  | 113 => ⟨S_, .f32⟩
  | 114 => ⟨S1x12x2048, .f32⟩
  | 115 => ⟨S1x12x2048x1, .f32⟩
  | 116 => ⟨S1x12x2048x2048, .f32⟩
  | 117 => ⟨S1x12x2048x2048, .f32⟩
  | 118 => ⟨S1x12x64x2048, .f32⟩
  | 119 => ⟨S1x2048x12x64, .f32⟩
  | _ => ⟨S1x2048x12x64, .f32⟩

abbrev hbmTy (i : Nat) : BufTy := match i / 128 with
  | 0 => hbmTy0_0 i
  | 1 => hbmTy0_1 i
  | _ => ⟨S1x2048x12x64, .f32⟩

abbrev bufTy : (tb : Table) → Fin (tcTables nBuf tb) → BufTy
  | .hbm, ⟨i, _⟩ => hbmTy i
  | _, _ => ⟨S1x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_c_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_11 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_13 : Ref sig .tc := ⟨.hbm, 71, rfl⟩
abbrev main_v53 : Ref sig .tc := ⟨.hbm, 72, rfl⟩
abbrev main_c_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_15 : Ref sig .tc := ⟨.hbm, 80, rfl⟩
abbrev main_v60 : Ref sig .tc := ⟨.hbm, 81, rfl⟩
abbrev main_c_16 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_17 : Ref sig .tc := ⟨.hbm, 89, rfl⟩
abbrev main_v67 : Ref sig .tc := ⟨.hbm, 90, rfl⟩
abbrev main_c_18 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_19 : Ref sig .tc := ⟨.hbm, 98, rfl⟩
abbrev main_v74 : Ref sig .tc := ⟨.hbm, 99, rfl⟩
abbrev main_c_20 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_21 : Ref sig .tc := ⟨.hbm, 107, rfl⟩
abbrev main_v81 : Ref sig .tc := ⟨.hbm, 108, rfl⟩
abbrev main_c_22 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_23 : Ref sig .tc := ⟨.hbm, 116, rfl⟩
abbrev main_v88 : Ref sig .tc := ⟨.hbm, 117, rfl⟩
abbrev main_c_24 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_25 : Ref sig .tc := ⟨.hbm, 125, rfl⟩
abbrev main_v95 : Ref sig .tc := ⟨.hbm, 126, rfl⟩
abbrev main_c_26 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_27 : Ref sig .tc := ⟨.hbm, 134, rfl⟩
abbrev main_v102 : Ref sig .tc := ⟨.hbm, 135, rfl⟩
abbrev main_c_28 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_c_29 : Ref sig .tc := ⟨.hbm, 143, rfl⟩
abbrev main_v109 : Ref sig .tc := ⟨.hbm, 144, rfl⟩
abbrev main_c_30 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_c_31 : Ref sig .tc := ⟨.hbm, 152, rfl⟩
abbrev main_v116 : Ref sig .tc := ⟨.hbm, 153, rfl⟩
abbrev main_c_32 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_33 : Ref sig .tc := ⟨.hbm, 161, rfl⟩
abbrev main_v123 : Ref sig .tc := ⟨.hbm, 162, rfl⟩
abbrev main_c_34 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_35 : Ref sig .tc := ⟨.hbm, 170, rfl⟩
abbrev main_v130 : Ref sig .tc := ⟨.hbm, 171, rfl⟩
abbrev main_c_36 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_c_37 : Ref sig .tc := ⟨.hbm, 179, rfl⟩
abbrev main_v137 : Ref sig .tc := ⟨.hbm, 180, rfl⟩
abbrev main_c_38 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_39 : Ref sig .tc := ⟨.hbm, 186, rfl⟩
abbrev main_call0_v0 : Ref sig .tc := ⟨.hbm, 187, rfl⟩
abbrev main_call0_c : Ref sig .tc := ⟨.hbm, 188, rfl⟩
abbrev main_call0_v1 : Ref sig .tc := ⟨.hbm, 189, rfl⟩
abbrev main_call0_v2 : Ref sig .tc := ⟨.hbm, 190, rfl⟩
abbrev main_call0_cst : Ref sig .tc := ⟨.hbm, 191, rfl⟩
abbrev main_call0_call0_v0 : Ref sig .tc := ⟨.hbm, 192, rfl⟩
abbrev main_call0_call0_v1 : Ref sig .tc := ⟨.hbm, 193, rfl⟩
abbrev main_call0_call0_v2 : Ref sig .tc := ⟨.hbm, 194, rfl⟩
abbrev main_call0_v3 : Ref sig .tc := ⟨.hbm, 195, rfl⟩
abbrev main_call0_v4 : Ref sig .tc := ⟨.hbm, 196, rfl⟩
abbrev main_call0_cst_0 : Ref sig .tc := ⟨.hbm, 197, rfl⟩
abbrev main_call0_cst_1 : Ref sig .tc := ⟨.hbm, 198, rfl⟩
abbrev main_call0_v5 : Ref sig .tc := ⟨.hbm, 199, rfl⟩
abbrev main_call0_v6 : Ref sig .tc := ⟨.hbm, 200, rfl⟩
abbrev main_call0_v7 : Ref sig .tc := ⟨.hbm, 201, rfl⟩
abbrev main_call0_v8 : Ref sig .tc := ⟨.hbm, 202, rfl⟩
abbrev main_call0_v9 : Ref sig .tc := ⟨.hbm, 203, rfl⟩
abbrev main_call0_cst_2 : Ref sig .tc := ⟨.hbm, 204, rfl⟩
abbrev main_call0_v10 : Ref sig .tc := ⟨.hbm, 205, rfl⟩
abbrev main_call0_cst_3 : Ref sig .tc := ⟨.hbm, 206, rfl⟩
abbrev main_call0_cst_4 : Ref sig .tc := ⟨.hbm, 207, rfl⟩
abbrev main_call0_v11 : Ref sig .tc := ⟨.hbm, 208, rfl⟩
abbrev main_call0_cst_5 : Ref sig .tc := ⟨.hbm, 209, rfl⟩
abbrev main_call0_v12 : Ref sig .tc := ⟨.hbm, 210, rfl⟩
abbrev main_call0_cst_6 : Ref sig .tc := ⟨.hbm, 211, rfl⟩
abbrev main_call0_cst_7 : Ref sig .tc := ⟨.hbm, 212, rfl⟩
abbrev main_call0_v13 : Ref sig .tc := ⟨.hbm, 213, rfl⟩
abbrev main_call0_cst_8 : Ref sig .tc := ⟨.hbm, 214, rfl⟩
abbrev main_call0_v14 : Ref sig .tc := ⟨.hbm, 215, rfl⟩
abbrev main_call0_v15 : Ref sig .tc := ⟨.hbm, 216, rfl⟩
abbrev main_call0_v16 : Ref sig .tc := ⟨.hbm, 217, rfl⟩
abbrev main_call0_v17 : Ref sig .tc := ⟨.hbm, 218, rfl⟩
abbrev main_call0_v18 : Ref sig .tc := ⟨.hbm, 219, rfl⟩
abbrev main_call0_v19 : Ref sig .tc := ⟨.hbm, 220, rfl⟩
abbrev main_call0_v20 : Ref sig .tc := ⟨.hbm, 221, rfl⟩
abbrev main_call0_v21 : Ref sig .tc := ⟨.hbm, 222, rfl⟩
abbrev main_call0_v22 : Ref sig .tc := ⟨.hbm, 223, rfl⟩
abbrev main_call0_v23 : Ref sig .tc := ⟨.hbm, 224, rfl⟩
abbrev main_call0_v24 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_40 : Ref sig .tc := ⟨.hbm, 229, rfl⟩
abbrev main_call1_v0 : Ref sig .tc := ⟨.hbm, 230, rfl⟩
abbrev main_v145 : Ref sig .tc := ⟨.hbm, 231, rfl⟩
abbrev main_cst_41 : Ref sig .tc := ⟨.hbm, 232, rfl⟩
abbrev main_v146 : Ref sig .tc := ⟨.hbm, 233, rfl⟩
abbrev main_cst_42 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_cst_43 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩

abbrev nD : Nat := 1
abbrev τ : Topo := Topo.v7x

variable {F : FTy → Type} [FloatOps F]
-- ==== Proof.KernelIdealOps.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipeline library's beside the transfers' counters. -/
local notation "𝕄" => MT nD τ sig Unit (Elt F) ℕ (Pipeline.UD sig nD τ) ℕ

/-- The scratch buffers: the running column sum, the copied query rows, the copied key rows, the value rows of the
    windows, the result rows of the windows. -/
abbrev scAcc : Memref sig .tc .vmem S1x768 .f32 := Memref.whole cc0_scratch0
abbrev scQ : Memref sig .tc .vmem S304x768 .f32 := Memref.whole cc0_scratch1
abbrev scK : Memref sig .tc .vmem S304x768 .f32 := Memref.whole cc0_scratch2
abbrev scV : Memref sig .tc .vmem S152x768 .f32 := Memref.whole cc0_scratch3
abbrev scR : Memref sig .tc .vmem S152x768 .f32 := Memref.whole cc0_scratch4
/-- The queries and the keys, left in HBM. -/
abbrev hbQ : Memref sig .tc .hbm S2048x768 .f32 := Memref.whole main_v0
abbrev hbK : Memref sig .tc .hbm S2048x768 .f32 := Memref.whole main_v1

/-- The contents of a memref's buffer. -/
abbrev BufOf (c : Dev nD) {sp : Space} {S : Shape} {e : EltTy} (M : Memref sig .tc sp S e) : Type := Buf (Elt F) (M.view.loc (c : Thread nD τ))

/-- A memref's elements held whole. -/
abbrev heldPt (c : Dev nD) {sp : Space} {S : Shape} {e : EltTy} (M : Memref sig .tc sp S e) (f : BufOf (F := F) c M) : sProp 𝕄 :=
  M.view.loc (c : Thread nD τ) ↦[M.view.set]{fullShare} f

/-- Sixteen rows of a large array from row `a` on; sixteen rows of a scratch buffer. -/
abbrev srcW (M : Memref sig .tc .hbm S2048x768 .f32) (r : Fin 2 → ℕ) (h : ∀ a, r a + S16x768.size a ≤ S2048x768.size a) :
    Memref sig .tc .hbm S16x768 .f32 := M.slice (Rect.unit (s := S2048x768) r S16x768.size h) (fun _ => rfl)
abbrev dstW (M : Memref sig .tc .vmem S304x768 .f32) (r : Fin 2 → ℕ) (h : ∀ a, r a + S16x768.size a ≤ S304x768.size a) :
    Memref sig .tc .vmem S16x768 .f32 := M.slice (Rect.unit (s := S304x768) r S16x768.size h) (fun _ => rfl)

/-- The window of the source held at a share, the window of the destination held whole. -/
abbrev srcPt (c : Dev nD) (M : Memref sig .tc .hbm S2048x768 .f32) (r : Fin 2 → ℕ) (h : ∀ a, r a + S16x768.size a ≤ S2048x768.size a)
    (q : PosShare TreeShare) (f : BufOf (F := F) c M) : sProp 𝕄 := (srcW M r h).view.loc (c : Thread nD τ) ↦[(srcW M r h).view.set]{q} f
abbrev dstPt (c : Dev nD) (M : Memref sig .tc .vmem S304x768 .f32) (r : Fin 2 → ℕ) (h : ∀ a, r a + S16x768.size a ≤ S304x768.size a)
    (f : BufOf (F := F) c M) : sProp 𝕄 := (dstW M r h).view.loc (c : Thread nD τ) ↦[(dstW M r h).view.set]{fullShare} f
/-- What a window holds once its copy has landed. -/
abbrev landed (c : Dev nD) (M : Memref sig .tc .hbm S2048x768 .f32) (r : Fin 2 → ℕ) (h : ∀ a, r a + S16x768.size a ≤ S2048x768.size a)
    (D : Memref sig .tc .vmem S304x768 .f32) (r' : Fin 2 → ℕ) (h' : ∀ a, r' a + S16x768.size a ≤ S304x768.size a)
    (fs : BufOf (F := F) c M) (fd : BufOf (F := F) c D) : BufOf (F := F) c D :=
  (dstW D r' h').view.writes (Elt F) fd [⟨Rect.whole S16x768, ReadAs.same.apply ((srcW M r h).view.read (Elt F) fs)⟩]
/-- The copy in flight. -/
abbrev flying (c : Dev nD) (sm : DmaSem sig) (M : Memref sig .tc .hbm S2048x768 .f32) (r : Fin 2 → ℕ) (h : ∀ a, r a + S16x768.size a ≤ S2048x768.size a)
    (D : Memref sig .tc .vmem S304x768 .f32) (r' : Fin 2 → ℕ) (h' : ∀ a, r' a + S16x768.size a ≤ S304x768.size a)
    (q : PosShare TreeShare) (fs : BufOf (F := F) c M) (fd : BufOf (F := F) c D) : sProp 𝕄 :=
  Transfers.Flight (countersEmb (U := Pipeline.UD sig nD τ)) (c : Thread nD τ) (.dma sm) () 1536
    iprop(dstPt c D r' h' (landed c M r h D r' h' fs fd) ∗ srcPt c M r h q fs)

/-- The pieces the first chunk's windows leave in the value scratch, newest first. -/
abbrev vPieces (p0 p1 p2 p3 p4 p5 p6 p7 p8 : Vec F S8x768 .f32) : List (View.Piece (Elt F) S152x768 .f32) :=
  [⟨Rect.unit (s := S152x768) ![64, 0] S8x768.size inb_S152x768_S8x768_64_0, p8⟩, ⟨Rect.unit (s := S152x768) ![56, 0] S8x768.size inb_S152x768_S8x768_56_0, p7⟩, ⟨Rect.unit (s := S152x768) ![48, 0] S8x768.size inb_S152x768_S8x768_48_0, p6⟩, ⟨Rect.unit (s := S152x768) ![40, 0] S8x768.size inb_S152x768_S8x768_40_0, p5⟩, ⟨Rect.unit (s := S152x768) ![32, 0] S8x768.size inb_S152x768_S8x768_32_0, p4⟩, ⟨Rect.unit (s := S152x768) ![24, 0] S8x768.size inb_S152x768_S8x768_24_0, p3⟩, ⟨Rect.unit (s := S152x768) ![16, 0] S8x768.size inb_S152x768_S8x768_16_0, p2⟩, ⟨Rect.unit (s := S152x768) ![8, 0] S8x768.size inb_S152x768_S8x768_8_0, p1⟩, ⟨Rect.unit (s := S152x768) ![0, 0] S8x768.size inb_S152x768_S8x768_0_0, p0⟩]
/-- Window `ci` of a block of the values, as the body loads it. -/
abbrev vLoad0 {c : Dev nD} (arg1 : Memref sig .tc .vmem S1024x768 .f32) (f1 : BufOf (F := F) c arg1) : Vec F S8x768 .f32 :=
  View.readAt (Elt F) arg1.view (Rect.unit (s := S1024x768) ![82, 0] S8x768.size inb_S1024x768_S8x768_82_0).toLoadRect f1
abbrev vLoad1 {c : Dev nD} (arg1 : Memref sig .tc .vmem S1024x768 .f32) (f1 : BufOf (F := F) c arg1) : Vec F S8x768 .f32 :=
  View.readAt (Elt F) arg1.view (Rect.unit (s := S1024x768) ![530, 0] S8x768.size inb_S1024x768_S8x768_530_0).toLoadRect f1
abbrev vLoad2 {c : Dev nD} (arg1 : Memref sig .tc .vmem S1024x768 .f32) (f1 : BufOf (F := F) c arg1) : Vec F S8x768 .f32 :=
  View.readAt (Elt F) arg1.view (Rect.unit (s := S1024x768) ![621, 0] S8x768.size inb_S1024x768_S8x768_621_0).toLoadRect f1
abbrev vLoad3 {c : Dev nD} (arg1 : Memref sig .tc .vmem S1024x768 .f32) (f1 : BufOf (F := F) c arg1) : Vec F S8x768 .f32 :=
  View.readAt (Elt F) arg1.view (Rect.unit (s := S1024x768) ![733, 0] S8x768.size inb_S1024x768_S8x768_733_0).toLoadRect f1
abbrev vLoad4 {c : Dev nD} (arg1 : Memref sig .tc .vmem S1024x768 .f32) (f1 : BufOf (F := F) c arg1) : Vec F S8x768 .f32 :=
  View.readAt (Elt F) arg1.view (Rect.unit (s := S1024x768) ![788, 0] S8x768.size inb_S1024x768_S8x768_788_0).toLoadRect f1
abbrev vLoad5 {c : Dev nD} (arg1 : Memref sig .tc .vmem S1024x768 .f32) (f1 : BufOf (F := F) c arg1) : Vec F S8x768 .f32 :=
  View.readAt (Elt F) arg1.view (Rect.unit (s := S1024x768) ![829, 0] S8x768.size inb_S1024x768_S8x768_829_0).toLoadRect f1
abbrev vLoad6 {c : Dev nD} (arg1 : Memref sig .tc .vmem S1024x768 .f32) (f1 : BufOf (F := F) c arg1) : Vec F S8x768 .f32 :=
  View.readAt (Elt F) arg1.view (Rect.unit (s := S1024x768) ![861, 0] S8x768.size inb_S1024x768_S8x768_861_0).toLoadRect f1
abbrev vLoad7 {c : Dev nD} (arg1 : Memref sig .tc .vmem S1024x768 .f32) (f1 : BufOf (F := F) c arg1) : Vec F S8x768 .f32 :=
  View.readAt (Elt F) arg1.view (Rect.unit (s := S1024x768) ![976, 0] S8x768.size inb_S1024x768_S8x768_976_0).toLoadRect f1
abbrev vLoad8 {c : Dev nD} (arg1 : Memref sig .tc .vmem S1024x768 .f32) (f1 : BufOf (F := F) c arg1) : Vec F S8x768 .f32 :=
  View.readAt (Elt F) arg1.view (Rect.unit (s := S1024x768) ![995, 0] S8x768.size inb_S1024x768_S8x768_995_0).toLoadRect f1
abbrev vLoad9 {c : Dev nD} (arg1 : Memref sig .tc .vmem S1024x768 .f32) (f1 : BufOf (F := F) c arg1) : Vec F S8x768 .f32 :=
  View.readAt (Elt F) arg1.view (Rect.unit (s := S1024x768) ![23, 0] S8x768.size inb_S1024x768_S8x768_23_0).toLoadRect f1
abbrev vLoad10 {c : Dev nD} (arg1 : Memref sig .tc .vmem S1024x768 .f32) (f1 : BufOf (F := F) c arg1) : Vec F S8x768 .f32 :=
  View.readAt (Elt F) arg1.view (Rect.unit (s := S1024x768) ![170, 0] S8x768.size inb_S1024x768_S8x768_170_0).toLoadRect f1
abbrev vLoad11 {c : Dev nD} (arg1 : Memref sig .tc .vmem S1024x768 .f32) (f1 : BufOf (F := F) c arg1) : Vec F S8x768 .f32 :=
  View.readAt (Elt F) arg1.view (Rect.unit (s := S1024x768) ![528, 0] S8x768.size inb_S1024x768_S8x768_528_0).toLoadRect f1
abbrev vLoad12 {c : Dev nD} (arg1 : Memref sig .tc .vmem S1024x768 .f32) (f1 : BufOf (F := F) c arg1) : Vec F S8x768 .f32 :=
  View.readAt (Elt F) arg1.view (Rect.unit (s := S1024x768) ![581, 0] S8x768.size inb_S1024x768_S8x768_581_0).toLoadRect f1
abbrev vLoad13 {c : Dev nD} (arg1 : Memref sig .tc .vmem S1024x768 .f32) (f1 : BufOf (F := F) c arg1) : Vec F S8x768 .f32 :=
  View.readAt (Elt F) arg1.view (Rect.unit (s := S1024x768) ![675, 0] S8x768.size inb_S1024x768_S8x768_675_0).toLoadRect f1
abbrev vLoad14 {c : Dev nD} (arg1 : Memref sig .tc .vmem S1024x768 .f32) (f1 : BufOf (F := F) c arg1) : Vec F S8x768 .f32 :=
  View.readAt (Elt F) arg1.view (Rect.unit (s := S1024x768) ![705, 0] S8x768.size inb_S1024x768_S8x768_705_0).toLoadRect f1
abbrev vLoad15 {c : Dev nD} (arg1 : Memref sig .tc .vmem S1024x768 .f32) (f1 : BufOf (F := F) c arg1) : Vec F S8x768 .f32 :=
  View.readAt (Elt F) arg1.view (Rect.unit (s := S1024x768) ![799, 0] S8x768.size inb_S1024x768_S8x768_799_0).toLoadRect f1
abbrev vLoad16 {c : Dev nD} (arg1 : Memref sig .tc .vmem S1024x768 .f32) (f1 : BufOf (F := F) c arg1) : Vec F S8x768 .f32 :=
  View.readAt (Elt F) arg1.view (Rect.unit (s := S1024x768) ![856, 0] S8x768.size inb_S1024x768_S8x768_856_0).toLoadRect f1
abbrev vLoad17 {c : Dev nD} (arg1 : Memref sig .tc .vmem S1024x768 .f32) (f1 : BufOf (F := F) c arg1) : Vec F S8x768 .f32 :=
  View.readAt (Elt F) arg1.view (Rect.unit (s := S1024x768) ![953, 0] S8x768.size inb_S1024x768_S8x768_953_0).toLoadRect f1
abbrev vLoad18 {c : Dev nD} (arg1 : Memref sig .tc .vmem S1024x768 .f32) (f1 : BufOf (F := F) c arg1) : Vec F S8x768 .f32 :=
  View.readAt (Elt F) arg1.view (Rect.unit (s := S1024x768) ![958, 0] S8x768.size inb_S1024x768_S8x768_958_0).toLoadRect f1

end Cert.KernelIdeal.Hand

end
-- ==== Proof.KernelIdealRun0.lean ====
module

public import proofs.«01_k».proof.Proof.KernelIdealOps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipeline library's beside the transfers' counters. -/
local notation "𝕄" => MT nD τ sig Unit (Elt F) ℕ (Pipeline.UD sig nD τ) ℕ

set_option maxHeartbeats 4000000 in
/-- The body at the first point: the running sum started, the copies of the query and key rows in flight, the first
    chunk's value rows copied. The list is what the running sum's buffer is written with. -/
def run0 (c : Dev nD) (arg1 : Memref sig .tc .vmem S1024x768 .f32) (harg1 : arg1.IsWhole) (arg4 : Memref sig .tc .vmem S152x152 .f32) (harg4 : arg4.IsWhole) (arg5 : Memref sig .tc .vmem S1024x768 .f32) (harg5 : arg5.IsWhole) (f1 : BufOf (F := F) c arg1) :
   { L : List (View.Piece (Elt F) S1x768 .f32) // ∀ (fq : BufOf (F := F) c hbQ) (fk : BufOf (F := F) c hbK) (gq : BufOf (F := F) c scQ) (gk : BufOf (F := F) c scK) (fa : BufOf (F := F) c scAcc) (fv : BufOf (F := F) c scV) (W : Waits sig Unit) (K : PUnit → sProp 𝕄),
   iprop(heldPt c arg1 f1 ∗ heldPt c scAcc fa ∗ heldPt c scV fv ∗ owes (c : Thread nD τ) 0 W
    ∗ srcPt c hbQ ![80, 0] inb_S2048x768_S16x768_80_0 (Transfers.shareTokN fullShare 0) fq ∗ dstPt c scQ ![0, 0] inb_S304x768_S16x768_0_0 gq ∗ semVal ((c : Thread nD τ), SemLoc.dma 5) 0
 ∗ srcPt c hbK ![80, 0] inb_S2048x768_S16x768_80_0 (Transfers.shareTokN fullShare 0) fk ∗ dstPt c scK ![0, 0] inb_S304x768_S16x768_0_0 gk ∗ semVal ((c : Thread nD τ), SemLoc.dma 6) 0
 ∗ srcPt c hbQ ![528, 0] inb_S2048x768_S16x768_528_0 (Transfers.shareTokN fullShare 1) fq ∗ dstPt c scQ ![16, 0] inb_S304x768_S16x768_16_0 gq ∗ semVal ((c : Thread nD τ), SemLoc.dma 7) 0
 ∗ srcPt c hbK ![528, 0] inb_S2048x768_S16x768_528_0 (Transfers.shareTokN fullShare 1) fk ∗ dstPt c scK ![16, 0] inb_S304x768_S16x768_16_0 gk ∗ semVal ((c : Thread nD τ), SemLoc.dma 8) 0
 ∗ srcPt c hbQ ![616, 0] inb_S2048x768_S16x768_616_0 (Transfers.shareTokN fullShare 2) fq ∗ dstPt c scQ ![32, 0] inb_S304x768_S16x768_32_0 gq ∗ semVal ((c : Thread nD τ), SemLoc.dma 9) 0
 ∗ srcPt c hbK ![616, 0] inb_S2048x768_S16x768_616_0 (Transfers.shareTokN fullShare 2) fk ∗ dstPt c scK ![32, 0] inb_S304x768_S16x768_32_0 gk ∗ semVal ((c : Thread nD τ), SemLoc.dma 10) 0
 ∗ srcPt c hbQ ![728, 0] inb_S2048x768_S16x768_728_0 (Transfers.shareTokN fullShare 3) fq ∗ dstPt c scQ ![48, 0] inb_S304x768_S16x768_48_0 gq ∗ semVal ((c : Thread nD τ), SemLoc.dma 11) 0
 ∗ srcPt c hbK ![728, 0] inb_S2048x768_S16x768_728_0 (Transfers.shareTokN fullShare 3) fk ∗ dstPt c scK ![48, 0] inb_S304x768_S16x768_48_0 gk ∗ semVal ((c : Thread nD τ), SemLoc.dma 12) 0
 ∗ srcPt c hbQ ![784, 0] inb_S2048x768_S16x768_784_0 (Transfers.shareTokN fullShare 4) fq ∗ dstPt c scQ ![64, 0] inb_S304x768_S16x768_64_0 gq ∗ semVal ((c : Thread nD τ), SemLoc.dma 13) 0
 ∗ srcPt c hbK ![784, 0] inb_S2048x768_S16x768_784_0 (Transfers.shareTokN fullShare 4) fk ∗ dstPt c scK ![64, 0] inb_S304x768_S16x768_64_0 gk ∗ semVal ((c : Thread nD τ), SemLoc.dma 14) 0
 ∗ srcPt c hbQ ![824, 0] inb_S2048x768_S16x768_824_0 (Transfers.shareTokN fullShare 5) fq ∗ dstPt c scQ ![80, 0] inb_S304x768_S16x768_80_0 gq ∗ semVal ((c : Thread nD τ), SemLoc.dma 15) 0
 ∗ srcPt c hbK ![824, 0] inb_S2048x768_S16x768_824_0 (Transfers.shareTokN fullShare 5) fk ∗ dstPt c scK ![80, 0] inb_S304x768_S16x768_80_0 gk ∗ semVal ((c : Thread nD τ), SemLoc.dma 16) 0
 ∗ srcPt c hbQ ![856, 0] inb_S2048x768_S16x768_856_0 (Transfers.shareTokN fullShare 6) fq ∗ dstPt c scQ ![96, 0] inb_S304x768_S16x768_96_0 gq ∗ semVal ((c : Thread nD τ), SemLoc.dma 17) 0
 ∗ srcPt c hbK ![856, 0] inb_S2048x768_S16x768_856_0 (Transfers.shareTokN fullShare 6) fk ∗ dstPt c scK ![96, 0] inb_S304x768_S16x768_96_0 gk ∗ semVal ((c : Thread nD τ), SemLoc.dma 18) 0
 ∗ srcPt c hbQ ![976, 0] inb_S2048x768_S16x768_976_0 (Transfers.shareTokN fullShare 7) fq ∗ dstPt c scQ ![112, 0] inb_S304x768_S16x768_112_0 gq ∗ semVal ((c : Thread nD τ), SemLoc.dma 19) 0
 ∗ srcPt c hbK ![976, 0] inb_S2048x768_S16x768_976_0 (Transfers.shareTokN fullShare 7) fk ∗ dstPt c scK ![112, 0] inb_S304x768_S16x768_112_0 gk ∗ semVal ((c : Thread nD τ), SemLoc.dma 20) 0
 ∗ srcPt c hbQ ![992, 0] inb_S2048x768_S16x768_992_0 (Transfers.shareTokN fullShare 8) fq ∗ dstPt c scQ ![128, 0] inb_S304x768_S16x768_128_0 gq ∗ semVal ((c : Thread nD τ), SemLoc.dma 21) 0
 ∗ srcPt c hbK ![992, 0] inb_S2048x768_S16x768_992_0 (Transfers.shareTokN fullShare 8) fk ∗ dstPt c scK ![128, 0] inb_S304x768_S16x768_128_0 gk ∗ semVal ((c : Thread nD τ), SemLoc.dma 22) 0
 ∗ srcPt c hbQ ![1040, 0] inb_S2048x768_S16x768_1040_0 (Transfers.shareTokN fullShare 9) fq ∗ dstPt c scQ ![144, 0] inb_S304x768_S16x768_144_0 gq ∗ semVal ((c : Thread nD τ), SemLoc.dma 23) 0
 ∗ srcPt c hbK ![1040, 0] inb_S2048x768_S16x768_1040_0 (Transfers.shareTokN fullShare 9) fk ∗ dstPt c scK ![144, 0] inb_S304x768_S16x768_144_0 gk ∗ semVal ((c : Thread nD τ), SemLoc.dma 24) 0
 ∗ srcPt c hbQ ![1192, 0] inb_S2048x768_S16x768_1192_0 (Transfers.shareTokN fullShare 10) fq ∗ dstPt c scQ ![160, 0] inb_S304x768_S16x768_160_0 gq ∗ semVal ((c : Thread nD τ), SemLoc.dma 25) 0
 ∗ srcPt c hbK ![1192, 0] inb_S2048x768_S16x768_1192_0 (Transfers.shareTokN fullShare 10) fk ∗ dstPt c scK ![160, 0] inb_S304x768_S16x768_160_0 gk ∗ semVal ((c : Thread nD τ), SemLoc.dma 26) 0
 ∗ srcPt c hbQ ![1552, 0] inb_S2048x768_S16x768_1552_0 (Transfers.shareTokN fullShare 11) fq ∗ dstPt c scQ ![176, 0] inb_S304x768_S16x768_176_0 gq ∗ semVal ((c : Thread nD τ), SemLoc.dma 27) 0
 ∗ srcPt c hbK ![1552, 0] inb_S2048x768_S16x768_1552_0 (Transfers.shareTokN fullShare 11) fk ∗ dstPt c scK ![176, 0] inb_S304x768_S16x768_176_0 gk ∗ semVal ((c : Thread nD τ), SemLoc.dma 28) 0
 ∗ srcPt c hbQ ![1600, 0] inb_S2048x768_S16x768_1600_0 (Transfers.shareTokN fullShare 12) fq ∗ dstPt c scQ ![192, 0] inb_S304x768_S16x768_192_0 gq ∗ semVal ((c : Thread nD τ), SemLoc.dma 29) 0
 ∗ srcPt c hbK ![1600, 0] inb_S2048x768_S16x768_1600_0 (Transfers.shareTokN fullShare 12) fk ∗ dstPt c scK ![192, 0] inb_S304x768_S16x768_192_0 gk ∗ semVal ((c : Thread nD τ), SemLoc.dma 30) 0
 ∗ srcPt c hbQ ![1696, 0] inb_S2048x768_S16x768_1696_0 (Transfers.shareTokN fullShare 13) fq ∗ dstPt c scQ ![208, 0] inb_S304x768_S16x768_208_0 gq ∗ semVal ((c : Thread nD τ), SemLoc.dma 31) 0
 ∗ srcPt c hbK ![1696, 0] inb_S2048x768_S16x768_1696_0 (Transfers.shareTokN fullShare 13) fk ∗ dstPt c scK ![208, 0] inb_S304x768_S16x768_208_0 gk ∗ semVal ((c : Thread nD τ), SemLoc.dma 32) 0
 ∗ srcPt c hbQ ![1728, 0] inb_S2048x768_S16x768_1728_0 (Transfers.shareTokN fullShare 14) fq ∗ dstPt c scQ ![224, 0] inb_S304x768_S16x768_224_0 gq ∗ semVal ((c : Thread nD τ), SemLoc.dma 33) 0
 ∗ srcPt c hbK ![1728, 0] inb_S2048x768_S16x768_1728_0 (Transfers.shareTokN fullShare 14) fk ∗ dstPt c scK ![224, 0] inb_S304x768_S16x768_224_0 gk ∗ semVal ((c : Thread nD τ), SemLoc.dma 34) 0
 ∗ srcPt c hbQ ![1816, 0] inb_S2048x768_S16x768_1816_0 (Transfers.shareTokN fullShare 15) fq ∗ dstPt c scQ ![240, 0] inb_S304x768_S16x768_240_0 gq ∗ semVal ((c : Thread nD τ), SemLoc.dma 35) 0
 ∗ srcPt c hbK ![1816, 0] inb_S2048x768_S16x768_1816_0 (Transfers.shareTokN fullShare 15) fk ∗ dstPt c scK ![240, 0] inb_S304x768_S16x768_240_0 gk ∗ semVal ((c : Thread nD τ), SemLoc.dma 36) 0
 ∗ srcPt c hbQ ![1880, 0] inb_S2048x768_S16x768_1880_0 (Transfers.shareTokN fullShare 16) fq ∗ dstPt c scQ ![256, 0] inb_S304x768_S16x768_256_0 gq ∗ semVal ((c : Thread nD τ), SemLoc.dma 37) 0
 ∗ srcPt c hbK ![1880, 0] inb_S2048x768_S16x768_1880_0 (Transfers.shareTokN fullShare 16) fk ∗ dstPt c scK ![256, 0] inb_S304x768_S16x768_256_0 gk ∗ semVal ((c : Thread nD τ), SemLoc.dma 38) 0
 ∗ srcPt c hbQ ![1976, 0] inb_S2048x768_S16x768_1976_0 (Transfers.shareTokN fullShare 17) fq ∗ dstPt c scQ ![272, 0] inb_S304x768_S16x768_272_0 gq ∗ semVal ((c : Thread nD τ), SemLoc.dma 39) 0
 ∗ srcPt c hbK ![1976, 0] inb_S2048x768_S16x768_1976_0 (Transfers.shareTokN fullShare 17) fk ∗ dstPt c scK ![272, 0] inb_S304x768_S16x768_272_0 gk ∗ semVal ((c : Thread nD τ), SemLoc.dma 40) 0
 ∗ srcPt c hbQ ![1976, 0] inb_S2048x768_S16x768_1976_0 (Transfers.shareTokN fullShare 18) fq ∗ dstPt c scQ ![288, 0] inb_S304x768_S16x768_288_0 gq ∗ semVal ((c : Thread nD τ), SemLoc.dma 41) 0
 ∗ srcPt c hbK ![1976, 0] inb_S2048x768_S16x768_1976_0 (Transfers.shareTokN fullShare 18) fk ∗ dstPt c scK ![288, 0] inb_S304x768_S16x768_288_0 gk ∗ semVal ((c : Thread nD τ), SemLoc.dma 42) 0
∗ ((heldPt c arg1 f1 ∗ heldPt c scAcc (scAcc.view.writes (Elt F) fa L) ∗ heldPt c scV (scV.view.writes (Elt F) fv (vPieces (k0_pay58 (vLoad0 arg1 f1)) (k0_pay59 (vLoad1 arg1 f1)) (k0_pay60 (vLoad2 arg1 f1)) (k0_pay61 (vLoad3 arg1 f1)) (k0_pay62 (vLoad4 arg1 f1)) (k0_pay63 (vLoad5 arg1 f1)) (k0_pay64 (vLoad6 arg1 f1)) (k0_pay65 (vLoad7 arg1 f1)) (k0_pay66 (vLoad8 arg1 f1)))) ∗ (∃ W, owes (c : Thread nD τ) 0 W) ∗ flying c 5 hbQ ![80, 0] inb_S2048x768_S16x768_80_0 scQ ![0, 0] inb_S304x768_S16x768_0_0 (Transfers.shareTokN fullShare 0) fq gq
 ∗ flying c 6 hbK ![80, 0] inb_S2048x768_S16x768_80_0 scK ![0, 0] inb_S304x768_S16x768_0_0 (Transfers.shareTokN fullShare 0) fk gk
 ∗ flying c 7 hbQ ![528, 0] inb_S2048x768_S16x768_528_0 scQ ![16, 0] inb_S304x768_S16x768_16_0 (Transfers.shareTokN fullShare 1) fq gq
 ∗ flying c 8 hbK ![528, 0] inb_S2048x768_S16x768_528_0 scK ![16, 0] inb_S304x768_S16x768_16_0 (Transfers.shareTokN fullShare 1) fk gk
 ∗ flying c 9 hbQ ![616, 0] inb_S2048x768_S16x768_616_0 scQ ![32, 0] inb_S304x768_S16x768_32_0 (Transfers.shareTokN fullShare 2) fq gq
 ∗ flying c 10 hbK ![616, 0] inb_S2048x768_S16x768_616_0 scK ![32, 0] inb_S304x768_S16x768_32_0 (Transfers.shareTokN fullShare 2) fk gk
 ∗ flying c 11 hbQ ![728, 0] inb_S2048x768_S16x768_728_0 scQ ![48, 0] inb_S304x768_S16x768_48_0 (Transfers.shareTokN fullShare 3) fq gq
 ∗ flying c 12 hbK ![728, 0] inb_S2048x768_S16x768_728_0 scK ![48, 0] inb_S304x768_S16x768_48_0 (Transfers.shareTokN fullShare 3) fk gk
 ∗ flying c 13 hbQ ![784, 0] inb_S2048x768_S16x768_784_0 scQ ![64, 0] inb_S304x768_S16x768_64_0 (Transfers.shareTokN fullShare 4) fq gq
 ∗ flying c 14 hbK ![784, 0] inb_S2048x768_S16x768_784_0 scK ![64, 0] inb_S304x768_S16x768_64_0 (Transfers.shareTokN fullShare 4) fk gk
 ∗ flying c 15 hbQ ![824, 0] inb_S2048x768_S16x768_824_0 scQ ![80, 0] inb_S304x768_S16x768_80_0 (Transfers.shareTokN fullShare 5) fq gq
 ∗ flying c 16 hbK ![824, 0] inb_S2048x768_S16x768_824_0 scK ![80, 0] inb_S304x768_S16x768_80_0 (Transfers.shareTokN fullShare 5) fk gk
 ∗ flying c 17 hbQ ![856, 0] inb_S2048x768_S16x768_856_0 scQ ![96, 0] inb_S304x768_S16x768_96_0 (Transfers.shareTokN fullShare 6) fq gq
 ∗ flying c 18 hbK ![856, 0] inb_S2048x768_S16x768_856_0 scK ![96, 0] inb_S304x768_S16x768_96_0 (Transfers.shareTokN fullShare 6) fk gk
 ∗ flying c 19 hbQ ![976, 0] inb_S2048x768_S16x768_976_0 scQ ![112, 0] inb_S304x768_S16x768_112_0 (Transfers.shareTokN fullShare 7) fq gq
 ∗ flying c 20 hbK ![976, 0] inb_S2048x768_S16x768_976_0 scK ![112, 0] inb_S304x768_S16x768_112_0 (Transfers.shareTokN fullShare 7) fk gk
 ∗ flying c 21 hbQ ![992, 0] inb_S2048x768_S16x768_992_0 scQ ![128, 0] inb_S304x768_S16x768_128_0 (Transfers.shareTokN fullShare 8) fq gq
 ∗ flying c 22 hbK ![992, 0] inb_S2048x768_S16x768_992_0 scK ![128, 0] inb_S304x768_S16x768_128_0 (Transfers.shareTokN fullShare 8) fk gk
 ∗ flying c 23 hbQ ![1040, 0] inb_S2048x768_S16x768_1040_0 scQ ![144, 0] inb_S304x768_S16x768_144_0 (Transfers.shareTokN fullShare 9) fq gq
 ∗ flying c 24 hbK ![1040, 0] inb_S2048x768_S16x768_1040_0 scK ![144, 0] inb_S304x768_S16x768_144_0 (Transfers.shareTokN fullShare 9) fk gk
 ∗ flying c 25 hbQ ![1192, 0] inb_S2048x768_S16x768_1192_0 scQ ![160, 0] inb_S304x768_S16x768_160_0 (Transfers.shareTokN fullShare 10) fq gq
 ∗ flying c 26 hbK ![1192, 0] inb_S2048x768_S16x768_1192_0 scK ![160, 0] inb_S304x768_S16x768_160_0 (Transfers.shareTokN fullShare 10) fk gk
 ∗ flying c 27 hbQ ![1552, 0] inb_S2048x768_S16x768_1552_0 scQ ![176, 0] inb_S304x768_S16x768_176_0 (Transfers.shareTokN fullShare 11) fq gq
 ∗ flying c 28 hbK ![1552, 0] inb_S2048x768_S16x768_1552_0 scK ![176, 0] inb_S304x768_S16x768_176_0 (Transfers.shareTokN fullShare 11) fk gk
 ∗ flying c 29 hbQ ![1600, 0] inb_S2048x768_S16x768_1600_0 scQ ![192, 0] inb_S304x768_S16x768_192_0 (Transfers.shareTokN fullShare 12) fq gq
 ∗ flying c 30 hbK ![1600, 0] inb_S2048x768_S16x768_1600_0 scK ![192, 0] inb_S304x768_S16x768_192_0 (Transfers.shareTokN fullShare 12) fk gk
 ∗ flying c 31 hbQ ![1696, 0] inb_S2048x768_S16x768_1696_0 scQ ![208, 0] inb_S304x768_S16x768_208_0 (Transfers.shareTokN fullShare 13) fq gq
 ∗ flying c 32 hbK ![1696, 0] inb_S2048x768_S16x768_1696_0 scK ![208, 0] inb_S304x768_S16x768_208_0 (Transfers.shareTokN fullShare 13) fk gk
 ∗ flying c 33 hbQ ![1728, 0] inb_S2048x768_S16x768_1728_0 scQ ![224, 0] inb_S304x768_S16x768_224_0 (Transfers.shareTokN fullShare 14) fq gq
 ∗ flying c 34 hbK ![1728, 0] inb_S2048x768_S16x768_1728_0 scK ![224, 0] inb_S304x768_S16x768_224_0 (Transfers.shareTokN fullShare 14) fk gk
 ∗ flying c 35 hbQ ![1816, 0] inb_S2048x768_S16x768_1816_0 scQ ![240, 0] inb_S304x768_S16x768_240_0 (Transfers.shareTokN fullShare 15) fq gq
 ∗ flying c 36 hbK ![1816, 0] inb_S2048x768_S16x768_1816_0 scK ![240, 0] inb_S304x768_S16x768_240_0 (Transfers.shareTokN fullShare 15) fk gk
 ∗ flying c 37 hbQ ![1880, 0] inb_S2048x768_S16x768_1880_0 scQ ![256, 0] inb_S304x768_S16x768_256_0 (Transfers.shareTokN fullShare 16) fq gq
 ∗ flying c 38 hbK ![1880, 0] inb_S2048x768_S16x768_1880_0 scK ![256, 0] inb_S304x768_S16x768_256_0 (Transfers.shareTokN fullShare 16) fk gk
 ∗ flying c 39 hbQ ![1976, 0] inb_S2048x768_S16x768_1976_0 scQ ![272, 0] inb_S304x768_S16x768_272_0 (Transfers.shareTokN fullShare 17) fq gq
 ∗ flying c 40 hbK ![1976, 0] inb_S2048x768_S16x768_1976_0 scK ![272, 0] inb_S304x768_S16x768_272_0 (Transfers.shareTokN fullShare 17) fk gk
 ∗ flying c 41 hbQ ![1976, 0] inb_S2048x768_S16x768_1976_0 scQ ![288, 0] inb_S304x768_S16x768_288_0 (Transfers.shareTokN fullShare 18) fq gq
 ∗ flying c 42 hbK ![1976, 0] inb_S2048x768_S16x768_1976_0 scK ![288, 0] inb_S304x768_S16x768_288_0 (Transfers.shareTokN fullShare 18) fk gk
) -∗ K ⟨⟩))
     ⊢ wp frame (wpE (defs₀ (F := F)) Variants.none c none) Set.univ
       (cc0__body (grid0.coords t0_0) arg1 harg1 hbQ (Memref.isWhole_whole _) hbK (Memref.isWhole_whole _) arg4 harg4 arg5 harg5 scAcc (Memref.isWhole_whole _) scQ (Memref.isWhole_whole _) scK (Memref.isWhole_whole _) scV (Memref.isWhole_whole _) scR (Memref.isWhole_whole _) cc0_scratch5) K } := by
  refine ⟨?_, fun fq fk gq gk fa fv W K => ?run⟩
  case run =>
    simp only [cc0__body_eq_skeleton]; unfold cc0__body_skel
    iintro ⟨H1, HA, HV, HW, HS0, HD0, Hq0, HS1, HD1, Hq1, HS2, HD2, Hq2, HS3, HD3, Hq3, HS4, HD4, Hq4, HS5, HD5, Hq5, HS6, HD6, Hq6, HS7, HD7, Hq7, HS8, HD8, Hq8, HS9, HD9, Hq9, HS10, HD10, Hq10, HS11, HD11, Hq11, HS12, HD12, Hq12, HS13, HD13, Hq13, HS14, HD14, Hq14, HS15, HD15, Hq15, HS16, HD16, Hq16, HS17, HD17, Hq17, HS18, HD18, Hq18, HS19, HD19, Hq19, HS20, HD20, Hq20, HS21, HD21, Hq21, HS22, HD22, Hq22, HS23, HD23, Hq23, HS24, HD24, Hq24, HS25, HD25, Hq25, HS26, HD26, Hq26, HS27, HD27, Hq27, HS28, HD28, Hq28, HS29, HD29, Hq29, HS30, HD30, Hq30, HS31, HD31, Hq31, HS32, HD32, Hq32, HS33, HD33, Hq33, HS34, HD34, Hq34, HS35, HD35, Hq35, HS36, HD36, Hq36, HS37, HD37, Hq37, Hk⟩
    sl_exec
    sl_step
    iapply Hk
    isplitl [H1]; · iexact H1
    isplitl [HA]; · iexact HA
    isplitl [HV]; · iexact HV
    isplitl [HW]; · iexists _; iexact HW
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    iexact Hq37

end Cert.KernelIdeal.Hand

end
-- ==== Proof.KernelIdealRun1.lean ====
module

public import proofs.«01_k».proof.Proof.KernelIdealOps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipeline library's beside the transfers' counters. -/
local notation "𝕄" => MT nD τ sig Unit (Elt F) ℕ (Pipeline.UD sig nD τ) ℕ

set_option maxHeartbeats 4000000 in
/-- The body at the second point: the copies awaited, the windows' results computed and the first block of the result
    written. The lists are what the result's block, the running sum and the windows' results are written with. -/
def run1 (c : Dev nD) (arg1 : Memref sig .tc .vmem S1024x768 .f32) (harg1 : arg1.IsWhole) (arg4 : Memref sig .tc .vmem S152x152 .f32) (harg4 : arg4.IsWhole) (arg5 : Memref sig .tc .vmem S1024x768 .f32) (harg5 : arg5.IsWhole)
   (fq : BufOf (F := F) c hbQ) (fk : BufOf (F := F) c hbK) (fa : BufOf (F := F) c scAcc) (p0 p1 p2 p3 p4 p5 p6 p7 p8 : Vec F S8x768 .f32)
   (f1 : BufOf (F := F) c arg1) (fm : BufOf (F := F) c arg4) :
   { L : List (View.Piece (Elt F) S1024x768 .f32) × List (View.Piece (Elt F) S1x768 .f32) × List (View.Piece (Elt F) S152x768 .f32) //
    ∀ (gq : BufOf (F := F) c scQ) (gk : BufOf (F := F) c scK) (fv : BufOf (F := F) c scV) (fr : BufOf (F := F) c scR) (fo : BufOf (F := F) c arg5) (W : Waits sig Unit) (K : PUnit → sProp 𝕄),
   iprop(heldPt c arg1 f1 ∗ heldPt c arg4 fm ∗ heldPt c arg5 fo ∗ heldPt c scAcc fa ∗ heldPt c scV (scV.view.writes (Elt F) fv (vPieces p0 p1 p2 p3 p4 p5 p6 p7 p8)) ∗ heldPt c scR fr ∗ owes (c : Thread nD τ) 0 W
    ∗ flying c 5 hbQ ![80, 0] inb_S2048x768_S16x768_80_0 scQ ![0, 0] inb_S304x768_S16x768_0_0 (Transfers.shareTokN fullShare 0) fq gq
 ∗ flying c 6 hbK ![80, 0] inb_S2048x768_S16x768_80_0 scK ![0, 0] inb_S304x768_S16x768_0_0 (Transfers.shareTokN fullShare 0) fk gk
 ∗ flying c 7 hbQ ![528, 0] inb_S2048x768_S16x768_528_0 scQ ![16, 0] inb_S304x768_S16x768_16_0 (Transfers.shareTokN fullShare 1) fq gq
 ∗ flying c 8 hbK ![528, 0] inb_S2048x768_S16x768_528_0 scK ![16, 0] inb_S304x768_S16x768_16_0 (Transfers.shareTokN fullShare 1) fk gk
 ∗ flying c 9 hbQ ![616, 0] inb_S2048x768_S16x768_616_0 scQ ![32, 0] inb_S304x768_S16x768_32_0 (Transfers.shareTokN fullShare 2) fq gq
 ∗ flying c 10 hbK ![616, 0] inb_S2048x768_S16x768_616_0 scK ![32, 0] inb_S304x768_S16x768_32_0 (Transfers.shareTokN fullShare 2) fk gk
 ∗ flying c 11 hbQ ![728, 0] inb_S2048x768_S16x768_728_0 scQ ![48, 0] inb_S304x768_S16x768_48_0 (Transfers.shareTokN fullShare 3) fq gq
 ∗ flying c 12 hbK ![728, 0] inb_S2048x768_S16x768_728_0 scK ![48, 0] inb_S304x768_S16x768_48_0 (Transfers.shareTokN fullShare 3) fk gk
 ∗ flying c 13 hbQ ![784, 0] inb_S2048x768_S16x768_784_0 scQ ![64, 0] inb_S304x768_S16x768_64_0 (Transfers.shareTokN fullShare 4) fq gq
 ∗ flying c 14 hbK ![784, 0] inb_S2048x768_S16x768_784_0 scK ![64, 0] inb_S304x768_S16x768_64_0 (Transfers.shareTokN fullShare 4) fk gk
 ∗ flying c 15 hbQ ![824, 0] inb_S2048x768_S16x768_824_0 scQ ![80, 0] inb_S304x768_S16x768_80_0 (Transfers.shareTokN fullShare 5) fq gq
 ∗ flying c 16 hbK ![824, 0] inb_S2048x768_S16x768_824_0 scK ![80, 0] inb_S304x768_S16x768_80_0 (Transfers.shareTokN fullShare 5) fk gk
 ∗ flying c 17 hbQ ![856, 0] inb_S2048x768_S16x768_856_0 scQ ![96, 0] inb_S304x768_S16x768_96_0 (Transfers.shareTokN fullShare 6) fq gq
 ∗ flying c 18 hbK ![856, 0] inb_S2048x768_S16x768_856_0 scK ![96, 0] inb_S304x768_S16x768_96_0 (Transfers.shareTokN fullShare 6) fk gk
 ∗ flying c 19 hbQ ![976, 0] inb_S2048x768_S16x768_976_0 scQ ![112, 0] inb_S304x768_S16x768_112_0 (Transfers.shareTokN fullShare 7) fq gq
 ∗ flying c 20 hbK ![976, 0] inb_S2048x768_S16x768_976_0 scK ![112, 0] inb_S304x768_S16x768_112_0 (Transfers.shareTokN fullShare 7) fk gk
 ∗ flying c 21 hbQ ![992, 0] inb_S2048x768_S16x768_992_0 scQ ![128, 0] inb_S304x768_S16x768_128_0 (Transfers.shareTokN fullShare 8) fq gq
 ∗ flying c 22 hbK ![992, 0] inb_S2048x768_S16x768_992_0 scK ![128, 0] inb_S304x768_S16x768_128_0 (Transfers.shareTokN fullShare 8) fk gk
 ∗ flying c 23 hbQ ![1040, 0] inb_S2048x768_S16x768_1040_0 scQ ![144, 0] inb_S304x768_S16x768_144_0 (Transfers.shareTokN fullShare 9) fq gq
 ∗ flying c 24 hbK ![1040, 0] inb_S2048x768_S16x768_1040_0 scK ![144, 0] inb_S304x768_S16x768_144_0 (Transfers.shareTokN fullShare 9) fk gk
 ∗ flying c 25 hbQ ![1192, 0] inb_S2048x768_S16x768_1192_0 scQ ![160, 0] inb_S304x768_S16x768_160_0 (Transfers.shareTokN fullShare 10) fq gq
 ∗ flying c 26 hbK ![1192, 0] inb_S2048x768_S16x768_1192_0 scK ![160, 0] inb_S304x768_S16x768_160_0 (Transfers.shareTokN fullShare 10) fk gk
 ∗ flying c 27 hbQ ![1552, 0] inb_S2048x768_S16x768_1552_0 scQ ![176, 0] inb_S304x768_S16x768_176_0 (Transfers.shareTokN fullShare 11) fq gq
 ∗ flying c 28 hbK ![1552, 0] inb_S2048x768_S16x768_1552_0 scK ![176, 0] inb_S304x768_S16x768_176_0 (Transfers.shareTokN fullShare 11) fk gk
 ∗ flying c 29 hbQ ![1600, 0] inb_S2048x768_S16x768_1600_0 scQ ![192, 0] inb_S304x768_S16x768_192_0 (Transfers.shareTokN fullShare 12) fq gq
 ∗ flying c 30 hbK ![1600, 0] inb_S2048x768_S16x768_1600_0 scK ![192, 0] inb_S304x768_S16x768_192_0 (Transfers.shareTokN fullShare 12) fk gk
 ∗ flying c 31 hbQ ![1696, 0] inb_S2048x768_S16x768_1696_0 scQ ![208, 0] inb_S304x768_S16x768_208_0 (Transfers.shareTokN fullShare 13) fq gq
 ∗ flying c 32 hbK ![1696, 0] inb_S2048x768_S16x768_1696_0 scK ![208, 0] inb_S304x768_S16x768_208_0 (Transfers.shareTokN fullShare 13) fk gk
 ∗ flying c 33 hbQ ![1728, 0] inb_S2048x768_S16x768_1728_0 scQ ![224, 0] inb_S304x768_S16x768_224_0 (Transfers.shareTokN fullShare 14) fq gq
 ∗ flying c 34 hbK ![1728, 0] inb_S2048x768_S16x768_1728_0 scK ![224, 0] inb_S304x768_S16x768_224_0 (Transfers.shareTokN fullShare 14) fk gk
 ∗ flying c 35 hbQ ![1816, 0] inb_S2048x768_S16x768_1816_0 scQ ![240, 0] inb_S304x768_S16x768_240_0 (Transfers.shareTokN fullShare 15) fq gq
 ∗ flying c 36 hbK ![1816, 0] inb_S2048x768_S16x768_1816_0 scK ![240, 0] inb_S304x768_S16x768_240_0 (Transfers.shareTokN fullShare 15) fk gk
 ∗ flying c 37 hbQ ![1880, 0] inb_S2048x768_S16x768_1880_0 scQ ![256, 0] inb_S304x768_S16x768_256_0 (Transfers.shareTokN fullShare 16) fq gq
 ∗ flying c 38 hbK ![1880, 0] inb_S2048x768_S16x768_1880_0 scK ![256, 0] inb_S304x768_S16x768_256_0 (Transfers.shareTokN fullShare 16) fk gk
 ∗ flying c 39 hbQ ![1976, 0] inb_S2048x768_S16x768_1976_0 scQ ![272, 0] inb_S304x768_S16x768_272_0 (Transfers.shareTokN fullShare 17) fq gq
 ∗ flying c 40 hbK ![1976, 0] inb_S2048x768_S16x768_1976_0 scK ![272, 0] inb_S304x768_S16x768_272_0 (Transfers.shareTokN fullShare 17) fk gk
 ∗ flying c 41 hbQ ![1976, 0] inb_S2048x768_S16x768_1976_0 scQ ![288, 0] inb_S304x768_S16x768_288_0 (Transfers.shareTokN fullShare 18) fq gq
 ∗ flying c 42 hbK ![1976, 0] inb_S2048x768_S16x768_1976_0 scK ![288, 0] inb_S304x768_S16x768_288_0 (Transfers.shareTokN fullShare 18) fk gk
∗ ((heldPt c arg1 f1 ∗ heldPt c arg4 fm ∗ heldPt c arg5 (arg5.view.writes (Elt F) fo L.1) ∗ heldPt c scAcc (scAcc.view.writes (Elt F) fa L.2.1) ∗ (∃ f, heldPt c scV f) ∗ heldPt c scR (scR.view.writes (Elt F) fr L.2.2) ∗ (∃ W, owes (c : Thread nD τ) 0 W) ∗ srcPt c hbQ ![80, 0] inb_S2048x768_S16x768_80_0 (Transfers.shareTokN fullShare 0) fq ∗ (∃ g, dstPt c scQ ![0, 0] inb_S304x768_S16x768_0_0 g) ∗ semVal ((c : Thread nD τ), SemLoc.dma 5) 0
 ∗ srcPt c hbK ![80, 0] inb_S2048x768_S16x768_80_0 (Transfers.shareTokN fullShare 0) fk ∗ (∃ g, dstPt c scK ![0, 0] inb_S304x768_S16x768_0_0 g) ∗ semVal ((c : Thread nD τ), SemLoc.dma 6) 0
 ∗ srcPt c hbQ ![528, 0] inb_S2048x768_S16x768_528_0 (Transfers.shareTokN fullShare 1) fq ∗ (∃ g, dstPt c scQ ![16, 0] inb_S304x768_S16x768_16_0 g) ∗ semVal ((c : Thread nD τ), SemLoc.dma 7) 0
 ∗ srcPt c hbK ![528, 0] inb_S2048x768_S16x768_528_0 (Transfers.shareTokN fullShare 1) fk ∗ (∃ g, dstPt c scK ![16, 0] inb_S304x768_S16x768_16_0 g) ∗ semVal ((c : Thread nD τ), SemLoc.dma 8) 0
 ∗ srcPt c hbQ ![616, 0] inb_S2048x768_S16x768_616_0 (Transfers.shareTokN fullShare 2) fq ∗ (∃ g, dstPt c scQ ![32, 0] inb_S304x768_S16x768_32_0 g) ∗ semVal ((c : Thread nD τ), SemLoc.dma 9) 0
 ∗ srcPt c hbK ![616, 0] inb_S2048x768_S16x768_616_0 (Transfers.shareTokN fullShare 2) fk ∗ (∃ g, dstPt c scK ![32, 0] inb_S304x768_S16x768_32_0 g) ∗ semVal ((c : Thread nD τ), SemLoc.dma 10) 0
 ∗ srcPt c hbQ ![728, 0] inb_S2048x768_S16x768_728_0 (Transfers.shareTokN fullShare 3) fq ∗ (∃ g, dstPt c scQ ![48, 0] inb_S304x768_S16x768_48_0 g) ∗ semVal ((c : Thread nD τ), SemLoc.dma 11) 0
 ∗ srcPt c hbK ![728, 0] inb_S2048x768_S16x768_728_0 (Transfers.shareTokN fullShare 3) fk ∗ (∃ g, dstPt c scK ![48, 0] inb_S304x768_S16x768_48_0 g) ∗ semVal ((c : Thread nD τ), SemLoc.dma 12) 0
 ∗ srcPt c hbQ ![784, 0] inb_S2048x768_S16x768_784_0 (Transfers.shareTokN fullShare 4) fq ∗ (∃ g, dstPt c scQ ![64, 0] inb_S304x768_S16x768_64_0 g) ∗ semVal ((c : Thread nD τ), SemLoc.dma 13) 0
 ∗ srcPt c hbK ![784, 0] inb_S2048x768_S16x768_784_0 (Transfers.shareTokN fullShare 4) fk ∗ (∃ g, dstPt c scK ![64, 0] inb_S304x768_S16x768_64_0 g) ∗ semVal ((c : Thread nD τ), SemLoc.dma 14) 0
 ∗ srcPt c hbQ ![824, 0] inb_S2048x768_S16x768_824_0 (Transfers.shareTokN fullShare 5) fq ∗ (∃ g, dstPt c scQ ![80, 0] inb_S304x768_S16x768_80_0 g) ∗ semVal ((c : Thread nD τ), SemLoc.dma 15) 0
 ∗ srcPt c hbK ![824, 0] inb_S2048x768_S16x768_824_0 (Transfers.shareTokN fullShare 5) fk ∗ (∃ g, dstPt c scK ![80, 0] inb_S304x768_S16x768_80_0 g) ∗ semVal ((c : Thread nD τ), SemLoc.dma 16) 0
 ∗ srcPt c hbQ ![856, 0] inb_S2048x768_S16x768_856_0 (Transfers.shareTokN fullShare 6) fq ∗ (∃ g, dstPt c scQ ![96, 0] inb_S304x768_S16x768_96_0 g) ∗ semVal ((c : Thread nD τ), SemLoc.dma 17) 0
 ∗ srcPt c hbK ![856, 0] inb_S2048x768_S16x768_856_0 (Transfers.shareTokN fullShare 6) fk ∗ (∃ g, dstPt c scK ![96, 0] inb_S304x768_S16x768_96_0 g) ∗ semVal ((c : Thread nD τ), SemLoc.dma 18) 0
 ∗ srcPt c hbQ ![976, 0] inb_S2048x768_S16x768_976_0 (Transfers.shareTokN fullShare 7) fq ∗ (∃ g, dstPt c scQ ![112, 0] inb_S304x768_S16x768_112_0 g) ∗ semVal ((c : Thread nD τ), SemLoc.dma 19) 0
 ∗ srcPt c hbK ![976, 0] inb_S2048x768_S16x768_976_0 (Transfers.shareTokN fullShare 7) fk ∗ (∃ g, dstPt c scK ![112, 0] inb_S304x768_S16x768_112_0 g) ∗ semVal ((c : Thread nD τ), SemLoc.dma 20) 0
 ∗ srcPt c hbQ ![992, 0] inb_S2048x768_S16x768_992_0 (Transfers.shareTokN fullShare 8) fq ∗ (∃ g, dstPt c scQ ![128, 0] inb_S304x768_S16x768_128_0 g) ∗ semVal ((c : Thread nD τ), SemLoc.dma 21) 0
 ∗ srcPt c hbK ![992, 0] inb_S2048x768_S16x768_992_0 (Transfers.shareTokN fullShare 8) fk ∗ (∃ g, dstPt c scK ![128, 0] inb_S304x768_S16x768_128_0 g) ∗ semVal ((c : Thread nD τ), SemLoc.dma 22) 0
 ∗ srcPt c hbQ ![1040, 0] inb_S2048x768_S16x768_1040_0 (Transfers.shareTokN fullShare 9) fq ∗ (∃ g, dstPt c scQ ![144, 0] inb_S304x768_S16x768_144_0 g) ∗ semVal ((c : Thread nD τ), SemLoc.dma 23) 0
 ∗ srcPt c hbK ![1040, 0] inb_S2048x768_S16x768_1040_0 (Transfers.shareTokN fullShare 9) fk ∗ (∃ g, dstPt c scK ![144, 0] inb_S304x768_S16x768_144_0 g) ∗ semVal ((c : Thread nD τ), SemLoc.dma 24) 0
 ∗ srcPt c hbQ ![1192, 0] inb_S2048x768_S16x768_1192_0 (Transfers.shareTokN fullShare 10) fq ∗ (∃ g, dstPt c scQ ![160, 0] inb_S304x768_S16x768_160_0 g) ∗ semVal ((c : Thread nD τ), SemLoc.dma 25) 0
 ∗ srcPt c hbK ![1192, 0] inb_S2048x768_S16x768_1192_0 (Transfers.shareTokN fullShare 10) fk ∗ (∃ g, dstPt c scK ![160, 0] inb_S304x768_S16x768_160_0 g) ∗ semVal ((c : Thread nD τ), SemLoc.dma 26) 0
 ∗ srcPt c hbQ ![1552, 0] inb_S2048x768_S16x768_1552_0 (Transfers.shareTokN fullShare 11) fq ∗ (∃ g, dstPt c scQ ![176, 0] inb_S304x768_S16x768_176_0 g) ∗ semVal ((c : Thread nD τ), SemLoc.dma 27) 0
 ∗ srcPt c hbK ![1552, 0] inb_S2048x768_S16x768_1552_0 (Transfers.shareTokN fullShare 11) fk ∗ (∃ g, dstPt c scK ![176, 0] inb_S304x768_S16x768_176_0 g) ∗ semVal ((c : Thread nD τ), SemLoc.dma 28) 0
 ∗ srcPt c hbQ ![1600, 0] inb_S2048x768_S16x768_1600_0 (Transfers.shareTokN fullShare 12) fq ∗ (∃ g, dstPt c scQ ![192, 0] inb_S304x768_S16x768_192_0 g) ∗ semVal ((c : Thread nD τ), SemLoc.dma 29) 0
 ∗ srcPt c hbK ![1600, 0] inb_S2048x768_S16x768_1600_0 (Transfers.shareTokN fullShare 12) fk ∗ (∃ g, dstPt c scK ![192, 0] inb_S304x768_S16x768_192_0 g) ∗ semVal ((c : Thread nD τ), SemLoc.dma 30) 0
 ∗ srcPt c hbQ ![1696, 0] inb_S2048x768_S16x768_1696_0 (Transfers.shareTokN fullShare 13) fq ∗ (∃ g, dstPt c scQ ![208, 0] inb_S304x768_S16x768_208_0 g) ∗ semVal ((c : Thread nD τ), SemLoc.dma 31) 0
 ∗ srcPt c hbK ![1696, 0] inb_S2048x768_S16x768_1696_0 (Transfers.shareTokN fullShare 13) fk ∗ (∃ g, dstPt c scK ![208, 0] inb_S304x768_S16x768_208_0 g) ∗ semVal ((c : Thread nD τ), SemLoc.dma 32) 0
 ∗ srcPt c hbQ ![1728, 0] inb_S2048x768_S16x768_1728_0 (Transfers.shareTokN fullShare 14) fq ∗ (∃ g, dstPt c scQ ![224, 0] inb_S304x768_S16x768_224_0 g) ∗ semVal ((c : Thread nD τ), SemLoc.dma 33) 0
 ∗ srcPt c hbK ![1728, 0] inb_S2048x768_S16x768_1728_0 (Transfers.shareTokN fullShare 14) fk ∗ (∃ g, dstPt c scK ![224, 0] inb_S304x768_S16x768_224_0 g) ∗ semVal ((c : Thread nD τ), SemLoc.dma 34) 0
 ∗ srcPt c hbQ ![1816, 0] inb_S2048x768_S16x768_1816_0 (Transfers.shareTokN fullShare 15) fq ∗ (∃ g, dstPt c scQ ![240, 0] inb_S304x768_S16x768_240_0 g) ∗ semVal ((c : Thread nD τ), SemLoc.dma 35) 0
 ∗ srcPt c hbK ![1816, 0] inb_S2048x768_S16x768_1816_0 (Transfers.shareTokN fullShare 15) fk ∗ (∃ g, dstPt c scK ![240, 0] inb_S304x768_S16x768_240_0 g) ∗ semVal ((c : Thread nD τ), SemLoc.dma 36) 0
 ∗ srcPt c hbQ ![1880, 0] inb_S2048x768_S16x768_1880_0 (Transfers.shareTokN fullShare 16) fq ∗ (∃ g, dstPt c scQ ![256, 0] inb_S304x768_S16x768_256_0 g) ∗ semVal ((c : Thread nD τ), SemLoc.dma 37) 0
 ∗ srcPt c hbK ![1880, 0] inb_S2048x768_S16x768_1880_0 (Transfers.shareTokN fullShare 16) fk ∗ (∃ g, dstPt c scK ![256, 0] inb_S304x768_S16x768_256_0 g) ∗ semVal ((c : Thread nD τ), SemLoc.dma 38) 0
 ∗ srcPt c hbQ ![1976, 0] inb_S2048x768_S16x768_1976_0 (Transfers.shareTokN fullShare 17) fq ∗ (∃ g, dstPt c scQ ![272, 0] inb_S304x768_S16x768_272_0 g) ∗ semVal ((c : Thread nD τ), SemLoc.dma 39) 0
 ∗ srcPt c hbK ![1976, 0] inb_S2048x768_S16x768_1976_0 (Transfers.shareTokN fullShare 17) fk ∗ (∃ g, dstPt c scK ![272, 0] inb_S304x768_S16x768_272_0 g) ∗ semVal ((c : Thread nD τ), SemLoc.dma 40) 0
 ∗ srcPt c hbQ ![1976, 0] inb_S2048x768_S16x768_1976_0 (Transfers.shareTokN fullShare 18) fq ∗ (∃ g, dstPt c scQ ![288, 0] inb_S304x768_S16x768_288_0 g) ∗ semVal ((c : Thread nD τ), SemLoc.dma 41) 0
 ∗ srcPt c hbK ![1976, 0] inb_S2048x768_S16x768_1976_0 (Transfers.shareTokN fullShare 18) fk ∗ (∃ g, dstPt c scK ![288, 0] inb_S304x768_S16x768_288_0 g) ∗ semVal ((c : Thread nD τ), SemLoc.dma 42) 0
) -∗ K ⟨⟩))
     ⊢ wp frame (wpE (defs₀ (F := F)) Variants.none c none) Set.univ
       (cc0__body (grid0.coords t0_1) arg1 harg1 hbQ (Memref.isWhole_whole _) hbK (Memref.isWhole_whole _) arg4 harg4 arg5 harg5 scAcc (Memref.isWhole_whole _) scQ (Memref.isWhole_whole _) scK (Memref.isWhole_whole _) scV (Memref.isWhole_whole _) scR (Memref.isWhole_whole _) cc0_scratch5) K } := by
  refine ⟨(?_, ?_, ?_), fun gq gk fv fr fo W K => ?run⟩
  case run =>
    simp only [cc0__body_eq_skeleton]; unfold cc0__body_skel
    iintro ⟨H1, HM, HO, HA, HV, HR, HW, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hk⟩
    sl_exec_parts
    sl_step
    iapply Hk
    isplitl [H1]; · iexact H1
    isplitl [HM]; · iexact HM
    isplitl [HO]; · iexact HO
    isplitl [HA]; · iexact HA
    isplitl [HV]; · iexists _; iexact HV
    isplitl [HR]; · iexact HR
    isplitl [HW]; · iexists _; iexact HW
    isplitl [Hq0_src]; · iexact Hq0_src
    isplitl [Hq0_dst]; · iexists _; iexact Hq0_dst
    isplitl [Hq0]; · iexact Hq0
    isplitl [Hq1_src]; · iexact Hq1_src
    isplitl [Hq1_dst]; · iexists _; iexact Hq1_dst
    isplitl [Hq1]; · iexact Hq1
    isplitl [Hq2_src]; · iexact Hq2_src
    isplitl [Hq2_dst]; · iexists _; iexact Hq2_dst
    isplitl [Hq2]; · iexact Hq2
    isplitl [Hq3_src]; · iexact Hq3_src
    isplitl [Hq3_dst]; · iexists _; iexact Hq3_dst
    isplitl [Hq3]; · iexact Hq3
    isplitl [Hq4_src]; · iexact Hq4_src
    isplitl [Hq4_dst]; · iexists _; iexact Hq4_dst
    isplitl [Hq4]; · iexact Hq4
    isplitl [Hq5_src]; · iexact Hq5_src
    isplitl [Hq5_dst]; · iexists _; iexact Hq5_dst
    isplitl [Hq5]; · iexact Hq5
    isplitl [Hq6_src]; · iexact Hq6_src
    isplitl [Hq6_dst]; · iexists _; iexact Hq6_dst
    isplitl [Hq6]; · iexact Hq6
    isplitl [Hq7_src]; · iexact Hq7_src
    isplitl [Hq7_dst]; · iexists _; iexact Hq7_dst
    isplitl [Hq7]; · iexact Hq7
    isplitl [Hq8_src]; · iexact Hq8_src
    isplitl [Hq8_dst]; · iexists _; iexact Hq8_dst
    isplitl [Hq8]; · iexact Hq8
    isplitl [Hq9_src]; · iexact Hq9_src
    isplitl [Hq9_dst]; · iexists _; iexact Hq9_dst
    isplitl [Hq9]; · iexact Hq9
    isplitl [Hq10_src]; · iexact Hq10_src
    isplitl [Hq10_dst]; · iexists _; iexact Hq10_dst
    isplitl [Hq10]; · iexact Hq10
    isplitl [Hq11_src]; · iexact Hq11_src
    isplitl [Hq11_dst]; · iexists _; iexact Hq11_dst
    isplitl [Hq11]; · iexact Hq11
    isplitl [Hq12_src]; · iexact Hq12_src
    isplitl [Hq12_dst]; · iexists _; iexact Hq12_dst
    isplitl [Hq12]; · iexact Hq12
    isplitl [Hq13_src]; · iexact Hq13_src
    isplitl [Hq13_dst]; · iexists _; iexact Hq13_dst
    isplitl [Hq13]; · iexact Hq13
    isplitl [Hq14_src]; · iexact Hq14_src
    isplitl [Hq14_dst]; · iexists _; iexact Hq14_dst
    isplitl [Hq14]; · iexact Hq14
    isplitl [Hq15_src]; · iexact Hq15_src
    isplitl [Hq15_dst]; · iexists _; iexact Hq15_dst
    isplitl [Hq15]; · iexact Hq15
    isplitl [Hq16_src]; · iexact Hq16_src
    isplitl [Hq16_dst]; · iexists _; iexact Hq16_dst
    isplitl [Hq16]; · iexact Hq16
    isplitl [Hq17_src]; · iexact Hq17_src
    isplitl [Hq17_dst]; · iexists _; iexact Hq17_dst
    isplitl [Hq17]; · iexact Hq17
    isplitl [Hq18_src]; · iexact Hq18_src
    isplitl [Hq18_dst]; · iexists _; iexact Hq18_dst
    isplitl [Hq18]; · iexact Hq18
    isplitl [Hq19_src]; · iexact Hq19_src
    isplitl [Hq19_dst]; · iexists _; iexact Hq19_dst
    isplitl [Hq19]; · iexact Hq19
    isplitl [Hq20_src]; · iexact Hq20_src
    isplitl [Hq20_dst]; · iexists _; iexact Hq20_dst
    isplitl [Hq20]; · iexact Hq20
    isplitl [Hq21_src]; · iexact Hq21_src
    isplitl [Hq21_dst]; · iexists _; iexact Hq21_dst
    isplitl [Hq21]; · iexact Hq21
    isplitl [Hq22_src]; · iexact Hq22_src
    isplitl [Hq22_dst]; · iexists _; iexact Hq22_dst
    isplitl [Hq22]; · iexact Hq22
    isplitl [Hq23_src]; · iexact Hq23_src
    isplitl [Hq23_dst]; · iexists _; iexact Hq23_dst
    isplitl [Hq23]; · iexact Hq23
    isplitl [Hq24_src]; · iexact Hq24_src
    isplitl [Hq24_dst]; · iexists _; iexact Hq24_dst
    isplitl [Hq24]; · iexact Hq24
    isplitl [Hq25_src]; · iexact Hq25_src
    isplitl [Hq25_dst]; · iexists _; iexact Hq25_dst
    isplitl [Hq25]; · iexact Hq25
    isplitl [Hq26_src]; · iexact Hq26_src
    isplitl [Hq26_dst]; · iexists _; iexact Hq26_dst
    isplitl [Hq26]; · iexact Hq26
    isplitl [Hq27_src]; · iexact Hq27_src
    isplitl [Hq27_dst]; · iexists _; iexact Hq27_dst
    isplitl [Hq27]; · iexact Hq27
    isplitl [Hq28_src]; · iexact Hq28_src
    isplitl [Hq28_dst]; · iexists _; iexact Hq28_dst
    isplitl [Hq28]; · iexact Hq28
    isplitl [Hq29_src]; · iexact Hq29_src
    isplitl [Hq29_dst]; · iexists _; iexact Hq29_dst
    isplitl [Hq29]; · iexact Hq29
    isplitl [Hq30_src]; · iexact Hq30_src
    isplitl [Hq30_dst]; · iexists _; iexact Hq30_dst
    isplitl [Hq30]; · iexact Hq30
    isplitl [Hq31_src]; · iexact Hq31_src
    isplitl [Hq31_dst]; · iexists _; iexact Hq31_dst
    isplitl [Hq31]; · iexact Hq31
    isplitl [Hq32_src]; · iexact Hq32_src
    isplitl [Hq32_dst]; · iexists _; iexact Hq32_dst
    isplitl [Hq32]; · iexact Hq32
    isplitl [Hq33_src]; · iexact Hq33_src
    isplitl [Hq33_dst]; · iexists _; iexact Hq33_dst
    isplitl [Hq33]; · iexact Hq33
    isplitl [Hq34_src]; · iexact Hq34_src
    isplitl [Hq34_dst]; · iexists _; iexact Hq34_dst
    isplitl [Hq34]; · iexact Hq34
    isplitl [Hq35_src]; · iexact Hq35_src
    isplitl [Hq35_dst]; · iexists _; iexact Hq35_dst
    isplitl [Hq35]; · iexact Hq35
    isplitl [Hq36_src]; · iexact Hq36_src
    isplitl [Hq36_dst]; · iexists _; iexact Hq36_dst
    isplitl [Hq36]; · iexact Hq36
    isplitl [Hq37_src]; · iexact Hq37_src
    isplitl [Hq37_dst]; · iexists _; iexact Hq37_dst
    iexact Hq37

end Cert.KernelIdeal.Hand

end
-- ==== Proof.KernelIdealRun2.lean ====
module

public import proofs.«01_k».proof.Proof.KernelIdealOps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipeline library's beside the transfers' counters. -/
local notation "𝕄" => MT nD τ sig Unit (Elt F) ℕ (Pipeline.UD sig nD τ) ℕ

set_option maxHeartbeats 4000000 in
/-- The body at the last point: the second block of the result written. -/
def run2 (c : Dev nD) (arg1 : Memref sig .tc .vmem S1024x768 .f32) (harg1 : arg1.IsWhole) (arg4 : Memref sig .tc .vmem S152x152 .f32) (harg4 : arg4.IsWhole) (arg5 : Memref sig .tc .vmem S1024x768 .f32) (harg5 : arg5.IsWhole)
   (fa : BufOf (F := F) c scAcc) (fr : BufOf (F := F) c scR) :
   { L : List (View.Piece (Elt F) S1024x768 .f32) //
    ∀ (fo : BufOf (F := F) c arg5) (W : Waits sig Unit) (K : PUnit → sProp 𝕄),
   iprop(heldPt c arg5 fo ∗ heldPt c scAcc fa ∗ heldPt c scR fr ∗ owes (c : Thread nD τ) 0 W
    ∗ ((heldPt c arg5 (arg5.view.writes (Elt F) fo L) ∗ heldPt c scAcc fa ∗ heldPt c scR fr ∗ (∃ W, owes (c : Thread nD τ) 0 W)) -∗ K ⟨⟩))
     ⊢ wp frame (wpE (defs₀ (F := F)) Variants.none c none) Set.univ
       (cc0__body (grid0.coords t0_2) arg1 harg1 hbQ (Memref.isWhole_whole _) hbK (Memref.isWhole_whole _) arg4 harg4 arg5 harg5 scAcc (Memref.isWhole_whole _) scQ (Memref.isWhole_whole _) scK (Memref.isWhole_whole _) scV (Memref.isWhole_whole _) scR (Memref.isWhole_whole _) cc0_scratch5) K } := by
  refine ⟨?_, fun fo W K => ?run⟩
  case run =>
    simp only [cc0__body_eq_skeleton]; unfold cc0__body_skel
    iintro ⟨HO, HA, HR, HW, Hk⟩
    sl_exec
    sl_step
    iapply Hk
    isplitl [HO]; · iexact HO
    isplitl [HA]; · iexact HA
    isplitl [HR]; · iexact HR
    iexists _; iexact HW

end Cert.KernelIdeal.Hand

end
-- ==== Proof.KernelIdealSplit.lean ====
module

public import proofs.«01_k».proof.Proof.KernelIdealOps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipeline library's beside the transfers' counters. -/
local notation "𝕄" => MT nD τ sig Unit (Elt F) ℕ (Pipeline.UD sig nD τ) ℕ

/-- The rows of a copied-rows scratch from row `a` on. -/
abbrev fromQ (c : Dev nD) (a : ℕ) : Finset (Idx (scQ.view.loc (c : Thread nD τ))) :=
  Finset.univ.filter fun i : S304x768.Idx => a ≤ (i 0).val

theorem fromQ_zero (c : Dev nD) : fromQ c 0 = (scQ.view.set : Finset _) := by
  rw [View.set_whole]; ext i; simp [fromQ]

theorem mem_winQ (c : Dev nD) (a : ℕ) (h : ∀ x, (![a, 0] : Fin 2 → ℕ) x + S16x768.size x ≤ S304x768.size x) (i : S304x768.Idx) :
    (i ∈ ((dstW scQ ![a, 0] h).view.set : Finset S304x768.Idx)) ↔ (a ≤ (i 0).val ∧ (i 0).val < a + 16) := by
  rw [show ((dstW scQ ![a, 0] h).view.set : Finset S304x768.Idx) = (Rect.unit (s := S304x768) ![a, 0] S16x768.size h).set from View.set_slice_whole _ _,
    Rect.mem_set_unit]
  constructor
  · intro H; exact H 0
  · intro H x
    match x with
    | 0 => exact H
    | 1 => exact ⟨Nat.zero_le _, by have := (i 1).isLt; show (i 1).val < 0 + 768; simpa using this⟩

/-- One window taken off the front of the scratch. -/
theorem fromQ_split (c : Dev nD) (a : ℕ) (h : ∀ x, (![a, 0] : Fin 2 → ℕ) x + S16x768.size x ≤ S304x768.size x) (g : BufOf (F := F) c scQ) :
    (scQ.view.loc (c : Thread nD τ) ↦[fromQ c a]{fullShare} g : sProp 𝕄)
      ⊢ iprop(dstPt c scQ ![a, 0] h g ∗ (scQ.view.loc (c : Thread nD τ) ↦[fromQ c (a + 16)]{fullShare} g)) := by
  have hs : (fromQ c a : Finset S304x768.Idx) \ ((dstW scQ ![a, 0] h).view.set : Finset S304x768.Idx) = fromQ c (a + 16) := by
    ext i; rw [Finset.mem_sdiff, mem_winQ c a h i]; simp only [fromQ, Finset.mem_filter, Finset.mem_univ, true_and]; omega
  have hsub : ((dstW scQ ![a, 0] h).view.set : Finset S304x768.Idx) ⊆ fromQ c a := by
    intro i hi; rw [mem_winQ c a h i] at hi; simp only [fromQ, Finset.mem_filter, Finset.mem_univ, true_and]; exact hi.1
  have h1 := (pointsTo_split_subset (Ix := Unit) (Name := ℕ) (U := Pipeline.UD sig nD τ) (Lvl := ℕ) (q := fullShare) (f := g) hsub).1
  exact h1.trans (sep_mono_right (Entails.of_eq (congrArg (fun I => (scQ.view.loc (c : Thread nD τ) ↦[I]{fullShare} g : sProp 𝕄)) hs)))

/-- One window put back in front of it, at any contents. -/
theorem fromQ_join (c : Dev nD) (a : ℕ) (h : ∀ x, (![a, 0] : Fin 2 → ℕ) x + S16x768.size x ≤ S304x768.size x) :
    iprop((∃ g, dstPt (F := F) c scQ ![a, 0] h g) ∗ (∃ f, scQ.view.loc (c : Thread nD τ) ↦[fromQ c (a + 16)]{fullShare} f))
      ⊢ (iprop(∃ f, scQ.view.loc (c : Thread nD τ) ↦[fromQ c a]{fullShare} f) : sProp 𝕄) := by
  have hu : ((dstW scQ ![a, 0] h).view.set : Finset S304x768.Idx) ∪ fromQ c (a + 16) = fromQ c a := by
    ext i; rw [Finset.mem_union, mem_winQ c a h i]; simp only [fromQ, Finset.mem_filter, Finset.mem_univ, true_and]; omega
  have hd : Disjoint ((dstW scQ ![a, 0] h).view.set : Finset S304x768.Idx) (fromQ c (a + 16)) := by
    rw [Finset.disjoint_left]; intro i hi; rw [mem_winQ c a h i] at hi; simp only [fromQ, Finset.mem_filter, Finset.mem_univ, true_and]; omega
  iintro ⟨⟨%g, HD⟩, ⟨%f, HF⟩⟩
  iexists _
  rw [← hu]
  iapply (pointsTo_join hd)
  isplitl [HD]; · iexact HD
  iexact HF

/-- Past the last row nothing is held. -/
theorem fromQ_end (c : Dev nD) : (emp : sProp 𝕄) ⊢ (iprop(∃ f : BufOf (F := F) c scQ, scQ.view.loc (c : Thread nD τ) ↦[fromQ c 304]{fullShare} f) : sProp 𝕄) := by
  have he : fromQ c 304 = ∅ := by
    refine Finset.eq_empty_of_forall_notMem fun (i : S304x768.Idx) hi => ?_
    have h1 : (i 0).val < 304 := (i 0).isLt
    have h2 : 304 ≤ (i 0).val := (Finset.mem_filter.mp hi).2
    omega
  iintro -
  iexists scQ.view.junk
  rw [he, pointsTo_empty]; iempintro

/-- The scratch as its nineteen windows, -/
abbrev winsQ (c : Dev nD) (g : BufOf (F := F) c scQ) : sProp 𝕄 :=
  iprop(dstPt c scQ ![0, 0] inb_S304x768_S16x768_0_0 g ∗ dstPt c scQ ![16, 0] inb_S304x768_S16x768_16_0 g ∗ dstPt c scQ ![32, 0] inb_S304x768_S16x768_32_0 g ∗ dstPt c scQ ![48, 0] inb_S304x768_S16x768_48_0 g ∗ dstPt c scQ ![64, 0] inb_S304x768_S16x768_64_0 g ∗ dstPt c scQ ![80, 0] inb_S304x768_S16x768_80_0 g ∗ dstPt c scQ ![96, 0] inb_S304x768_S16x768_96_0 g ∗ dstPt c scQ ![112, 0] inb_S304x768_S16x768_112_0 g ∗ dstPt c scQ ![128, 0] inb_S304x768_S16x768_128_0 g ∗ dstPt c scQ ![144, 0] inb_S304x768_S16x768_144_0 g ∗ dstPt c scQ ![160, 0] inb_S304x768_S16x768_160_0 g ∗ dstPt c scQ ![176, 0] inb_S304x768_S16x768_176_0 g ∗ dstPt c scQ ![192, 0] inb_S304x768_S16x768_192_0 g ∗ dstPt c scQ ![208, 0] inb_S304x768_S16x768_208_0 g ∗ dstPt c scQ ![224, 0] inb_S304x768_S16x768_224_0 g ∗ dstPt c scQ ![240, 0] inb_S304x768_S16x768_240_0 g ∗ dstPt c scQ ![256, 0] inb_S304x768_S16x768_256_0 g ∗ dstPt c scQ ![272, 0] inb_S304x768_S16x768_272_0 g ∗ dstPt c scQ ![288, 0] inb_S304x768_S16x768_288_0 g)
theorem winsQ_split (c : Dev nD) (g : BufOf (F := F) c scQ) : heldPt c scQ g ⊢ (winsQ c g : sProp 𝕄) := by
  unfold heldPt; rw [← fromQ_zero c]
  iintro H
  ihave H := (fromQ_split c 0 inb_S304x768_S16x768_0_0 g) $$ H; icases H with ⟨H0, H⟩
  ihave H := (fromQ_split c 16 inb_S304x768_S16x768_16_0 g) $$ H; icases H with ⟨H1, H⟩
  ihave H := (fromQ_split c 32 inb_S304x768_S16x768_32_0 g) $$ H; icases H with ⟨H2, H⟩
  ihave H := (fromQ_split c 48 inb_S304x768_S16x768_48_0 g) $$ H; icases H with ⟨H3, H⟩
  ihave H := (fromQ_split c 64 inb_S304x768_S16x768_64_0 g) $$ H; icases H with ⟨H4, H⟩
  ihave H := (fromQ_split c 80 inb_S304x768_S16x768_80_0 g) $$ H; icases H with ⟨H5, H⟩
  ihave H := (fromQ_split c 96 inb_S304x768_S16x768_96_0 g) $$ H; icases H with ⟨H6, H⟩
  ihave H := (fromQ_split c 112 inb_S304x768_S16x768_112_0 g) $$ H; icases H with ⟨H7, H⟩
  ihave H := (fromQ_split c 128 inb_S304x768_S16x768_128_0 g) $$ H; icases H with ⟨H8, H⟩
  ihave H := (fromQ_split c 144 inb_S304x768_S16x768_144_0 g) $$ H; icases H with ⟨H9, H⟩
  ihave H := (fromQ_split c 160 inb_S304x768_S16x768_160_0 g) $$ H; icases H with ⟨H10, H⟩
  ihave H := (fromQ_split c 176 inb_S304x768_S16x768_176_0 g) $$ H; icases H with ⟨H11, H⟩
  ihave H := (fromQ_split c 192 inb_S304x768_S16x768_192_0 g) $$ H; icases H with ⟨H12, H⟩
  ihave H := (fromQ_split c 208 inb_S304x768_S16x768_208_0 g) $$ H; icases H with ⟨H13, H⟩
  ihave H := (fromQ_split c 224 inb_S304x768_S16x768_224_0 g) $$ H; icases H with ⟨H14, H⟩
  ihave H := (fromQ_split c 240 inb_S304x768_S16x768_240_0 g) $$ H; icases H with ⟨H15, H⟩
  ihave H := (fromQ_split c 256 inb_S304x768_S16x768_256_0 g) $$ H; icases H with ⟨H16, H⟩
  ihave H := (fromQ_split c 272 inb_S304x768_S16x768_272_0 g) $$ H; icases H with ⟨H17, H⟩
  ihave H := (fromQ_split c 288 inb_S304x768_S16x768_288_0 g) $$ H; icases H with ⟨H18, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
/-- and the windows, each at some contents, as the scratch. -/
theorem winsQ_join (c : Dev nD) :
    iprop((∃ g, dstPt (F := F) c scQ ![0, 0] inb_S304x768_S16x768_0_0 g) ∗ (∃ g, dstPt (F := F) c scQ ![16, 0] inb_S304x768_S16x768_16_0 g) ∗ (∃ g, dstPt (F := F) c scQ ![32, 0] inb_S304x768_S16x768_32_0 g) ∗ (∃ g, dstPt (F := F) c scQ ![48, 0] inb_S304x768_S16x768_48_0 g) ∗ (∃ g, dstPt (F := F) c scQ ![64, 0] inb_S304x768_S16x768_64_0 g) ∗ (∃ g, dstPt (F := F) c scQ ![80, 0] inb_S304x768_S16x768_80_0 g) ∗ (∃ g, dstPt (F := F) c scQ ![96, 0] inb_S304x768_S16x768_96_0 g) ∗ (∃ g, dstPt (F := F) c scQ ![112, 0] inb_S304x768_S16x768_112_0 g) ∗ (∃ g, dstPt (F := F) c scQ ![128, 0] inb_S304x768_S16x768_128_0 g) ∗ (∃ g, dstPt (F := F) c scQ ![144, 0] inb_S304x768_S16x768_144_0 g) ∗ (∃ g, dstPt (F := F) c scQ ![160, 0] inb_S304x768_S16x768_160_0 g) ∗ (∃ g, dstPt (F := F) c scQ ![176, 0] inb_S304x768_S16x768_176_0 g) ∗ (∃ g, dstPt (F := F) c scQ ![192, 0] inb_S304x768_S16x768_192_0 g) ∗ (∃ g, dstPt (F := F) c scQ ![208, 0] inb_S304x768_S16x768_208_0 g) ∗ (∃ g, dstPt (F := F) c scQ ![224, 0] inb_S304x768_S16x768_224_0 g) ∗ (∃ g, dstPt (F := F) c scQ ![240, 0] inb_S304x768_S16x768_240_0 g) ∗ (∃ g, dstPt (F := F) c scQ ![256, 0] inb_S304x768_S16x768_256_0 g) ∗ (∃ g, dstPt (F := F) c scQ ![272, 0] inb_S304x768_S16x768_272_0 g) ∗ (∃ g, dstPt (F := F) c scQ ![288, 0] inb_S304x768_S16x768_288_0 g)) ⊢ (iprop(∃ g, heldPt (F := F) c scQ g) : sProp 𝕄) := by
  unfold heldPt; rw [← fromQ_zero c]
  iintro ⟨H0, H1, H2, H3, H4, H5, H6, H7, H8, H9, H10, H11, H12, H13, H14, H15, H16, H17, H18⟩
  ihave H := (fromQ_end (F := F) c) $$ []
  · iempintro
  ihave H := (fromQ_join (F := F) c 288 inb_S304x768_S16x768_288_0) $$ [H18 H]
  · isplitl [H18]; · iexact H18
    iexact H
  ihave H := (fromQ_join (F := F) c 272 inb_S304x768_S16x768_272_0) $$ [H17 H]
  · isplitl [H17]; · iexact H17
    iexact H
  ihave H := (fromQ_join (F := F) c 256 inb_S304x768_S16x768_256_0) $$ [H16 H]
  · isplitl [H16]; · iexact H16
    iexact H
  ihave H := (fromQ_join (F := F) c 240 inb_S304x768_S16x768_240_0) $$ [H15 H]
  · isplitl [H15]; · iexact H15
    iexact H
  ihave H := (fromQ_join (F := F) c 224 inb_S304x768_S16x768_224_0) $$ [H14 H]
  · isplitl [H14]; · iexact H14
    iexact H
  ihave H := (fromQ_join (F := F) c 208 inb_S304x768_S16x768_208_0) $$ [H13 H]
  · isplitl [H13]; · iexact H13
    iexact H
  ihave H := (fromQ_join (F := F) c 192 inb_S304x768_S16x768_192_0) $$ [H12 H]
  · isplitl [H12]; · iexact H12
    iexact H
  ihave H := (fromQ_join (F := F) c 176 inb_S304x768_S16x768_176_0) $$ [H11 H]
  · isplitl [H11]; · iexact H11
    iexact H
  ihave H := (fromQ_join (F := F) c 160 inb_S304x768_S16x768_160_0) $$ [H10 H]
  · isplitl [H10]; · iexact H10
    iexact H
  ihave H := (fromQ_join (F := F) c 144 inb_S304x768_S16x768_144_0) $$ [H9 H]
  · isplitl [H9]; · iexact H9
    iexact H
  ihave H := (fromQ_join (F := F) c 128 inb_S304x768_S16x768_128_0) $$ [H8 H]
  · isplitl [H8]; · iexact H8
    iexact H
  ihave H := (fromQ_join (F := F) c 112 inb_S304x768_S16x768_112_0) $$ [H7 H]
  · isplitl [H7]; · iexact H7
    iexact H
  ihave H := (fromQ_join (F := F) c 96 inb_S304x768_S16x768_96_0) $$ [H6 H]
  · isplitl [H6]; · iexact H6
    iexact H
  ihave H := (fromQ_join (F := F) c 80 inb_S304x768_S16x768_80_0) $$ [H5 H]
  · isplitl [H5]; · iexact H5
    iexact H
  ihave H := (fromQ_join (F := F) c 64 inb_S304x768_S16x768_64_0) $$ [H4 H]
  · isplitl [H4]; · iexact H4
    iexact H
  ihave H := (fromQ_join (F := F) c 48 inb_S304x768_S16x768_48_0) $$ [H3 H]
  · isplitl [H3]; · iexact H3
    iexact H
  ihave H := (fromQ_join (F := F) c 32 inb_S304x768_S16x768_32_0) $$ [H2 H]
  · isplitl [H2]; · iexact H2
    iexact H
  ihave H := (fromQ_join (F := F) c 16 inb_S304x768_S16x768_16_0) $$ [H1 H]
  · isplitl [H1]; · iexact H1
    iexact H
  ihave H := (fromQ_join (F := F) c 0 inb_S304x768_S16x768_0_0) $$ [H0 H]
  · isplitl [H0]; · iexact H0
    iexact H
  iexact H

/-- The rows of a copied-rows scratch from row `a` on. -/
abbrev fromK (c : Dev nD) (a : ℕ) : Finset (Idx (scK.view.loc (c : Thread nD τ))) :=
  Finset.univ.filter fun i : S304x768.Idx => a ≤ (i 0).val

theorem fromK_zero (c : Dev nD) : fromK c 0 = (scK.view.set : Finset _) := by
  rw [View.set_whole]; ext i; simp [fromK]

theorem mem_winK (c : Dev nD) (a : ℕ) (h : ∀ x, (![a, 0] : Fin 2 → ℕ) x + S16x768.size x ≤ S304x768.size x) (i : S304x768.Idx) :
    (i ∈ ((dstW scK ![a, 0] h).view.set : Finset S304x768.Idx)) ↔ (a ≤ (i 0).val ∧ (i 0).val < a + 16) := by
  rw [show ((dstW scK ![a, 0] h).view.set : Finset S304x768.Idx) = (Rect.unit (s := S304x768) ![a, 0] S16x768.size h).set from View.set_slice_whole _ _,
    Rect.mem_set_unit]
  constructor
  · intro H; exact H 0
  · intro H x
    match x with
    | 0 => exact H
    | 1 => exact ⟨Nat.zero_le _, by have := (i 1).isLt; show (i 1).val < 0 + 768; simpa using this⟩

/-- One window taken off the front of the scratch. -/
theorem fromK_split (c : Dev nD) (a : ℕ) (h : ∀ x, (![a, 0] : Fin 2 → ℕ) x + S16x768.size x ≤ S304x768.size x) (g : BufOf (F := F) c scK) :
    (scK.view.loc (c : Thread nD τ) ↦[fromK c a]{fullShare} g : sProp 𝕄)
      ⊢ iprop(dstPt c scK ![a, 0] h g ∗ (scK.view.loc (c : Thread nD τ) ↦[fromK c (a + 16)]{fullShare} g)) := by
  have hs : (fromK c a : Finset S304x768.Idx) \ ((dstW scK ![a, 0] h).view.set : Finset S304x768.Idx) = fromK c (a + 16) := by
    ext i; rw [Finset.mem_sdiff, mem_winK c a h i]; simp only [fromK, Finset.mem_filter, Finset.mem_univ, true_and]; omega
  have hsub : ((dstW scK ![a, 0] h).view.set : Finset S304x768.Idx) ⊆ fromK c a := by
    intro i hi; rw [mem_winK c a h i] at hi; simp only [fromK, Finset.mem_filter, Finset.mem_univ, true_and]; exact hi.1
  have h1 := (pointsTo_split_subset (Ix := Unit) (Name := ℕ) (U := Pipeline.UD sig nD τ) (Lvl := ℕ) (q := fullShare) (f := g) hsub).1
  exact h1.trans (sep_mono_right (Entails.of_eq (congrArg (fun I => (scK.view.loc (c : Thread nD τ) ↦[I]{fullShare} g : sProp 𝕄)) hs)))

/-- One window put back in front of it, at any contents. -/
theorem fromK_join (c : Dev nD) (a : ℕ) (h : ∀ x, (![a, 0] : Fin 2 → ℕ) x + S16x768.size x ≤ S304x768.size x) :
    iprop((∃ g, dstPt (F := F) c scK ![a, 0] h g) ∗ (∃ f, scK.view.loc (c : Thread nD τ) ↦[fromK c (a + 16)]{fullShare} f))
      ⊢ (iprop(∃ f, scK.view.loc (c : Thread nD τ) ↦[fromK c a]{fullShare} f) : sProp 𝕄) := by
  have hu : ((dstW scK ![a, 0] h).view.set : Finset S304x768.Idx) ∪ fromK c (a + 16) = fromK c a := by
    ext i; rw [Finset.mem_union, mem_winK c a h i]; simp only [fromK, Finset.mem_filter, Finset.mem_univ, true_and]; omega
  have hd : Disjoint ((dstW scK ![a, 0] h).view.set : Finset S304x768.Idx) (fromK c (a + 16)) := by
    rw [Finset.disjoint_left]; intro i hi; rw [mem_winK c a h i] at hi; simp only [fromK, Finset.mem_filter, Finset.mem_univ, true_and]; omega
  iintro ⟨⟨%g, HD⟩, ⟨%f, HF⟩⟩
  iexists _
  rw [← hu]
  iapply (pointsTo_join hd)
  isplitl [HD]; · iexact HD
  iexact HF

/-- Past the last row nothing is held. -/
theorem fromK_end (c : Dev nD) : (emp : sProp 𝕄) ⊢ (iprop(∃ f : BufOf (F := F) c scK, scK.view.loc (c : Thread nD τ) ↦[fromK c 304]{fullShare} f) : sProp 𝕄) := by
  have he : fromK c 304 = ∅ := by
    refine Finset.eq_empty_of_forall_notMem fun (i : S304x768.Idx) hi => ?_
    have h1 : (i 0).val < 304 := (i 0).isLt
    have h2 : 304 ≤ (i 0).val := (Finset.mem_filter.mp hi).2
    omega
  iintro -
  iexists scK.view.junk
  rw [he, pointsTo_empty]; iempintro

/-- The scratch as its nineteen windows, -/
abbrev winsK (c : Dev nD) (g : BufOf (F := F) c scK) : sProp 𝕄 :=
  iprop(dstPt c scK ![0, 0] inb_S304x768_S16x768_0_0 g ∗ dstPt c scK ![16, 0] inb_S304x768_S16x768_16_0 g ∗ dstPt c scK ![32, 0] inb_S304x768_S16x768_32_0 g ∗ dstPt c scK ![48, 0] inb_S304x768_S16x768_48_0 g ∗ dstPt c scK ![64, 0] inb_S304x768_S16x768_64_0 g ∗ dstPt c scK ![80, 0] inb_S304x768_S16x768_80_0 g ∗ dstPt c scK ![96, 0] inb_S304x768_S16x768_96_0 g ∗ dstPt c scK ![112, 0] inb_S304x768_S16x768_112_0 g ∗ dstPt c scK ![128, 0] inb_S304x768_S16x768_128_0 g ∗ dstPt c scK ![144, 0] inb_S304x768_S16x768_144_0 g ∗ dstPt c scK ![160, 0] inb_S304x768_S16x768_160_0 g ∗ dstPt c scK ![176, 0] inb_S304x768_S16x768_176_0 g ∗ dstPt c scK ![192, 0] inb_S304x768_S16x768_192_0 g ∗ dstPt c scK ![208, 0] inb_S304x768_S16x768_208_0 g ∗ dstPt c scK ![224, 0] inb_S304x768_S16x768_224_0 g ∗ dstPt c scK ![240, 0] inb_S304x768_S16x768_240_0 g ∗ dstPt c scK ![256, 0] inb_S304x768_S16x768_256_0 g ∗ dstPt c scK ![272, 0] inb_S304x768_S16x768_272_0 g ∗ dstPt c scK ![288, 0] inb_S304x768_S16x768_288_0 g)
theorem winsK_split (c : Dev nD) (g : BufOf (F := F) c scK) : heldPt c scK g ⊢ (winsK c g : sProp 𝕄) := by
  unfold heldPt; rw [← fromK_zero c]
  iintro H
  ihave H := (fromK_split c 0 inb_S304x768_S16x768_0_0 g) $$ H; icases H with ⟨H0, H⟩
  ihave H := (fromK_split c 16 inb_S304x768_S16x768_16_0 g) $$ H; icases H with ⟨H1, H⟩
  ihave H := (fromK_split c 32 inb_S304x768_S16x768_32_0 g) $$ H; icases H with ⟨H2, H⟩
  ihave H := (fromK_split c 48 inb_S304x768_S16x768_48_0 g) $$ H; icases H with ⟨H3, H⟩
  ihave H := (fromK_split c 64 inb_S304x768_S16x768_64_0 g) $$ H; icases H with ⟨H4, H⟩
  ihave H := (fromK_split c 80 inb_S304x768_S16x768_80_0 g) $$ H; icases H with ⟨H5, H⟩
  ihave H := (fromK_split c 96 inb_S304x768_S16x768_96_0 g) $$ H; icases H with ⟨H6, H⟩
  ihave H := (fromK_split c 112 inb_S304x768_S16x768_112_0 g) $$ H; icases H with ⟨H7, H⟩
  ihave H := (fromK_split c 128 inb_S304x768_S16x768_128_0 g) $$ H; icases H with ⟨H8, H⟩
  ihave H := (fromK_split c 144 inb_S304x768_S16x768_144_0 g) $$ H; icases H with ⟨H9, H⟩
  ihave H := (fromK_split c 160 inb_S304x768_S16x768_160_0 g) $$ H; icases H with ⟨H10, H⟩
  ihave H := (fromK_split c 176 inb_S304x768_S16x768_176_0 g) $$ H; icases H with ⟨H11, H⟩
  ihave H := (fromK_split c 192 inb_S304x768_S16x768_192_0 g) $$ H; icases H with ⟨H12, H⟩
  ihave H := (fromK_split c 208 inb_S304x768_S16x768_208_0 g) $$ H; icases H with ⟨H13, H⟩
  ihave H := (fromK_split c 224 inb_S304x768_S16x768_224_0 g) $$ H; icases H with ⟨H14, H⟩
  ihave H := (fromK_split c 240 inb_S304x768_S16x768_240_0 g) $$ H; icases H with ⟨H15, H⟩
  ihave H := (fromK_split c 256 inb_S304x768_S16x768_256_0 g) $$ H; icases H with ⟨H16, H⟩
  ihave H := (fromK_split c 272 inb_S304x768_S16x768_272_0 g) $$ H; icases H with ⟨H17, H⟩
  ihave H := (fromK_split c 288 inb_S304x768_S16x768_288_0 g) $$ H; icases H with ⟨H18, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
/-- and the windows, each at some contents, as the scratch. -/
theorem winsK_join (c : Dev nD) :
    iprop((∃ g, dstPt (F := F) c scK ![0, 0] inb_S304x768_S16x768_0_0 g) ∗ (∃ g, dstPt (F := F) c scK ![16, 0] inb_S304x768_S16x768_16_0 g) ∗ (∃ g, dstPt (F := F) c scK ![32, 0] inb_S304x768_S16x768_32_0 g) ∗ (∃ g, dstPt (F := F) c scK ![48, 0] inb_S304x768_S16x768_48_0 g) ∗ (∃ g, dstPt (F := F) c scK ![64, 0] inb_S304x768_S16x768_64_0 g) ∗ (∃ g, dstPt (F := F) c scK ![80, 0] inb_S304x768_S16x768_80_0 g) ∗ (∃ g, dstPt (F := F) c scK ![96, 0] inb_S304x768_S16x768_96_0 g) ∗ (∃ g, dstPt (F := F) c scK ![112, 0] inb_S304x768_S16x768_112_0 g) ∗ (∃ g, dstPt (F := F) c scK ![128, 0] inb_S304x768_S16x768_128_0 g) ∗ (∃ g, dstPt (F := F) c scK ![144, 0] inb_S304x768_S16x768_144_0 g) ∗ (∃ g, dstPt (F := F) c scK ![160, 0] inb_S304x768_S16x768_160_0 g) ∗ (∃ g, dstPt (F := F) c scK ![176, 0] inb_S304x768_S16x768_176_0 g) ∗ (∃ g, dstPt (F := F) c scK ![192, 0] inb_S304x768_S16x768_192_0 g) ∗ (∃ g, dstPt (F := F) c scK ![208, 0] inb_S304x768_S16x768_208_0 g) ∗ (∃ g, dstPt (F := F) c scK ![224, 0] inb_S304x768_S16x768_224_0 g) ∗ (∃ g, dstPt (F := F) c scK ![240, 0] inb_S304x768_S16x768_240_0 g) ∗ (∃ g, dstPt (F := F) c scK ![256, 0] inb_S304x768_S16x768_256_0 g) ∗ (∃ g, dstPt (F := F) c scK ![272, 0] inb_S304x768_S16x768_272_0 g) ∗ (∃ g, dstPt (F := F) c scK ![288, 0] inb_S304x768_S16x768_288_0 g)) ⊢ (iprop(∃ g, heldPt (F := F) c scK g) : sProp 𝕄) := by
  unfold heldPt; rw [← fromK_zero c]
  iintro ⟨H0, H1, H2, H3, H4, H5, H6, H7, H8, H9, H10, H11, H12, H13, H14, H15, H16, H17, H18⟩
  ihave H := (fromK_end (F := F) c) $$ []
  · iempintro
  ihave H := (fromK_join (F := F) c 288 inb_S304x768_S16x768_288_0) $$ [H18 H]
  · isplitl [H18]; · iexact H18
    iexact H
  ihave H := (fromK_join (F := F) c 272 inb_S304x768_S16x768_272_0) $$ [H17 H]
  · isplitl [H17]; · iexact H17
    iexact H
  ihave H := (fromK_join (F := F) c 256 inb_S304x768_S16x768_256_0) $$ [H16 H]
  · isplitl [H16]; · iexact H16
    iexact H
  ihave H := (fromK_join (F := F) c 240 inb_S304x768_S16x768_240_0) $$ [H15 H]
  · isplitl [H15]; · iexact H15
    iexact H
  ihave H := (fromK_join (F := F) c 224 inb_S304x768_S16x768_224_0) $$ [H14 H]
  · isplitl [H14]; · iexact H14
    iexact H
  ihave H := (fromK_join (F := F) c 208 inb_S304x768_S16x768_208_0) $$ [H13 H]
  · isplitl [H13]; · iexact H13
    iexact H
  ihave H := (fromK_join (F := F) c 192 inb_S304x768_S16x768_192_0) $$ [H12 H]
  · isplitl [H12]; · iexact H12
    iexact H
  ihave H := (fromK_join (F := F) c 176 inb_S304x768_S16x768_176_0) $$ [H11 H]
  · isplitl [H11]; · iexact H11
    iexact H
  ihave H := (fromK_join (F := F) c 160 inb_S304x768_S16x768_160_0) $$ [H10 H]
  · isplitl [H10]; · iexact H10
    iexact H
  ihave H := (fromK_join (F := F) c 144 inb_S304x768_S16x768_144_0) $$ [H9 H]
  · isplitl [H9]; · iexact H9
    iexact H
  ihave H := (fromK_join (F := F) c 128 inb_S304x768_S16x768_128_0) $$ [H8 H]
  · isplitl [H8]; · iexact H8
    iexact H
  ihave H := (fromK_join (F := F) c 112 inb_S304x768_S16x768_112_0) $$ [H7 H]
  · isplitl [H7]; · iexact H7
    iexact H
  ihave H := (fromK_join (F := F) c 96 inb_S304x768_S16x768_96_0) $$ [H6 H]
  · isplitl [H6]; · iexact H6
    iexact H
  ihave H := (fromK_join (F := F) c 80 inb_S304x768_S16x768_80_0) $$ [H5 H]
  · isplitl [H5]; · iexact H5
    iexact H
  ihave H := (fromK_join (F := F) c 64 inb_S304x768_S16x768_64_0) $$ [H4 H]
  · isplitl [H4]; · iexact H4
    iexact H
  ihave H := (fromK_join (F := F) c 48 inb_S304x768_S16x768_48_0) $$ [H3 H]
  · isplitl [H3]; · iexact H3
    iexact H
  ihave H := (fromK_join (F := F) c 32 inb_S304x768_S16x768_32_0) $$ [H2 H]
  · isplitl [H2]; · iexact H2
    iexact H
  ihave H := (fromK_join (F := F) c 16 inb_S304x768_S16x768_16_0) $$ [H1 H]
  · isplitl [H1]; · iexact H1
    iexact H
  ihave H := (fromK_join (F := F) c 0 inb_S304x768_S16x768_0_0) $$ [H0 H]
  · isplitl [H0]; · iexact H0
    iexact H
  iexact H

/-- What is left of a read share of a source once its window is lent. -/
abbrev restPt (c : Dev nD) (M : Memref sig .tc .hbm S2048x768 .f32) (r : Fin 2 → ℕ) (h : ∀ a, r a + S16x768.size a ≤ S2048x768.size a)
    (q : PosShare TreeShare) (f : BufOf (F := F) c M) : sProp 𝕄 := M.view.loc (c : Thread nD τ) ↦[M.view.set \ (srcW M r h).view.set]{q} f

/-- One read share taken off, its window apart. -/
theorem src_step (c : Dev nD) (M : Memref sig .tc .hbm S2048x768 .f32) (r : Fin 2 → ℕ) (h : ∀ a, r a + S16x768.size a ≤ S2048x768.size a)
    (f : BufOf (F := F) c M) (k : ℕ) :
    (M.view.loc (c : Thread nD τ) ↦[M.view.set]{Transfers.shareDrop fullShare k} f : sProp 𝕄)
      ⊣⊢ iprop((srcPt c M r h (Transfers.shareTokN fullShare k) f ∗ restPt c M r h (Transfers.shareTokN fullShare k) f)
          ∗ (M.view.loc (c : Thread nD τ) ↦[M.view.set]{Transfers.shareDrop fullShare (k + 1)} f)) := by
  have h1 : (M.view.loc (c : Thread nD τ) ↦[M.view.set]{Transfers.shareDrop fullShare k} f : sProp 𝕄)
      ⊣⊢ iprop((M.view.loc (c : Thread nD τ) ↦[M.view.set]{Transfers.shareDrop fullShare (k + 1)} f)
        ∗ (M.view.loc (c : Thread nD τ) ↦[M.view.set]{Transfers.shareTokN fullShare k} f)) := pointsTo_share (PosShare.mem_left_op_right _)
  have h2 : (M.view.loc (c : Thread nD τ) ↦[M.view.set]{Transfers.shareTokN fullShare k} f : sProp 𝕄)
      ⊣⊢ iprop(srcPt c M r h (Transfers.shareTokN fullShare k) f ∗ restPt c M r h (Transfers.shareTokN fullShare k) f) :=
    pointsTo_split_subset (View.set_slice_subset _ _)
  constructor
  · iintro H
    ihave H := h1.1 $$ H; icases H with ⟨HD, HT⟩
    isplitl [HT]; · iapply h2.1; iexact HT
    iexact HD
  · iintro ⟨HT, HD⟩
    iapply h1.2
    isplitl [HD]; · iexact HD
    iapply h2.2; iexact HT

/-- What stays behind of a source while its nineteen windows are lent, -/
def parkQ (c : Dev nD) (fq : BufOf (F := F) c hbQ) : sProp 𝕄 :=
  iprop((restPt c hbQ ![80, 0] inb_S2048x768_S16x768_80_0 (Transfers.shareTokN fullShare 0) fq) ∗ (restPt c hbQ ![528, 0] inb_S2048x768_S16x768_528_0 (Transfers.shareTokN fullShare 1) fq) ∗ (restPt c hbQ ![616, 0] inb_S2048x768_S16x768_616_0 (Transfers.shareTokN fullShare 2) fq) ∗ (restPt c hbQ ![728, 0] inb_S2048x768_S16x768_728_0 (Transfers.shareTokN fullShare 3) fq) ∗ (restPt c hbQ ![784, 0] inb_S2048x768_S16x768_784_0 (Transfers.shareTokN fullShare 4) fq) ∗ (restPt c hbQ ![824, 0] inb_S2048x768_S16x768_824_0 (Transfers.shareTokN fullShare 5) fq) ∗ (restPt c hbQ ![856, 0] inb_S2048x768_S16x768_856_0 (Transfers.shareTokN fullShare 6) fq) ∗ (restPt c hbQ ![976, 0] inb_S2048x768_S16x768_976_0 (Transfers.shareTokN fullShare 7) fq) ∗ (restPt c hbQ ![992, 0] inb_S2048x768_S16x768_992_0 (Transfers.shareTokN fullShare 8) fq) ∗ (restPt c hbQ ![1040, 0] inb_S2048x768_S16x768_1040_0 (Transfers.shareTokN fullShare 9) fq) ∗ (restPt c hbQ ![1192, 0] inb_S2048x768_S16x768_1192_0 (Transfers.shareTokN fullShare 10) fq) ∗ (restPt c hbQ ![1552, 0] inb_S2048x768_S16x768_1552_0 (Transfers.shareTokN fullShare 11) fq) ∗ (restPt c hbQ ![1600, 0] inb_S2048x768_S16x768_1600_0 (Transfers.shareTokN fullShare 12) fq) ∗ (restPt c hbQ ![1696, 0] inb_S2048x768_S16x768_1696_0 (Transfers.shareTokN fullShare 13) fq) ∗ (restPt c hbQ ![1728, 0] inb_S2048x768_S16x768_1728_0 (Transfers.shareTokN fullShare 14) fq) ∗ (restPt c hbQ ![1816, 0] inb_S2048x768_S16x768_1816_0 (Transfers.shareTokN fullShare 15) fq) ∗ (restPt c hbQ ![1880, 0] inb_S2048x768_S16x768_1880_0 (Transfers.shareTokN fullShare 16) fq) ∗ (restPt c hbQ ![1976, 0] inb_S2048x768_S16x768_1976_0 (Transfers.shareTokN fullShare 17) fq) ∗ (restPt c hbQ ![1976, 0] inb_S2048x768_S16x768_1976_0 (Transfers.shareTokN fullShare 18) fq) ∗ (hbQ.view.loc (c : Thread nD τ) ↦[hbQ.view.set]{Transfers.shareDrop fullShare 19} fq))
/-- the windows, -/
abbrev srcsQ (c : Dev nD) (fq : BufOf (F := F) c hbQ) : sProp 𝕄 :=
  iprop((srcPt c hbQ ![80, 0] inb_S2048x768_S16x768_80_0 (Transfers.shareTokN fullShare 0) fq) ∗ (srcPt c hbQ ![528, 0] inb_S2048x768_S16x768_528_0 (Transfers.shareTokN fullShare 1) fq) ∗ (srcPt c hbQ ![616, 0] inb_S2048x768_S16x768_616_0 (Transfers.shareTokN fullShare 2) fq) ∗ (srcPt c hbQ ![728, 0] inb_S2048x768_S16x768_728_0 (Transfers.shareTokN fullShare 3) fq) ∗ (srcPt c hbQ ![784, 0] inb_S2048x768_S16x768_784_0 (Transfers.shareTokN fullShare 4) fq) ∗ (srcPt c hbQ ![824, 0] inb_S2048x768_S16x768_824_0 (Transfers.shareTokN fullShare 5) fq) ∗ (srcPt c hbQ ![856, 0] inb_S2048x768_S16x768_856_0 (Transfers.shareTokN fullShare 6) fq) ∗ (srcPt c hbQ ![976, 0] inb_S2048x768_S16x768_976_0 (Transfers.shareTokN fullShare 7) fq) ∗ (srcPt c hbQ ![992, 0] inb_S2048x768_S16x768_992_0 (Transfers.shareTokN fullShare 8) fq) ∗ (srcPt c hbQ ![1040, 0] inb_S2048x768_S16x768_1040_0 (Transfers.shareTokN fullShare 9) fq) ∗ (srcPt c hbQ ![1192, 0] inb_S2048x768_S16x768_1192_0 (Transfers.shareTokN fullShare 10) fq) ∗ (srcPt c hbQ ![1552, 0] inb_S2048x768_S16x768_1552_0 (Transfers.shareTokN fullShare 11) fq) ∗ (srcPt c hbQ ![1600, 0] inb_S2048x768_S16x768_1600_0 (Transfers.shareTokN fullShare 12) fq) ∗ (srcPt c hbQ ![1696, 0] inb_S2048x768_S16x768_1696_0 (Transfers.shareTokN fullShare 13) fq) ∗ (srcPt c hbQ ![1728, 0] inb_S2048x768_S16x768_1728_0 (Transfers.shareTokN fullShare 14) fq) ∗ (srcPt c hbQ ![1816, 0] inb_S2048x768_S16x768_1816_0 (Transfers.shareTokN fullShare 15) fq) ∗ (srcPt c hbQ ![1880, 0] inb_S2048x768_S16x768_1880_0 (Transfers.shareTokN fullShare 16) fq) ∗ (srcPt c hbQ ![1976, 0] inb_S2048x768_S16x768_1976_0 (Transfers.shareTokN fullShare 17) fq) ∗ (srcPt c hbQ ![1976, 0] inb_S2048x768_S16x768_1976_0 (Transfers.shareTokN fullShare 18) fq))
/-- and the two together are the source held whole. -/
theorem srcsQ_split (c : Dev nD) (fq : BufOf (F := F) c hbQ) : heldPt c hbQ fq ⊢ (iprop(parkQ c fq ∗ srcsQ c fq) : sProp 𝕄) := by
  unfold parkQ
  iintro H
  ihave H := (show heldPt c hbQ fq ⊢ _ from (src_step c hbQ ![80, 0] inb_S2048x768_S16x768_80_0 fq 0).1) $$ H; icases H with ⟨⟨HS0, HR0⟩, H⟩
  ihave H := ((src_step c hbQ ![528, 0] inb_S2048x768_S16x768_528_0 fq 1).1) $$ H; icases H with ⟨⟨HS1, HR1⟩, H⟩
  ihave H := ((src_step c hbQ ![616, 0] inb_S2048x768_S16x768_616_0 fq 2).1) $$ H; icases H with ⟨⟨HS2, HR2⟩, H⟩
  ihave H := ((src_step c hbQ ![728, 0] inb_S2048x768_S16x768_728_0 fq 3).1) $$ H; icases H with ⟨⟨HS3, HR3⟩, H⟩
  ihave H := ((src_step c hbQ ![784, 0] inb_S2048x768_S16x768_784_0 fq 4).1) $$ H; icases H with ⟨⟨HS4, HR4⟩, H⟩
  ihave H := ((src_step c hbQ ![824, 0] inb_S2048x768_S16x768_824_0 fq 5).1) $$ H; icases H with ⟨⟨HS5, HR5⟩, H⟩
  ihave H := ((src_step c hbQ ![856, 0] inb_S2048x768_S16x768_856_0 fq 6).1) $$ H; icases H with ⟨⟨HS6, HR6⟩, H⟩
  ihave H := ((src_step c hbQ ![976, 0] inb_S2048x768_S16x768_976_0 fq 7).1) $$ H; icases H with ⟨⟨HS7, HR7⟩, H⟩
  ihave H := ((src_step c hbQ ![992, 0] inb_S2048x768_S16x768_992_0 fq 8).1) $$ H; icases H with ⟨⟨HS8, HR8⟩, H⟩
  ihave H := ((src_step c hbQ ![1040, 0] inb_S2048x768_S16x768_1040_0 fq 9).1) $$ H; icases H with ⟨⟨HS9, HR9⟩, H⟩
  ihave H := ((src_step c hbQ ![1192, 0] inb_S2048x768_S16x768_1192_0 fq 10).1) $$ H; icases H with ⟨⟨HS10, HR10⟩, H⟩
  ihave H := ((src_step c hbQ ![1552, 0] inb_S2048x768_S16x768_1552_0 fq 11).1) $$ H; icases H with ⟨⟨HS11, HR11⟩, H⟩
  ihave H := ((src_step c hbQ ![1600, 0] inb_S2048x768_S16x768_1600_0 fq 12).1) $$ H; icases H with ⟨⟨HS12, HR12⟩, H⟩
  ihave H := ((src_step c hbQ ![1696, 0] inb_S2048x768_S16x768_1696_0 fq 13).1) $$ H; icases H with ⟨⟨HS13, HR13⟩, H⟩
  ihave H := ((src_step c hbQ ![1728, 0] inb_S2048x768_S16x768_1728_0 fq 14).1) $$ H; icases H with ⟨⟨HS14, HR14⟩, H⟩
  ihave H := ((src_step c hbQ ![1816, 0] inb_S2048x768_S16x768_1816_0 fq 15).1) $$ H; icases H with ⟨⟨HS15, HR15⟩, H⟩
  ihave H := ((src_step c hbQ ![1880, 0] inb_S2048x768_S16x768_1880_0 fq 16).1) $$ H; icases H with ⟨⟨HS16, HR16⟩, H⟩
  ihave H := ((src_step c hbQ ![1976, 0] inb_S2048x768_S16x768_1976_0 fq 17).1) $$ H; icases H with ⟨⟨HS17, HR17⟩, H⟩
  ihave H := ((src_step c hbQ ![1976, 0] inb_S2048x768_S16x768_1976_0 fq 18).1) $$ H; icases H with ⟨⟨HS18, HR18⟩, H⟩
  isplitl [H HR0 HR1 HR2 HR3 HR4 HR5 HR6 HR7 HR8 HR9 HR10 HR11 HR12 HR13 HR14 HR15 HR16 HR17 HR18]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    iexact H
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  iexact HS18
theorem srcsQ_join (c : Dev nD) (fq : BufOf (F := F) c hbQ) : (iprop(parkQ c fq ∗ srcsQ c fq) : sProp 𝕄) ⊢ heldPt c hbQ fq := by
  unfold parkQ
  iintro ⟨⟨HR0, HR1, HR2, HR3, HR4, HR5, HR6, HR7, HR8, HR9, HR10, HR11, HR12, HR13, HR14, HR15, HR16, HR17, HR18, H⟩, HS0, HS1, HS2, HS3, HS4, HS5, HS6, HS7, HS8, HS9, HS10, HS11, HS12, HS13, HS14, HS15, HS16, HS17, HS18⟩
  ihave H := (src_step c hbQ ![1976, 0] inb_S2048x768_S16x768_1976_0 fq 18).2 $$ [HS18 HR18 H]
  · isplitl [HS18 HR18]
    · isplitl [HS18]; · iexact HS18
      iexact HR18
    iexact H
  ihave H := (src_step c hbQ ![1976, 0] inb_S2048x768_S16x768_1976_0 fq 17).2 $$ [HS17 HR17 H]
  · isplitl [HS17 HR17]
    · isplitl [HS17]; · iexact HS17
      iexact HR17
    iexact H
  ihave H := (src_step c hbQ ![1880, 0] inb_S2048x768_S16x768_1880_0 fq 16).2 $$ [HS16 HR16 H]
  · isplitl [HS16 HR16]
    · isplitl [HS16]; · iexact HS16
      iexact HR16
    iexact H
  ihave H := (src_step c hbQ ![1816, 0] inb_S2048x768_S16x768_1816_0 fq 15).2 $$ [HS15 HR15 H]
  · isplitl [HS15 HR15]
    · isplitl [HS15]; · iexact HS15
      iexact HR15
    iexact H
  ihave H := (src_step c hbQ ![1728, 0] inb_S2048x768_S16x768_1728_0 fq 14).2 $$ [HS14 HR14 H]
  · isplitl [HS14 HR14]
    · isplitl [HS14]; · iexact HS14
      iexact HR14
    iexact H
  ihave H := (src_step c hbQ ![1696, 0] inb_S2048x768_S16x768_1696_0 fq 13).2 $$ [HS13 HR13 H]
  · isplitl [HS13 HR13]
    · isplitl [HS13]; · iexact HS13
      iexact HR13
    iexact H
  ihave H := (src_step c hbQ ![1600, 0] inb_S2048x768_S16x768_1600_0 fq 12).2 $$ [HS12 HR12 H]
  · isplitl [HS12 HR12]
    · isplitl [HS12]; · iexact HS12
      iexact HR12
    iexact H
  ihave H := (src_step c hbQ ![1552, 0] inb_S2048x768_S16x768_1552_0 fq 11).2 $$ [HS11 HR11 H]
  · isplitl [HS11 HR11]
    · isplitl [HS11]; · iexact HS11
      iexact HR11
    iexact H
  ihave H := (src_step c hbQ ![1192, 0] inb_S2048x768_S16x768_1192_0 fq 10).2 $$ [HS10 HR10 H]
  · isplitl [HS10 HR10]
    · isplitl [HS10]; · iexact HS10
      iexact HR10
    iexact H
  ihave H := (src_step c hbQ ![1040, 0] inb_S2048x768_S16x768_1040_0 fq 9).2 $$ [HS9 HR9 H]
  · isplitl [HS9 HR9]
    · isplitl [HS9]; · iexact HS9
      iexact HR9
    iexact H
  ihave H := (src_step c hbQ ![992, 0] inb_S2048x768_S16x768_992_0 fq 8).2 $$ [HS8 HR8 H]
  · isplitl [HS8 HR8]
    · isplitl [HS8]; · iexact HS8
      iexact HR8
    iexact H
  ihave H := (src_step c hbQ ![976, 0] inb_S2048x768_S16x768_976_0 fq 7).2 $$ [HS7 HR7 H]
  · isplitl [HS7 HR7]
    · isplitl [HS7]; · iexact HS7
      iexact HR7
    iexact H
  ihave H := (src_step c hbQ ![856, 0] inb_S2048x768_S16x768_856_0 fq 6).2 $$ [HS6 HR6 H]
  · isplitl [HS6 HR6]
    · isplitl [HS6]; · iexact HS6
      iexact HR6
    iexact H
  ihave H := (src_step c hbQ ![824, 0] inb_S2048x768_S16x768_824_0 fq 5).2 $$ [HS5 HR5 H]
  · isplitl [HS5 HR5]
    · isplitl [HS5]; · iexact HS5
      iexact HR5
    iexact H
  ihave H := (src_step c hbQ ![784, 0] inb_S2048x768_S16x768_784_0 fq 4).2 $$ [HS4 HR4 H]
  · isplitl [HS4 HR4]
    · isplitl [HS4]; · iexact HS4
      iexact HR4
    iexact H
  ihave H := (src_step c hbQ ![728, 0] inb_S2048x768_S16x768_728_0 fq 3).2 $$ [HS3 HR3 H]
  · isplitl [HS3 HR3]
    · isplitl [HS3]; · iexact HS3
      iexact HR3
    iexact H
  ihave H := (src_step c hbQ ![616, 0] inb_S2048x768_S16x768_616_0 fq 2).2 $$ [HS2 HR2 H]
  · isplitl [HS2 HR2]
    · isplitl [HS2]; · iexact HS2
      iexact HR2
    iexact H
  ihave H := (src_step c hbQ ![528, 0] inb_S2048x768_S16x768_528_0 fq 1).2 $$ [HS1 HR1 H]
  · isplitl [HS1 HR1]
    · isplitl [HS1]; · iexact HS1
      iexact HR1
    iexact H
  ihave H := (src_step c hbQ ![80, 0] inb_S2048x768_S16x768_80_0 fq 0).2 $$ [HS0 HR0 H]
  · isplitl [HS0 HR0]
    · isplitl [HS0]; · iexact HS0
      iexact HR0
    iexact H
  iexact H

/-- What stays behind of a source while its nineteen windows are lent, -/
def parkK (c : Dev nD) (fk : BufOf (F := F) c hbK) : sProp 𝕄 :=
  iprop((restPt c hbK ![80, 0] inb_S2048x768_S16x768_80_0 (Transfers.shareTokN fullShare 0) fk) ∗ (restPt c hbK ![528, 0] inb_S2048x768_S16x768_528_0 (Transfers.shareTokN fullShare 1) fk) ∗ (restPt c hbK ![616, 0] inb_S2048x768_S16x768_616_0 (Transfers.shareTokN fullShare 2) fk) ∗ (restPt c hbK ![728, 0] inb_S2048x768_S16x768_728_0 (Transfers.shareTokN fullShare 3) fk) ∗ (restPt c hbK ![784, 0] inb_S2048x768_S16x768_784_0 (Transfers.shareTokN fullShare 4) fk) ∗ (restPt c hbK ![824, 0] inb_S2048x768_S16x768_824_0 (Transfers.shareTokN fullShare 5) fk) ∗ (restPt c hbK ![856, 0] inb_S2048x768_S16x768_856_0 (Transfers.shareTokN fullShare 6) fk) ∗ (restPt c hbK ![976, 0] inb_S2048x768_S16x768_976_0 (Transfers.shareTokN fullShare 7) fk) ∗ (restPt c hbK ![992, 0] inb_S2048x768_S16x768_992_0 (Transfers.shareTokN fullShare 8) fk) ∗ (restPt c hbK ![1040, 0] inb_S2048x768_S16x768_1040_0 (Transfers.shareTokN fullShare 9) fk) ∗ (restPt c hbK ![1192, 0] inb_S2048x768_S16x768_1192_0 (Transfers.shareTokN fullShare 10) fk) ∗ (restPt c hbK ![1552, 0] inb_S2048x768_S16x768_1552_0 (Transfers.shareTokN fullShare 11) fk) ∗ (restPt c hbK ![1600, 0] inb_S2048x768_S16x768_1600_0 (Transfers.shareTokN fullShare 12) fk) ∗ (restPt c hbK ![1696, 0] inb_S2048x768_S16x768_1696_0 (Transfers.shareTokN fullShare 13) fk) ∗ (restPt c hbK ![1728, 0] inb_S2048x768_S16x768_1728_0 (Transfers.shareTokN fullShare 14) fk) ∗ (restPt c hbK ![1816, 0] inb_S2048x768_S16x768_1816_0 (Transfers.shareTokN fullShare 15) fk) ∗ (restPt c hbK ![1880, 0] inb_S2048x768_S16x768_1880_0 (Transfers.shareTokN fullShare 16) fk) ∗ (restPt c hbK ![1976, 0] inb_S2048x768_S16x768_1976_0 (Transfers.shareTokN fullShare 17) fk) ∗ (restPt c hbK ![1976, 0] inb_S2048x768_S16x768_1976_0 (Transfers.shareTokN fullShare 18) fk) ∗ (hbK.view.loc (c : Thread nD τ) ↦[hbK.view.set]{Transfers.shareDrop fullShare 19} fk))
/-- the windows, -/
abbrev srcsK (c : Dev nD) (fk : BufOf (F := F) c hbK) : sProp 𝕄 :=
  iprop((srcPt c hbK ![80, 0] inb_S2048x768_S16x768_80_0 (Transfers.shareTokN fullShare 0) fk) ∗ (srcPt c hbK ![528, 0] inb_S2048x768_S16x768_528_0 (Transfers.shareTokN fullShare 1) fk) ∗ (srcPt c hbK ![616, 0] inb_S2048x768_S16x768_616_0 (Transfers.shareTokN fullShare 2) fk) ∗ (srcPt c hbK ![728, 0] inb_S2048x768_S16x768_728_0 (Transfers.shareTokN fullShare 3) fk) ∗ (srcPt c hbK ![784, 0] inb_S2048x768_S16x768_784_0 (Transfers.shareTokN fullShare 4) fk) ∗ (srcPt c hbK ![824, 0] inb_S2048x768_S16x768_824_0 (Transfers.shareTokN fullShare 5) fk) ∗ (srcPt c hbK ![856, 0] inb_S2048x768_S16x768_856_0 (Transfers.shareTokN fullShare 6) fk) ∗ (srcPt c hbK ![976, 0] inb_S2048x768_S16x768_976_0 (Transfers.shareTokN fullShare 7) fk) ∗ (srcPt c hbK ![992, 0] inb_S2048x768_S16x768_992_0 (Transfers.shareTokN fullShare 8) fk) ∗ (srcPt c hbK ![1040, 0] inb_S2048x768_S16x768_1040_0 (Transfers.shareTokN fullShare 9) fk) ∗ (srcPt c hbK ![1192, 0] inb_S2048x768_S16x768_1192_0 (Transfers.shareTokN fullShare 10) fk) ∗ (srcPt c hbK ![1552, 0] inb_S2048x768_S16x768_1552_0 (Transfers.shareTokN fullShare 11) fk) ∗ (srcPt c hbK ![1600, 0] inb_S2048x768_S16x768_1600_0 (Transfers.shareTokN fullShare 12) fk) ∗ (srcPt c hbK ![1696, 0] inb_S2048x768_S16x768_1696_0 (Transfers.shareTokN fullShare 13) fk) ∗ (srcPt c hbK ![1728, 0] inb_S2048x768_S16x768_1728_0 (Transfers.shareTokN fullShare 14) fk) ∗ (srcPt c hbK ![1816, 0] inb_S2048x768_S16x768_1816_0 (Transfers.shareTokN fullShare 15) fk) ∗ (srcPt c hbK ![1880, 0] inb_S2048x768_S16x768_1880_0 (Transfers.shareTokN fullShare 16) fk) ∗ (srcPt c hbK ![1976, 0] inb_S2048x768_S16x768_1976_0 (Transfers.shareTokN fullShare 17) fk) ∗ (srcPt c hbK ![1976, 0] inb_S2048x768_S16x768_1976_0 (Transfers.shareTokN fullShare 18) fk))
/-- and the two together are the source held whole. -/
theorem srcsK_split (c : Dev nD) (fk : BufOf (F := F) c hbK) : heldPt c hbK fk ⊢ (iprop(parkK c fk ∗ srcsK c fk) : sProp 𝕄) := by
  unfold parkK
  iintro H
  ihave H := (show heldPt c hbK fk ⊢ _ from (src_step c hbK ![80, 0] inb_S2048x768_S16x768_80_0 fk 0).1) $$ H; icases H with ⟨⟨HS0, HR0⟩, H⟩
  ihave H := ((src_step c hbK ![528, 0] inb_S2048x768_S16x768_528_0 fk 1).1) $$ H; icases H with ⟨⟨HS1, HR1⟩, H⟩
  ihave H := ((src_step c hbK ![616, 0] inb_S2048x768_S16x768_616_0 fk 2).1) $$ H; icases H with ⟨⟨HS2, HR2⟩, H⟩
  ihave H := ((src_step c hbK ![728, 0] inb_S2048x768_S16x768_728_0 fk 3).1) $$ H; icases H with ⟨⟨HS3, HR3⟩, H⟩
  ihave H := ((src_step c hbK ![784, 0] inb_S2048x768_S16x768_784_0 fk 4).1) $$ H; icases H with ⟨⟨HS4, HR4⟩, H⟩
  ihave H := ((src_step c hbK ![824, 0] inb_S2048x768_S16x768_824_0 fk 5).1) $$ H; icases H with ⟨⟨HS5, HR5⟩, H⟩
  ihave H := ((src_step c hbK ![856, 0] inb_S2048x768_S16x768_856_0 fk 6).1) $$ H; icases H with ⟨⟨HS6, HR6⟩, H⟩
  ihave H := ((src_step c hbK ![976, 0] inb_S2048x768_S16x768_976_0 fk 7).1) $$ H; icases H with ⟨⟨HS7, HR7⟩, H⟩
  ihave H := ((src_step c hbK ![992, 0] inb_S2048x768_S16x768_992_0 fk 8).1) $$ H; icases H with ⟨⟨HS8, HR8⟩, H⟩
  ihave H := ((src_step c hbK ![1040, 0] inb_S2048x768_S16x768_1040_0 fk 9).1) $$ H; icases H with ⟨⟨HS9, HR9⟩, H⟩
  ihave H := ((src_step c hbK ![1192, 0] inb_S2048x768_S16x768_1192_0 fk 10).1) $$ H; icases H with ⟨⟨HS10, HR10⟩, H⟩
  ihave H := ((src_step c hbK ![1552, 0] inb_S2048x768_S16x768_1552_0 fk 11).1) $$ H; icases H with ⟨⟨HS11, HR11⟩, H⟩
  ihave H := ((src_step c hbK ![1600, 0] inb_S2048x768_S16x768_1600_0 fk 12).1) $$ H; icases H with ⟨⟨HS12, HR12⟩, H⟩
  ihave H := ((src_step c hbK ![1696, 0] inb_S2048x768_S16x768_1696_0 fk 13).1) $$ H; icases H with ⟨⟨HS13, HR13⟩, H⟩
  ihave H := ((src_step c hbK ![1728, 0] inb_S2048x768_S16x768_1728_0 fk 14).1) $$ H; icases H with ⟨⟨HS14, HR14⟩, H⟩
  ihave H := ((src_step c hbK ![1816, 0] inb_S2048x768_S16x768_1816_0 fk 15).1) $$ H; icases H with ⟨⟨HS15, HR15⟩, H⟩
  ihave H := ((src_step c hbK ![1880, 0] inb_S2048x768_S16x768_1880_0 fk 16).1) $$ H; icases H with ⟨⟨HS16, HR16⟩, H⟩
  ihave H := ((src_step c hbK ![1976, 0] inb_S2048x768_S16x768_1976_0 fk 17).1) $$ H; icases H with ⟨⟨HS17, HR17⟩, H⟩
  ihave H := ((src_step c hbK ![1976, 0] inb_S2048x768_S16x768_1976_0 fk 18).1) $$ H; icases H with ⟨⟨HS18, HR18⟩, H⟩
  isplitl [H HR0 HR1 HR2 HR3 HR4 HR5 HR6 HR7 HR8 HR9 HR10 HR11 HR12 HR13 HR14 HR15 HR16 HR17 HR18]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    iexact H
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  iexact HS18
theorem srcsK_join (c : Dev nD) (fk : BufOf (F := F) c hbK) : (iprop(parkK c fk ∗ srcsK c fk) : sProp 𝕄) ⊢ heldPt c hbK fk := by
  unfold parkK
  iintro ⟨⟨HR0, HR1, HR2, HR3, HR4, HR5, HR6, HR7, HR8, HR9, HR10, HR11, HR12, HR13, HR14, HR15, HR16, HR17, HR18, H⟩, HS0, HS1, HS2, HS3, HS4, HS5, HS6, HS7, HS8, HS9, HS10, HS11, HS12, HS13, HS14, HS15, HS16, HS17, HS18⟩
  ihave H := (src_step c hbK ![1976, 0] inb_S2048x768_S16x768_1976_0 fk 18).2 $$ [HS18 HR18 H]
  · isplitl [HS18 HR18]
    · isplitl [HS18]; · iexact HS18
      iexact HR18
    iexact H
  ihave H := (src_step c hbK ![1976, 0] inb_S2048x768_S16x768_1976_0 fk 17).2 $$ [HS17 HR17 H]
  · isplitl [HS17 HR17]
    · isplitl [HS17]; · iexact HS17
      iexact HR17
    iexact H
  ihave H := (src_step c hbK ![1880, 0] inb_S2048x768_S16x768_1880_0 fk 16).2 $$ [HS16 HR16 H]
  · isplitl [HS16 HR16]
    · isplitl [HS16]; · iexact HS16
      iexact HR16
    iexact H
  ihave H := (src_step c hbK ![1816, 0] inb_S2048x768_S16x768_1816_0 fk 15).2 $$ [HS15 HR15 H]
  · isplitl [HS15 HR15]
    · isplitl [HS15]; · iexact HS15
      iexact HR15
    iexact H
  ihave H := (src_step c hbK ![1728, 0] inb_S2048x768_S16x768_1728_0 fk 14).2 $$ [HS14 HR14 H]
  · isplitl [HS14 HR14]
    · isplitl [HS14]; · iexact HS14
      iexact HR14
    iexact H
  ihave H := (src_step c hbK ![1696, 0] inb_S2048x768_S16x768_1696_0 fk 13).2 $$ [HS13 HR13 H]
  · isplitl [HS13 HR13]
    · isplitl [HS13]; · iexact HS13
      iexact HR13
    iexact H
  ihave H := (src_step c hbK ![1600, 0] inb_S2048x768_S16x768_1600_0 fk 12).2 $$ [HS12 HR12 H]
  · isplitl [HS12 HR12]
    · isplitl [HS12]; · iexact HS12
      iexact HR12
    iexact H
  ihave H := (src_step c hbK ![1552, 0] inb_S2048x768_S16x768_1552_0 fk 11).2 $$ [HS11 HR11 H]
  · isplitl [HS11 HR11]
    · isplitl [HS11]; · iexact HS11
      iexact HR11
    iexact H
  ihave H := (src_step c hbK ![1192, 0] inb_S2048x768_S16x768_1192_0 fk 10).2 $$ [HS10 HR10 H]
  · isplitl [HS10 HR10]
    · isplitl [HS10]; · iexact HS10
      iexact HR10
    iexact H
  ihave H := (src_step c hbK ![1040, 0] inb_S2048x768_S16x768_1040_0 fk 9).2 $$ [HS9 HR9 H]
  · isplitl [HS9 HR9]
    · isplitl [HS9]; · iexact HS9
      iexact HR9
    iexact H
  ihave H := (src_step c hbK ![992, 0] inb_S2048x768_S16x768_992_0 fk 8).2 $$ [HS8 HR8 H]
  · isplitl [HS8 HR8]
    · isplitl [HS8]; · iexact HS8
      iexact HR8
    iexact H
  ihave H := (src_step c hbK ![976, 0] inb_S2048x768_S16x768_976_0 fk 7).2 $$ [HS7 HR7 H]
  · isplitl [HS7 HR7]
    · isplitl [HS7]; · iexact HS7
      iexact HR7
    iexact H
  ihave H := (src_step c hbK ![856, 0] inb_S2048x768_S16x768_856_0 fk 6).2 $$ [HS6 HR6 H]
  · isplitl [HS6 HR6]
    · isplitl [HS6]; · iexact HS6
      iexact HR6
    iexact H
  ihave H := (src_step c hbK ![824, 0] inb_S2048x768_S16x768_824_0 fk 5).2 $$ [HS5 HR5 H]
  · isplitl [HS5 HR5]
    · isplitl [HS5]; · iexact HS5
      iexact HR5
    iexact H
  ihave H := (src_step c hbK ![784, 0] inb_S2048x768_S16x768_784_0 fk 4).2 $$ [HS4 HR4 H]
  · isplitl [HS4 HR4]
    · isplitl [HS4]; · iexact HS4
      iexact HR4
    iexact H
  ihave H := (src_step c hbK ![728, 0] inb_S2048x768_S16x768_728_0 fk 3).2 $$ [HS3 HR3 H]
  · isplitl [HS3 HR3]
    · isplitl [HS3]; · iexact HS3
      iexact HR3
    iexact H
  ihave H := (src_step c hbK ![616, 0] inb_S2048x768_S16x768_616_0 fk 2).2 $$ [HS2 HR2 H]
  · isplitl [HS2 HR2]
    · isplitl [HS2]; · iexact HS2
      iexact HR2
    iexact H
  ihave H := (src_step c hbK ![528, 0] inb_S2048x768_S16x768_528_0 fk 1).2 $$ [HS1 HR1 H]
  · isplitl [HS1 HR1]
    · isplitl [HS1]; · iexact HS1
      iexact HR1
    iexact H
  ihave H := (src_step c hbK ![80, 0] inb_S2048x768_S16x768_80_0 fk 0).2 $$ [HS0 HR0 H]
  · isplitl [HS0 HR0]
    · isplitl [HS0]; · iexact HS0
      iexact HR0
    iexact H
  iexact H

end Cert.KernelIdeal.Hand

end
-- ==== Proof.KernelIdealDats.lean ====
module

public import Idealize.ShloMosaic.Lib.VecWindow
public import proofs.«01_k».proof.Proof.KernelIdealRun0
public import proofs.«01_k».proof.Proof.KernelIdealRun1
public import proofs.«01_k».proof.Proof.KernelIdealRun2
public import proofs.«01_k».proof.Proof.KernelIdealSplit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The staging memrefs are whole buffers. -/
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)

/-- The thirty-eight cells of the body's own copies. -/
abbrev osem0 : Fin 38 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42] : Fin 38 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37] (by decide) (by decide)]; rfl
/-- The arrays the copies read. -/
def H0 : Finset (Ref sig .tc) := {main_v0, main_v1}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_v0 ↦{fullShare} V m c main_v0) ∗ ((c : Thread nD τ).loc main_v1 ↦{fullShare} V m c main_v1)) := by
  rw [BI.bigSep_eq_bigSepL_of_eq [main_v0, main_v1] (by decide) (by decide)]; rfl
/-- The launch invariant opened. -/
theorem PhiD0_eq (c : Dev nD) :
    (Pipeline.ΦD osem0 spec0 H0 (V m) c : sProp 𝕄)
      = iprop(iprop((∃ f, heldPt c scAcc f) ∗ (∃ f, heldPt c scQ f) ∗ (∃ f, heldPt c scK f) ∗ (∃ f, heldPt c scV f) ∗ (∃ f, heldPt c scR f))
          ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0)
          ∗ iprop(heldPt c hbQ (V m c main_v0) ∗ heldPt c hbK (V m c main_v1))) := by
  rw [Pipeline.ΦD_eq, scopedRest0_eq, ownSems00_eq, hbmPts0_eq]
  simp only [heldPt, View.set_whole]; try rfl

/-! ## What the points leave -/

/-- The body's run at each point, on the blocks staged there. -/
def run0At (c : Dev nD) := run0 (F := F) c (st0_0 t0_0) (hs0_0 t0_0) (st0_1 t0_0) (hs0_1 t0_0) (st0_2 t0_0) (hs0_2 t0_0) ((st0_0 t0_0).view.rep (iblk m c 0 t0_0))
/-- The running sum after the first point. -/
def acc1 (c : Dev nD) : Vec F S1x768 .f32 := scAcc.view.read (Elt F) (scAcc.view.writes (Elt F) scAcc.view.junk (run0At m c).1)
/-- The first chunk's pieces of the value scratch. -/
abbrev vAt (c : Dev nD) : List (View.Piece (Elt F) S152x768 .f32) :=
  vPieces (k0_pay58 (vLoad0 (c := c) (st0_0 t0_0) ((st0_0 t0_0).view.rep (iblk m c 0 t0_0)))) (k0_pay59 (vLoad1 (c := c) (st0_0 t0_0) ((st0_0 t0_0).view.rep (iblk m c 0 t0_0)))) (k0_pay60 (vLoad2 (c := c) (st0_0 t0_0) ((st0_0 t0_0).view.rep (iblk m c 0 t0_0)))) (k0_pay61 (vLoad3 (c := c) (st0_0 t0_0) ((st0_0 t0_0).view.rep (iblk m c 0 t0_0)))) (k0_pay62 (vLoad4 (c := c) (st0_0 t0_0) ((st0_0 t0_0).view.rep (iblk m c 0 t0_0)))) (k0_pay63 (vLoad5 (c := c) (st0_0 t0_0) ((st0_0 t0_0).view.rep (iblk m c 0 t0_0)))) (k0_pay64 (vLoad6 (c := c) (st0_0 t0_0) ((st0_0 t0_0).view.rep (iblk m c 0 t0_0)))) (k0_pay65 (vLoad7 (c := c) (st0_0 t0_0) ((st0_0 t0_0).view.rep (iblk m c 0 t0_0)))) (k0_pay66 (vLoad8 (c := c) (st0_0 t0_0) ((st0_0 t0_0).view.rep (iblk m c 0 t0_0))))
def run1At (c : Dev nD) := run1 (F := F) c (st0_0 t0_1) (hs0_0 t0_1) (st0_1 t0_1) (hs0_1 t0_1) (st0_2 t0_1) (hs0_2 t0_1) (V m c main_v0) (V m c main_v1) (scAcc.view.rep (acc1 m c))
  (k0_pay58 (vLoad0 (c := c) (st0_0 t0_0) ((st0_0 t0_0).view.rep (iblk m c 0 t0_0)))) (k0_pay59 (vLoad1 (c := c) (st0_0 t0_0) ((st0_0 t0_0).view.rep (iblk m c 0 t0_0)))) (k0_pay60 (vLoad2 (c := c) (st0_0 t0_0) ((st0_0 t0_0).view.rep (iblk m c 0 t0_0)))) (k0_pay61 (vLoad3 (c := c) (st0_0 t0_0) ((st0_0 t0_0).view.rep (iblk m c 0 t0_0)))) (k0_pay62 (vLoad4 (c := c) (st0_0 t0_0) ((st0_0 t0_0).view.rep (iblk m c 0 t0_0)))) (k0_pay63 (vLoad5 (c := c) (st0_0 t0_0) ((st0_0 t0_0).view.rep (iblk m c 0 t0_0)))) (k0_pay64 (vLoad6 (c := c) (st0_0 t0_0) ((st0_0 t0_0).view.rep (iblk m c 0 t0_0)))) (k0_pay65 (vLoad7 (c := c) (st0_0 t0_0) ((st0_0 t0_0).view.rep (iblk m c 0 t0_0)))) (k0_pay66 (vLoad8 (c := c) (st0_0 t0_0) ((st0_0 t0_0).view.rep (iblk m c 0 t0_0))))
  ((st0_0 t0_1).view.rep (iblk m c 0 t0_1)) ((st0_1 t0_1).view.rep (iblk m c 1 t0_1))
/-- The column sums; the windows' results; the first block of the result. -/
def acc2 (c : Dev nD) : Vec F S1x768 .f32 := scAcc.view.read (Elt F) (scAcc.view.writes (Elt F) scAcc.view.junk (run1At m c).1.2.1)
def rows (c : Dev nD) : Vec F S152x768 .f32 := scR.view.read (Elt F) (scR.view.writes (Elt F) scR.view.junk (run1At m c).1.2.2)
def out1 (c : Dev nD) : Vec F S1024x768 .f32 := (st0_2 t0_1).view.read (Elt F) ((st0_2 t0_1).view.writes (Elt F) (st0_2 t0_1).view.junk (run1At m c).1.1)
def run2At (c : Dev nD) := run2 (F := F) c (st0_0 t0_2) (hs0_0 t0_2) (st0_1 t0_2) (hs0_1 t0_2) (st0_2 t0_2) (hs0_2 t0_2) (scAcc.view.rep (acc2 m c)) (scR.view.rep (rows m c))
/-- The second block of the result. -/
def out2 (c : Dev nD) : Vec F S1024x768 .f32 := (st0_2 t0_2).view.read (Elt F) ((st0_2 t0_2).view.writes (Elt F) (st0_2 t0_2).view.junk (run2At m c).1)

/-- The pieces cover their buffers. -/
theorem cover_acc1 (c : Dev nD) : ∀ y, ∃ p ∈ (run0At m c).1, y ∈ p.1.set := View.cover_of_tiledL _ S1x768.size (by sl_kernel_rfl)
theorem cover_acc2 (c : Dev nD) : ∀ y, ∃ p ∈ (run1At m c).1.2.1, y ∈ p.1.set := View.cover_of_tiledL _ S1x768.size (by sl_kernel_rfl)
theorem cover_rows (c : Dev nD) : ∀ y, ∃ p ∈ (run1At m c).1.2.2, y ∈ p.1.set := View.cover_of_tiledL _ S152x768.size (by sl_kernel_rfl)
/-- A piece that is the whole block covers it. -/
theorem whole_piece {s : Shape} {e : EltTy} (L : List (View.Piece (Elt F) s e)) (off : Fin s.rank → ℕ) (inb : ∀ a, off a + s.size a ≤ s.size a)
    (h0 : off = fun _ => 0) (w) (hmem : (⟨Rect.unit off s.size inb, w⟩ : View.Piece (Elt F) s e) ∈ L) (y : s.Idx) : ∃ p ∈ L, y ∈ p.1.set :=
  ⟨_, hmem, by subst h0; rw [Rect.mem_set_unit]; exact fun a => ⟨Nat.zero_le _, by rw [Nat.zero_add]; exact (y a).isLt⟩⟩
theorem cover_out1 (c : Dev nD) : ∀ y, ∃ p ∈ (run1At m c).1.1, y ∈ p.1.set :=
  whole_piece _ ![0, 0] inb_S1024x768_S1024x768_0_0 (by funext a; fin_cases a <;> rfl) _ (by
    show _ ∈ (_ :: _ :: _ :: _ :: _ :: _ :: _ :: _ :: _ :: _ :: [] : List _)
    iterate 9 apply List.mem_cons_of_mem
    exact List.mem_cons_self)
theorem cover_out2 (c : Dev nD) : ∀ y, ∃ p ∈ (run2At m c).1, y ∈ p.1.set :=
  whole_piece _ ![0, 0] inb_S1024x768_S1024x768_0_0 (by funext a; fin_cases a <;> rfl) _ (by
    show _ ∈ (_ :: _ :: _ :: _ :: _ :: _ :: _ :: _ :: _ :: _ :: _ :: [] : List _)
    iterate 10 apply List.mem_cons_of_mem
    exact List.mem_cons_self)
/-- Held whole at written pieces that cover it, a buffer is held at what they read. -/
theorem held_writes (c : Dev nD) {sp : Space} {s : Shape} {e : EltTy} (M : Memref sig .tc sp s e) (f : BufOf (F := F) c M)
    (L : List (View.Piece (Elt F) s e)) (h : ∀ y, ∃ p ∈ L, y ∈ p.1.set) :
    heldPt c M (M.view.writes (Elt F) f L) ⊢ (heldPt c M (M.view.rep (M.view.read (Elt F) (M.view.writes (Elt F) M.view.junk L))) : sProp 𝕄) :=
  pointsTo_rep_of_read (c : Thread nD τ) M _ fullShare _ (View.read_writes_of_cover _ _ _ _ _ h)

/-! ## The invariant between the points -/

/-- Between the first two points: the copies in flight. -/
def phi1 (c : Dev nD) : sProp 𝕄 :=
  iprop(∃ gq gk fv, (∃ r, prngReg c r) ∗ (∃ f, heldPt (F := F) c scR f) ∗ heldPt c scAcc (scAcc.view.rep (acc1 m c)) ∗ heldPt c scV (scV.view.writes (Elt F) fv (vAt m c))
    ∗ parkQ c (V m c main_v0) ∗ parkK c (V m c main_v1)
    ∗ flying c 5 hbQ ![80, 0] inb_S2048x768_S16x768_80_0 scQ ![0, 0] inb_S304x768_S16x768_0_0 (Transfers.shareTokN fullShare 0) (V m c main_v0) gq ∗ flying c 6 hbK ![80, 0] inb_S2048x768_S16x768_80_0 scK ![0, 0] inb_S304x768_S16x768_0_0 (Transfers.shareTokN fullShare 0) (V m c main_v1) gk ∗ flying c 7 hbQ ![528, 0] inb_S2048x768_S16x768_528_0 scQ ![16, 0] inb_S304x768_S16x768_16_0 (Transfers.shareTokN fullShare 1) (V m c main_v0) gq ∗ flying c 8 hbK ![528, 0] inb_S2048x768_S16x768_528_0 scK ![16, 0] inb_S304x768_S16x768_16_0 (Transfers.shareTokN fullShare 1) (V m c main_v1) gk ∗ flying c 9 hbQ ![616, 0] inb_S2048x768_S16x768_616_0 scQ ![32, 0] inb_S304x768_S16x768_32_0 (Transfers.shareTokN fullShare 2) (V m c main_v0) gq ∗ flying c 10 hbK ![616, 0] inb_S2048x768_S16x768_616_0 scK ![32, 0] inb_S304x768_S16x768_32_0 (Transfers.shareTokN fullShare 2) (V m c main_v1) gk ∗ flying c 11 hbQ ![728, 0] inb_S2048x768_S16x768_728_0 scQ ![48, 0] inb_S304x768_S16x768_48_0 (Transfers.shareTokN fullShare 3) (V m c main_v0) gq ∗ flying c 12 hbK ![728, 0] inb_S2048x768_S16x768_728_0 scK ![48, 0] inb_S304x768_S16x768_48_0 (Transfers.shareTokN fullShare 3) (V m c main_v1) gk ∗ flying c 13 hbQ ![784, 0] inb_S2048x768_S16x768_784_0 scQ ![64, 0] inb_S304x768_S16x768_64_0 (Transfers.shareTokN fullShare 4) (V m c main_v0) gq ∗ flying c 14 hbK ![784, 0] inb_S2048x768_S16x768_784_0 scK ![64, 0] inb_S304x768_S16x768_64_0 (Transfers.shareTokN fullShare 4) (V m c main_v1) gk ∗ flying c 15 hbQ ![824, 0] inb_S2048x768_S16x768_824_0 scQ ![80, 0] inb_S304x768_S16x768_80_0 (Transfers.shareTokN fullShare 5) (V m c main_v0) gq ∗ flying c 16 hbK ![824, 0] inb_S2048x768_S16x768_824_0 scK ![80, 0] inb_S304x768_S16x768_80_0 (Transfers.shareTokN fullShare 5) (V m c main_v1) gk ∗ flying c 17 hbQ ![856, 0] inb_S2048x768_S16x768_856_0 scQ ![96, 0] inb_S304x768_S16x768_96_0 (Transfers.shareTokN fullShare 6) (V m c main_v0) gq ∗ flying c 18 hbK ![856, 0] inb_S2048x768_S16x768_856_0 scK ![96, 0] inb_S304x768_S16x768_96_0 (Transfers.shareTokN fullShare 6) (V m c main_v1) gk ∗ flying c 19 hbQ ![976, 0] inb_S2048x768_S16x768_976_0 scQ ![112, 0] inb_S304x768_S16x768_112_0 (Transfers.shareTokN fullShare 7) (V m c main_v0) gq ∗ flying c 20 hbK ![976, 0] inb_S2048x768_S16x768_976_0 scK ![112, 0] inb_S304x768_S16x768_112_0 (Transfers.shareTokN fullShare 7) (V m c main_v1) gk ∗ flying c 21 hbQ ![992, 0] inb_S2048x768_S16x768_992_0 scQ ![128, 0] inb_S304x768_S16x768_128_0 (Transfers.shareTokN fullShare 8) (V m c main_v0) gq ∗ flying c 22 hbK ![992, 0] inb_S2048x768_S16x768_992_0 scK ![128, 0] inb_S304x768_S16x768_128_0 (Transfers.shareTokN fullShare 8) (V m c main_v1) gk ∗ flying c 23 hbQ ![1040, 0] inb_S2048x768_S16x768_1040_0 scQ ![144, 0] inb_S304x768_S16x768_144_0 (Transfers.shareTokN fullShare 9) (V m c main_v0) gq ∗ flying c 24 hbK ![1040, 0] inb_S2048x768_S16x768_1040_0 scK ![144, 0] inb_S304x768_S16x768_144_0 (Transfers.shareTokN fullShare 9) (V m c main_v1) gk ∗ flying c 25 hbQ ![1192, 0] inb_S2048x768_S16x768_1192_0 scQ ![160, 0] inb_S304x768_S16x768_160_0 (Transfers.shareTokN fullShare 10) (V m c main_v0) gq ∗ flying c 26 hbK ![1192, 0] inb_S2048x768_S16x768_1192_0 scK ![160, 0] inb_S304x768_S16x768_160_0 (Transfers.shareTokN fullShare 10) (V m c main_v1) gk ∗ flying c 27 hbQ ![1552, 0] inb_S2048x768_S16x768_1552_0 scQ ![176, 0] inb_S304x768_S16x768_176_0 (Transfers.shareTokN fullShare 11) (V m c main_v0) gq ∗ flying c 28 hbK ![1552, 0] inb_S2048x768_S16x768_1552_0 scK ![176, 0] inb_S304x768_S16x768_176_0 (Transfers.shareTokN fullShare 11) (V m c main_v1) gk ∗ flying c 29 hbQ ![1600, 0] inb_S2048x768_S16x768_1600_0 scQ ![192, 0] inb_S304x768_S16x768_192_0 (Transfers.shareTokN fullShare 12) (V m c main_v0) gq ∗ flying c 30 hbK ![1600, 0] inb_S2048x768_S16x768_1600_0 scK ![192, 0] inb_S304x768_S16x768_192_0 (Transfers.shareTokN fullShare 12) (V m c main_v1) gk ∗ flying c 31 hbQ ![1696, 0] inb_S2048x768_S16x768_1696_0 scQ ![208, 0] inb_S304x768_S16x768_208_0 (Transfers.shareTokN fullShare 13) (V m c main_v0) gq ∗ flying c 32 hbK ![1696, 0] inb_S2048x768_S16x768_1696_0 scK ![208, 0] inb_S304x768_S16x768_208_0 (Transfers.shareTokN fullShare 13) (V m c main_v1) gk ∗ flying c 33 hbQ ![1728, 0] inb_S2048x768_S16x768_1728_0 scQ ![224, 0] inb_S304x768_S16x768_224_0 (Transfers.shareTokN fullShare 14) (V m c main_v0) gq ∗ flying c 34 hbK ![1728, 0] inb_S2048x768_S16x768_1728_0 scK ![224, 0] inb_S304x768_S16x768_224_0 (Transfers.shareTokN fullShare 14) (V m c main_v1) gk ∗ flying c 35 hbQ ![1816, 0] inb_S2048x768_S16x768_1816_0 scQ ![240, 0] inb_S304x768_S16x768_240_0 (Transfers.shareTokN fullShare 15) (V m c main_v0) gq ∗ flying c 36 hbK ![1816, 0] inb_S2048x768_S16x768_1816_0 scK ![240, 0] inb_S304x768_S16x768_240_0 (Transfers.shareTokN fullShare 15) (V m c main_v1) gk ∗ flying c 37 hbQ ![1880, 0] inb_S2048x768_S16x768_1880_0 scQ ![256, 0] inb_S304x768_S16x768_256_0 (Transfers.shareTokN fullShare 16) (V m c main_v0) gq ∗ flying c 38 hbK ![1880, 0] inb_S2048x768_S16x768_1880_0 scK ![256, 0] inb_S304x768_S16x768_256_0 (Transfers.shareTokN fullShare 16) (V m c main_v1) gk ∗ flying c 39 hbQ ![1976, 0] inb_S2048x768_S16x768_1976_0 scQ ![272, 0] inb_S304x768_S16x768_272_0 (Transfers.shareTokN fullShare 17) (V m c main_v0) gq ∗ flying c 40 hbK ![1976, 0] inb_S2048x768_S16x768_1976_0 scK ![272, 0] inb_S304x768_S16x768_272_0 (Transfers.shareTokN fullShare 17) (V m c main_v1) gk ∗ flying c 41 hbQ ![1976, 0] inb_S2048x768_S16x768_1976_0 scQ ![288, 0] inb_S304x768_S16x768_288_0 (Transfers.shareTokN fullShare 18) (V m c main_v0) gq ∗ flying c 42 hbK ![1976, 0] inb_S2048x768_S16x768_1976_0 scK ![288, 0] inb_S304x768_S16x768_288_0 (Transfers.shareTokN fullShare 18) (V m c main_v1) gk)
/-- Between the last two: the column sums and the windows' results. -/
def phi2 (c : Dev nD) : sProp 𝕄 :=
  iprop((∃ r, prngReg c r) ∗ heldPt c scAcc (scAcc.view.rep (acc2 m c)) ∗ heldPt c scR (scR.view.rep (rows m c))
    ∗ (∃ f, heldPt (F := F) c scQ f) ∗ (∃ f, heldPt (F := F) c scK f) ∗ (∃ f, heldPt (F := F) c scV f)
    ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0)
    ∗ iprop(heldPt c hbQ (V m c main_v0) ∗ heldPt c hbK (V m c main_v1)))
def phi (c : Dev nD) : ℕ → sProp 𝕄
  | 1 => phi1 m c
  | 2 => phi2 m c
  | _ => Pipeline.ΦD osem0 spec0 H0 (V m) c

def outAt (c : Dev nD) (t : Fin cfg0.N) : Vec F S1024x768 .f32 := if t.val = 1 then out1 m c else out2 m c

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

end Cert.KernelIdeal.Hand

end
-- ==== Proof.KernelIdealFrame.lean ====
module

public import Idealize.ShloMosaic.Lib.Pipeline.TableIdle
public import proofs.«01_k».proof.Proof.KernelIdealDats

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

theorem idle_first : cfg0.idle 2 (cfg0.grid.coords t0_0) = true := by decide +kernel
theorem flush_first : (cfg0.win 2).flush t0_0 = false := by decide +kernel
theorem busy_second : cfg0.idle 2 (cfg0.grid.coords t0_1) = false := by decide +kernel
theorem busy_last : cfg0.idle 2 (cfg0.grid.coords t0_2) = false := by decide +kernel

set_option maxHeartbeats 4000000 in
/-- The body at the first point: the invariant of the launch to the one with the copies in flight. -/
theorem sound_first (c : Dev nD) :
    iprop((dats m 0 c).Φ (t0_0).castSucc ∗ (dats m 0 c).owesAt () (t0_0).castSucc
      ∗ (∃ d, owns (c : Thread nD τ) (st0_0 (t0_0)) fullShare ((dats m 0 c).before 0 (t0_0) d))
      ∗ (∃ d, owns (c : Thread nD τ) (st0_1 (t0_0)) fullShare ((dats m 0 c).before 1 (t0_0) d))
      ∗ (∃ d, owns (c : Thread nD τ) (st0_2 (t0_0)) fullShare ((dats m 0 c).before 2 (t0_0) d)))
    ⊢ wp frame (wpE (defs₀ (F := F)) Variants.none c none) Set.univ (bodyAt0 t0_0) (fun _ =>
      iprop((dats m 0 c).Φ (t0_0).succ ∗ (dats m 0 c).owesAt () (t0_0).succ
      ∗ owns (c : Thread nD τ) (st0_0 (t0_0)) fullShare ((dats m 0 c).after 0 (t0_0))
      ∗ owns (c : Thread nD τ) (st0_1 (t0_0)) fullShare ((dats m 0 c).after 1 (t0_0))
      ∗ (∃ d, owns (c : Thread nD τ) (st0_2 t0_0) fullShare ((dats m 0 c).before 2 t0_0 d)))) := by
  rw [show (dats m 0 c).Φ (t0_0).castSucc = Pipeline.ΦD osem0 spec0 H0 (V m) c from rfl, show (dats m 0 c).Φ (t0_0).succ = phi1 m c from rfl, after0_0, after0_1]
  unfold Dat.owesAt Pipeline.owesWithin
  rw [show (dats m 0 c).owed (t0_0).castSucc = 0 from rfl, show (dats m 0 c).owed (t0_0).succ = 0 from rfl]
  simp only [before0_0, before0_1]
  unfold bodyAt0
  rw [PhiD0_eq]; unfold phi1
  iintro ⟨⟨⟨⟨%fa, HA⟩, ⟨%gq, HQ⟩, ⟨%gk, HK⟩, ⟨%fv, HV⟩, HR⟩, Hg, ⟨C0, C1, C2, C3, C4, C5, C6, C7, C8, C9, C10, C11, C12, C13, C14, C15, C16, C17, C18, C19, C20, C21, C22, C23, C24, C25, C26, C27, C28, C29, C30, C31, C32, C33, C34, C35, C36, C37⟩, ⟨HHQ, HHK⟩⟩, ⟨%W, -, HW⟩, ⟨%d0, H0⟩, ⟨%d1, H1⟩, H2⟩
  ihave HQ := (winsQ_split c gq) $$ HQ; icases HQ with ⟨D0, D2, D4, D6, D8, D10, D12, D14, D16, D18, D20, D22, D24, D26, D28, D30, D32, D34, D36⟩
  ihave HK := (winsK_split c gk) $$ HK; icases HK with ⟨D1, D3, D5, D7, D9, D11, D13, D15, D17, D19, D21, D23, D25, D27, D29, D31, D33, D35, D37⟩
  ihave HHQ := (srcsQ_split c (V m c main_v0)) $$ HHQ; icases HHQ with ⟨PQ, S0, S2, S4, S6, S8, S10, S12, S14, S16, S18, S20, S22, S24, S26, S28, S30, S32, S34, S36⟩
  ihave HHK := (srcsK_split c (V m c main_v1)) $$ HHK; icases HHK with ⟨PK, S1, S3, S5, S7, S9, S11, S13, S15, S17, S19, S21, S23, S25, S27, S29, S31, S33, S35, S37⟩
  ihave H0 := (rep_of_owns (c : Thread nD τ) (st0_0 t0_0) fullShare (iblk m c 0 t0_0)) $$ H0
  iapply ((run0At m c).2 (V m c main_v0) (V m c main_v1) gq gk fa fv W _)
  isplitl [H0]; · iexact H0
  isplitl [HA]; · iexact HA
  isplitl [HV]; · iexact HV
  isplitl [HW]; · iexact HW
  isplitl [S0]; · iexact S0
  isplitl [D0]; · iexact D0
  isplitl [C0]; · iexact C0
  isplitl [S1]; · iexact S1
  isplitl [D1]; · iexact D1
  isplitl [C1]; · iexact C1
  isplitl [S2]; · iexact S2
  isplitl [D2]; · iexact D2
  isplitl [C2]; · iexact C2
  isplitl [S3]; · iexact S3
  isplitl [D3]; · iexact D3
  isplitl [C3]; · iexact C3
  isplitl [S4]; · iexact S4
  isplitl [D4]; · iexact D4
  isplitl [C4]; · iexact C4
  isplitl [S5]; · iexact S5
  isplitl [D5]; · iexact D5
  isplitl [C5]; · iexact C5
  isplitl [S6]; · iexact S6
  isplitl [D6]; · iexact D6
  isplitl [C6]; · iexact C6
  isplitl [S7]; · iexact S7
  isplitl [D7]; · iexact D7
  isplitl [C7]; · iexact C7
  isplitl [S8]; · iexact S8
  isplitl [D8]; · iexact D8
  isplitl [C8]; · iexact C8
  isplitl [S9]; · iexact S9
  isplitl [D9]; · iexact D9
  isplitl [C9]; · iexact C9
  isplitl [S10]; · iexact S10
  isplitl [D10]; · iexact D10
  isplitl [C10]; · iexact C10
  isplitl [S11]; · iexact S11
  isplitl [D11]; · iexact D11
  isplitl [C11]; · iexact C11
  isplitl [S12]; · iexact S12
  isplitl [D12]; · iexact D12
  isplitl [C12]; · iexact C12
  isplitl [S13]; · iexact S13
  isplitl [D13]; · iexact D13
  isplitl [C13]; · iexact C13
  isplitl [S14]; · iexact S14
  isplitl [D14]; · iexact D14
  isplitl [C14]; · iexact C14
  isplitl [S15]; · iexact S15
  isplitl [D15]; · iexact D15
  isplitl [C15]; · iexact C15
  isplitl [S16]; · iexact S16
  isplitl [D16]; · iexact D16
  isplitl [C16]; · iexact C16
  isplitl [S17]; · iexact S17
  isplitl [D17]; · iexact D17
  isplitl [C17]; · iexact C17
  isplitl [S18]; · iexact S18
  isplitl [D18]; · iexact D18
  isplitl [C18]; · iexact C18
  isplitl [S19]; · iexact S19
  isplitl [D19]; · iexact D19
  isplitl [C19]; · iexact C19
  isplitl [S20]; · iexact S20
  isplitl [D20]; · iexact D20
  isplitl [C20]; · iexact C20
  isplitl [S21]; · iexact S21
  isplitl [D21]; · iexact D21
  isplitl [C21]; · iexact C21
  isplitl [S22]; · iexact S22
  isplitl [D22]; · iexact D22
  isplitl [C22]; · iexact C22
  isplitl [S23]; · iexact S23
  isplitl [D23]; · iexact D23
  isplitl [C23]; · iexact C23
  isplitl [S24]; · iexact S24
  isplitl [D24]; · iexact D24
  isplitl [C24]; · iexact C24
  isplitl [S25]; · iexact S25
  isplitl [D25]; · iexact D25
  isplitl [C25]; · iexact C25
  isplitl [S26]; · iexact S26
  isplitl [D26]; · iexact D26
  isplitl [C26]; · iexact C26
  isplitl [S27]; · iexact S27
  isplitl [D27]; · iexact D27
  isplitl [C27]; · iexact C27
  isplitl [S28]; · iexact S28
  isplitl [D28]; · iexact D28
  isplitl [C28]; · iexact C28
  isplitl [S29]; · iexact S29
  isplitl [D29]; · iexact D29
  isplitl [C29]; · iexact C29
  isplitl [S30]; · iexact S30
  isplitl [D30]; · iexact D30
  isplitl [C30]; · iexact C30
  isplitl [S31]; · iexact S31
  isplitl [D31]; · iexact D31
  isplitl [C31]; · iexact C31
  isplitl [S32]; · iexact S32
  isplitl [D32]; · iexact D32
  isplitl [C32]; · iexact C32
  isplitl [S33]; · iexact S33
  isplitl [D33]; · iexact D33
  isplitl [C33]; · iexact C33
  isplitl [S34]; · iexact S34
  isplitl [D34]; · iexact D34
  isplitl [C34]; · iexact C34
  isplitl [S35]; · iexact S35
  isplitl [D35]; · iexact D35
  isplitl [C35]; · iexact C35
  isplitl [S36]; · iexact S36
  isplitl [D36]; · iexact D36
  isplitl [C36]; · iexact C36
  isplitl [S37]; · iexact S37
  isplitl [D37]; · iexact D37
  isplitl [C37]; · iexact C37
  iintro ⟨H0, HA, HV, ⟨%W', HW'⟩, F0, F1, F2, F3, F4, F5, F6, F7, F8, F9, F10, F11, F12, F13, F14, F15, F16, F17, F18, F19, F20, F21, F22, F23, F24, F25, F26, F27, F28, F29, F30, F31, F32, F33, F34, F35, F36, F37⟩
  isplitl [Hg HR HA HV PQ PK F0 F1 F2 F3 F4 F5 F6 F7 F8 F9 F10 F11 F12 F13 F14 F15 F16 F17 F18 F19 F20 F21 F22 F23 F24 F25 F26 F27 F28 F29 F30 F31 F32 F33 F34 F35 F36 F37]
  · iexists gq; iexists gk; iexists fv
    isplitl [Hg]; · iexact Hg
    isplitl [HR]; · iexact HR
    isplitl [HA]; · iapply (held_writes c scAcc _ _ (cover_acc1 m c)); iexact HA
    isplitl [HV]; · iexact HV
    isplitl [PQ]; · iexact PQ
    isplitl [PK]; · iexact PK
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [F11]; · iexact F11
    isplitl [F12]; · iexact F12
    isplitl [F13]; · iexact F13
    isplitl [F14]; · iexact F14
    isplitl [F15]; · iexact F15
    isplitl [F16]; · iexact F16
    isplitl [F17]; · iexact F17
    isplitl [F18]; · iexact F18
    isplitl [F19]; · iexact F19
    isplitl [F20]; · iexact F20
    isplitl [F21]; · iexact F21
    isplitl [F22]; · iexact F22
    isplitl [F23]; · iexact F23
    isplitl [F24]; · iexact F24
    isplitl [F25]; · iexact F25
    isplitl [F26]; · iexact F26
    isplitl [F27]; · iexact F27
    isplitl [F28]; · iexact F28
    isplitl [F29]; · iexact F29
    isplitl [F30]; · iexact F30
    isplitl [F31]; · iexact F31
    isplitl [F32]; · iexact F32
    isplitl [F33]; · iexact F33
    isplitl [F34]; · iexact F34
    isplitl [F35]; · iexact F35
    isplitl [F36]; · iexact F36
    iexact F37
  isplitl [HW']
  · iexists W'; isplitr; · ipureintro; exact fun _ _ => Or.inl trivial
    iexact HW'
  isplitl [H0]; · iapply (owns_of_rep (c : Thread nD τ) (st0_0 t0_0) fullShare (iblk m c 0 t0_0)); iexact H0
  isplitl [H1]; · iexact H1
  iexact H2

set_option maxHeartbeats 4000000 in
/-- The body at the second point: the copies landed, the windows' results made, the result's first block written. -/
theorem sound_second (c : Dev nD) :
    iprop((dats m 0 c).Φ (t0_1).castSucc ∗ (dats m 0 c).owesAt () (t0_1).castSucc
      ∗ (∃ d, owns (c : Thread nD τ) (st0_0 (t0_1)) fullShare ((dats m 0 c).before 0 (t0_1) d))
      ∗ (∃ d, owns (c : Thread nD τ) (st0_1 (t0_1)) fullShare ((dats m 0 c).before 1 (t0_1) d))
      ∗ (∃ d, owns (c : Thread nD τ) (st0_2 (t0_1)) fullShare ((dats m 0 c).before 2 (t0_1) d)))
    ⊢ wp frame (wpE (defs₀ (F := F)) Variants.none c none) Set.univ (bodyAt0 t0_1) (fun _ =>
      iprop((dats m 0 c).Φ (t0_1).succ ∗ (dats m 0 c).owesAt () (t0_1).succ
      ∗ owns (c : Thread nD τ) (st0_0 (t0_1)) fullShare ((dats m 0 c).after 0 (t0_1))
      ∗ owns (c : Thread nD τ) (st0_1 (t0_1)) fullShare ((dats m 0 c).after 1 (t0_1))
      ∗ owns (c : Thread nD τ) (st0_2 t0_1) fullShare (out1 m c))) := by
  rw [show (dats m 0 c).Φ (t0_1).castSucc = phi1 m c from rfl, show (dats m 0 c).Φ (t0_1).succ = phi2 m c from rfl, after0_0, after0_1]
  unfold Dat.owesAt Pipeline.owesWithin
  rw [show (dats m 0 c).owed (t0_1).castSucc = 0 from rfl, show (dats m 0 c).owed (t0_1).succ = 0 from rfl]
  simp only [before0_0, before0_1]
  unfold bodyAt0
  unfold phi1 phi2
  iintro ⟨⟨%gq, %gk, %fv, Hg, ⟨%fr, HR⟩, HA, HV, PQ, PK, F0, F1, F2, F3, F4, F5, F6, F7, F8, F9, F10, F11, F12, F13, F14, F15, F16, F17, F18, F19, F20, F21, F22, F23, F24, F25, F26, F27, F28, F29, F30, F31, F32, F33, F34, F35, F36, F37⟩, ⟨%W, -, HW⟩, ⟨%d0, H0⟩, ⟨%d1, H1⟩, ⟨%d2, H2⟩⟩
  ihave H0 := (rep_of_owns (c : Thread nD τ) (st0_0 t0_1) fullShare (iblk m c 0 t0_1)) $$ H0
  ihave H1 := (rep_of_owns (c : Thread nD τ) (st0_1 t0_1) fullShare (iblk m c 1 t0_1)) $$ H1
  ihave H2 := (rep_of_owns (c : Thread nD τ) (st0_2 t0_1) fullShare _) $$ H2
  iapply ((run1At m c).2 gq gk fv fr _ W _)
  isplitl [H0]; · iexact H0
  isplitl [H1]; · iexact H1
  isplitl [H2]; · iexact H2
  isplitl [HA]; · iexact HA
  isplitl [HV]; · iexact HV
  isplitl [HR]; · iexact HR
  isplitl [HW]; · iexact HW
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  isplitl [F8]; · iexact F8
  isplitl [F9]; · iexact F9
  isplitl [F10]; · iexact F10
  isplitl [F11]; · iexact F11
  isplitl [F12]; · iexact F12
  isplitl [F13]; · iexact F13
  isplitl [F14]; · iexact F14
  isplitl [F15]; · iexact F15
  isplitl [F16]; · iexact F16
  isplitl [F17]; · iexact F17
  isplitl [F18]; · iexact F18
  isplitl [F19]; · iexact F19
  isplitl [F20]; · iexact F20
  isplitl [F21]; · iexact F21
  isplitl [F22]; · iexact F22
  isplitl [F23]; · iexact F23
  isplitl [F24]; · iexact F24
  isplitl [F25]; · iexact F25
  isplitl [F26]; · iexact F26
  isplitl [F27]; · iexact F27
  isplitl [F28]; · iexact F28
  isplitl [F29]; · iexact F29
  isplitl [F30]; · iexact F30
  isplitl [F31]; · iexact F31
  isplitl [F32]; · iexact F32
  isplitl [F33]; · iexact F33
  isplitl [F34]; · iexact F34
  isplitl [F35]; · iexact F35
  isplitl [F36]; · iexact F36
  isplitl [F37]; · iexact F37
  iintro ⟨H0, H1, H2, HA, HV, HR, ⟨%W', HW'⟩, S0, D0, C0, S1, D1, C1, S2, D2, C2, S3, D3, C3, S4, D4, C4, S5, D5, C5, S6, D6, C6, S7, D7, C7, S8, D8, C8, S9, D9, C9, S10, D10, C10, S11, D11, C11, S12, D12, C12, S13, D13, C13, S14, D14, C14, S15, D15, C15, S16, D16, C16, S17, D17, C17, S18, D18, C18, S19, D19, C19, S20, D20, C20, S21, D21, C21, S22, D22, C22, S23, D23, C23, S24, D24, C24, S25, D25, C25, S26, D26, C26, S27, D27, C27, S28, D28, C28, S29, D29, C29, S30, D30, C30, S31, D31, C31, S32, D32, C32, S33, D33, C33, S34, D34, C34, S35, D35, C35, S36, D36, C36, S37, D37, C37⟩
  isplitl [Hg HA HR HV PQ PK S0 D0 C0 S1 D1 C1 S2 D2 C2 S3 D3 C3 S4 D4 C4 S5 D5 C5 S6 D6 C6 S7 D7 C7 S8 D8 C8 S9 D9 C9 S10 D10 C10 S11 D11 C11 S12 D12 C12 S13 D13 C13 S14 D14 C14 S15 D15 C15 S16 D16 C16 S17 D17 C17 S18 D18 C18 S19 D19 C19 S20 D20 C20 S21 D21 C21 S22 D22 C22 S23 D23 C23 S24 D24 C24 S25 D25 C25 S26 D26 C26 S27 D27 C27 S28 D28 C28 S29 D29 C29 S30 D30 C30 S31 D31 C31 S32 D32 C32 S33 D33 C33 S34 D34 C34 S35 D35 C35 S36 D36 C36 S37 D37 C37]
  · isplitl [Hg]; · iexact Hg
    isplitl [HA]; · iapply (held_writes c scAcc _ _ (cover_acc2 m c)); iexact HA
    isplitl [HR]; · iapply (held_writes c scR _ _ (cover_rows m c)); iexact HR
    isplitl [D0 D2 D4 D6 D8 D10 D12 D14 D16 D18 D20 D22 D24 D26 D28 D30 D32 D34 D36]
    · iapply (winsQ_join c)
      isplitl [D0]; · iexact D0
      isplitl [D2]; · iexact D2
      isplitl [D4]; · iexact D4
      isplitl [D6]; · iexact D6
      isplitl [D8]; · iexact D8
      isplitl [D10]; · iexact D10
      isplitl [D12]; · iexact D12
      isplitl [D14]; · iexact D14
      isplitl [D16]; · iexact D16
      isplitl [D18]; · iexact D18
      isplitl [D20]; · iexact D20
      isplitl [D22]; · iexact D22
      isplitl [D24]; · iexact D24
      isplitl [D26]; · iexact D26
      isplitl [D28]; · iexact D28
      isplitl [D30]; · iexact D30
      isplitl [D32]; · iexact D32
      isplitl [D34]; · iexact D34
      iexact D36
    isplitl [D1 D3 D5 D7 D9 D11 D13 D15 D17 D19 D21 D23 D25 D27 D29 D31 D33 D35 D37]
    · iapply (winsK_join c)
      isplitl [D1]; · iexact D1
      isplitl [D3]; · iexact D3
      isplitl [D5]; · iexact D5
      isplitl [D7]; · iexact D7
      isplitl [D9]; · iexact D9
      isplitl [D11]; · iexact D11
      isplitl [D13]; · iexact D13
      isplitl [D15]; · iexact D15
      isplitl [D17]; · iexact D17
      isplitl [D19]; · iexact D19
      isplitl [D21]; · iexact D21
      isplitl [D23]; · iexact D23
      isplitl [D25]; · iexact D25
      isplitl [D27]; · iexact D27
      isplitl [D29]; · iexact D29
      isplitl [D31]; · iexact D31
      isplitl [D33]; · iexact D33
      isplitl [D35]; · iexact D35
      iexact D37
    isplitl [HV]; · iexact HV
    isplitl [C0 C1 C2 C3 C4 C5 C6 C7 C8 C9 C10 C11 C12 C13 C14 C15 C16 C17 C18 C19 C20 C21 C22 C23 C24 C25 C26 C27 C28 C29 C30 C31 C32 C33 C34 C35 C36 C37]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      isplitl [C11]; · iexact C11
      isplitl [C12]; · iexact C12
      isplitl [C13]; · iexact C13
      isplitl [C14]; · iexact C14
      isplitl [C15]; · iexact C15
      isplitl [C16]; · iexact C16
      isplitl [C17]; · iexact C17
      isplitl [C18]; · iexact C18
      isplitl [C19]; · iexact C19
      isplitl [C20]; · iexact C20
      isplitl [C21]; · iexact C21
      isplitl [C22]; · iexact C22
      isplitl [C23]; · iexact C23
      isplitl [C24]; · iexact C24
      isplitl [C25]; · iexact C25
      isplitl [C26]; · iexact C26
      isplitl [C27]; · iexact C27
      isplitl [C28]; · iexact C28
      isplitl [C29]; · iexact C29
      isplitl [C30]; · iexact C30
      isplitl [C31]; · iexact C31
      isplitl [C32]; · iexact C32
      isplitl [C33]; · iexact C33
      isplitl [C34]; · iexact C34
      isplitl [C35]; · iexact C35
      isplitl [C36]; · iexact C36
      iexact C37
    isplitl [PQ S0 S2 S4 S6 S8 S10 S12 S14 S16 S18 S20 S22 S24 S26 S28 S30 S32 S34 S36]
    · iapply (srcsQ_join c (V m c main_v0))
      isplitl [PQ]; · iexact PQ
      isplitl [S0]; · iexact S0
      isplitl [S2]; · iexact S2
      isplitl [S4]; · iexact S4
      isplitl [S6]; · iexact S6
      isplitl [S8]; · iexact S8
      isplitl [S10]; · iexact S10
      isplitl [S12]; · iexact S12
      isplitl [S14]; · iexact S14
      isplitl [S16]; · iexact S16
      isplitl [S18]; · iexact S18
      isplitl [S20]; · iexact S20
      isplitl [S22]; · iexact S22
      isplitl [S24]; · iexact S24
      isplitl [S26]; · iexact S26
      isplitl [S28]; · iexact S28
      isplitl [S30]; · iexact S30
      isplitl [S32]; · iexact S32
      isplitl [S34]; · iexact S34
      iexact S36
    · iapply (srcsK_join c (V m c main_v1))
      isplitl [PK]; · iexact PK
      isplitl [S1]; · iexact S1
      isplitl [S3]; · iexact S3
      isplitl [S5]; · iexact S5
      isplitl [S7]; · iexact S7
      isplitl [S9]; · iexact S9
      isplitl [S11]; · iexact S11
      isplitl [S13]; · iexact S13
      isplitl [S15]; · iexact S15
      isplitl [S17]; · iexact S17
      isplitl [S19]; · iexact S19
      isplitl [S21]; · iexact S21
      isplitl [S23]; · iexact S23
      isplitl [S25]; · iexact S25
      isplitl [S27]; · iexact S27
      isplitl [S29]; · iexact S29
      isplitl [S31]; · iexact S31
      isplitl [S33]; · iexact S33
      isplitl [S35]; · iexact S35
      iexact S37
  isplitl [HW']
  · iexists W'; isplitr; · ipureintro; exact fun _ _ => Or.inl trivial
    iexact HW'
  isplitl [H0]; · iapply (owns_of_rep (c : Thread nD τ) (st0_0 t0_1) fullShare (iblk m c 0 t0_1)); iexact H0
  isplitl [H1]; · iapply (owns_of_rep (c : Thread nD τ) (st0_1 t0_1) fullShare (iblk m c 1 t0_1)); iexact H1
  iapply (owns_of_rep (c : Thread nD τ) (st0_2 t0_1) fullShare (out1 m c))
  iapply (held_writes c (st0_2 t0_1) _ _ (cover_out1 m c)); iexact H2

set_option maxHeartbeats 4000000 in
/-- The body at the last point: the result's second block written, the launch's invariant given back. -/
theorem sound_last (c : Dev nD) :
    iprop((dats m 0 c).Φ (t0_2).castSucc ∗ (dats m 0 c).owesAt () (t0_2).castSucc
      ∗ (∃ d, owns (c : Thread nD τ) (st0_0 (t0_2)) fullShare ((dats m 0 c).before 0 (t0_2) d))
      ∗ (∃ d, owns (c : Thread nD τ) (st0_1 (t0_2)) fullShare ((dats m 0 c).before 1 (t0_2) d))
      ∗ (∃ d, owns (c : Thread nD τ) (st0_2 (t0_2)) fullShare ((dats m 0 c).before 2 (t0_2) d)))
    ⊢ wp frame (wpE (defs₀ (F := F)) Variants.none c none) Set.univ (bodyAt0 t0_2) (fun _ =>
      iprop((dats m 0 c).Φ (t0_2).succ ∗ (dats m 0 c).owesAt () (t0_2).succ
      ∗ owns (c : Thread nD τ) (st0_0 (t0_2)) fullShare ((dats m 0 c).after 0 (t0_2))
      ∗ owns (c : Thread nD τ) (st0_1 (t0_2)) fullShare ((dats m 0 c).after 1 (t0_2))
      ∗ owns (c : Thread nD τ) (st0_2 t0_2) fullShare (out2 m c))) := by
  rw [show (dats m 0 c).Φ (t0_2).castSucc = phi2 m c from rfl, show (dats m 0 c).Φ (t0_2).succ = Pipeline.ΦD osem0 spec0 H0 (V m) c from rfl, after0_0, after0_1]
  unfold Dat.owesAt Pipeline.owesWithin
  rw [show (dats m 0 c).owed (t0_2).castSucc = 0 from rfl, show (dats m 0 c).owed (t0_2).succ = 0 from rfl]
  simp only [before0_0, before0_1]
  unfold bodyAt0
  rw [PhiD0_eq]; unfold phi2
  iintro ⟨⟨Hg, HA, HR, HQ, HK, HV, HC, HH⟩, ⟨%W, -, HW⟩, ⟨%d0, H0⟩, ⟨%d1, H1⟩, ⟨%d2, H2⟩⟩
  ihave H2 := (rep_of_owns (c : Thread nD τ) (st0_2 t0_2) fullShare _) $$ H2
  iapply ((run2At m c).2 _ W _)
  isplitl [H2]; · iexact H2
  isplitl [HA]; · iexact HA
  isplitl [HR]; · iexact HR
  isplitl [HW]; · iexact HW
  iintro ⟨H2, HA, HR, ⟨%W', HW'⟩⟩
  isplitl [Hg HA HR HQ HK HV HC HH]
  · isplitl [HA HR HQ HK HV]
    · isplitl [HA]; · iexists _; iexact HA
      isplitl [HQ]; · iexact HQ
      isplitl [HK]; · iexact HK
      isplitl [HV]; · iexact HV
      iexists _; iexact HR
    isplitl [Hg]; · iexact Hg
    isplitl [HC]; · iexact HC
    iexact HH
  isplitl [HW']
  · iexists W'; isplitr; · ipureintro; exact fun _ _ => Or.inl trivial
    iexact HW'
  isplitl [H0]; · iexact H0
  isplitl [H1]; · iexact H1
  iapply (owns_of_rep (c : Thread nD τ) (st0_2 t0_2) fullShare (out2 m c))
  iapply (held_writes c (st0_2 t0_2) _ _ (cover_out2 m c)); iexact H2

theorem defs₀_row (t : Fin cfg0.N) : defs₀ (F := F) .tc cfg0.body (cfg0.bodyArgs t (cfg0.slots t)) = bodyAt0 t := by
  unfold defs₀; rw [Defs.onTc_tc]

theorem leaves_first (c : Dev nD) : (dats m 0 c).leavesExact 2 t0_0
    = iprop(∃ d, owns (c : Thread nD τ) (st0_2 t0_0) fullShare ((dats m 0 c).before 2 t0_0 d)) := by
  unfold Dat.leavesExact; rw [idle_first, flush_first]
theorem leaves_second (c : Dev nD) : (dats m 0 c).leavesExact 2 t0_1 = owns (c : Thread nD τ) (st0_2 t0_1) fullShare (out1 m c) := by
  unfold Dat.leavesExact; rw [busy_second, after0_2, show outAt m c t0_1 = out1 m c from rfl]
theorem leaves_last (c : Dev nD) : (dats m 0 c).leavesExact 2 t0_2 = owns (c : Thread nD τ) (st0_2 t0_2) fullShare (out2 m c) := by
  unfold Dat.leavesExact; rw [busy_last, after0_2, show outAt m c t0_2 = out2 m c from rfl]

/-- The body meets its obligation at every point. -/
theorem body_obligation (c : Dev nD) : BodyObligation (dats (F := F) m 0 c) (defs₀ (F := F)) Variants.none () Set.univ := fun t => by
  rw [bigSep_W0, bigSep_W0, defs₀_row]
  rcases fin_N0 t with h | h | h <;> subst h
  · refine triple_restated (sound_first m c) rfl .rfl fun _ => ?_
    rw [← leaves_first]; exact .rfl
  · refine triple_restated (sound_second m c) rfl .rfl fun _ => ?_
    rw [← leaves_second]
  · refine triple_restated (sound_last m c) rfl .rfl fun _ => ?_
    rw [← leaves_last]

/-! ## The run and the frame -/

theorem sfx_sub_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ H0 op ((List.forall_iff_forall_mem.mp hostOps1_sub) op hop) (fun k => k.elim0) ?_
  simp only [hostOps1, List.mem_cons, List.mem_nil_iff, or_false] at hop
  rcases hop with rfl
  intro b hb
  have h3 : b ≠ main_v3 := by rintro rfl; exact absurd hb (by decide)
  have h4 : b ≠ main_v4 := by rintro rfl; exact absurd hb (by decide)
  simp only [StableHlo.reshape_bufs, Finset.mem_insert, Finset.mem_singleton, not_or]
  exact ⟨StableHlo.devRef_ne_of_ne h3, StableHlo.devRef_ne_of_ne h4⟩

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
/-- The run: every buffer outside the pipeline as the lines after the region leave it, the semaphores at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_sub_but) (hfresh := sfx_fresh) (hkeep := sfx_keeps)
    (hmain := hmainD m) (hA := A_eq m) (hin := fun _ => .rfl) (hout := fun _ => .rfl) (hQ' := fun _ h => h)

/-- Argument 0 ends as launched: no line after the region writes it. -/
theorem end_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Argument 1 ends as launched: no line after the region writes it. -/
theorem end_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Argument 2 ends as launched: no line after the region writes it. -/
theorem end_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The frame: the arguments end unchanged, every semaphore at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
    ((h.1 c).2 main_arg0 (Pipeline.mem_restRefs_of main_arg0 (by decide) (by decide))).trans (end_arg0 m c),
    ((h.1 c).2 main_arg1 (Pipeline.mem_restRefs_of main_arg1 (by decide) (by decide))).trans (end_arg1 m c),
    ((h.1 c).2 main_arg2 (Pipeline.mem_restRefs_of main_arg2 (by decide) (by decide))).trans (end_arg2 m c)⟩, h.2⟩) (run_main m ρ)

end Cert.KernelIdeal.Hand

end
-- ==== Proof.KernelIdealTerms.lean ====
module

public import proofs.«01_k».proof.Proof.KernelIdealDats

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-! ## The windows' results as one function of the head -/

/-- The scores of a head's window rows, those outside the mask sent to the named constant. -/
def scoreOf (qh kh : FVec F S152x64 .f32) (mk : FVec F S152x152 .f32) : FVec F S152x152 .f32 :=
  addf (mulf (matmul dot_S152x64_S64x152_S152x152_1_0_0_1_n_n none qh (transpose S64x152 [1, 0] kh transposes_S152x64_p1_0_S64x152) (constant S152x152 .f32 0x00000000#32)) mk)
    (mulf (subf (broadcast S152x152 (Scalar.ofBits .f32 0x3F800000#32)) mk) (broadcast S152x152 (Named.named κ "neg" 0xF149F2CA#32)))
/-- The largest score of a row, at least zero. -/
def maxOf (sm : FVec F S152x152 .f32) : FVec F S152x1 .f32 :=
  maximumf (shapeCast S152x1 (multiReduction .maximumf [1] S152 sm 0xFF800000#32 reduces_S152x152_S152 (.inl rfl) rfl) shapeCasts_S152_S152x1) (broadcast S152x1 (Scalar.ofBits .f32 0x00000000#32))
/-- The exponentials of the scores less the row's largest; the exponential of the largest's opposite. -/
def expOf (sm : FVec F S152x152 .f32) (mx : FVec F S152x1 .f32) : FVec F S152x152 .f32 := exp (subf sm (broadcastTo S152x152 mx broadcasts_S152x1_S152x152))
def emOf (mx : FVec F S152x1 .f32) : FVec F S152x1 .f32 := exp (subf (broadcast S152x1 (Scalar.ofBits .f32 0x00000000#32)) mx)
/-- A head's result, from the scores and their row maxima. -/
def mixOf (sm : FVec F S152x152 .f32) (mx : FVec F S152x1 .f32) (mk : FVec F S152x152 .f32) (vh : FVec F S152x64 .f32) (sh : FVec F S1x64 .f32) : FVec F S152x64 .f32 :=
  divf (addf (mulf (broadcastTo S152x64 (emOf mx) broadcasts_S152x1_S152x64) (broadcastTo S152x64 sh broadcasts_S1x64_S152x64))
      (matmul dot_S152x152_S152x64_S152x64_1_0_0_1_n_n none (subf (expOf sm mx) (mulf mk (broadcastTo S152x152 (emOf mx) broadcasts_S152x1_S152x152))) vh (constant S152x64 .f32 0x00000000#32)))
    (broadcastTo S152x64 (addf (mulf (subf (broadcast S152x1 (Scalar.ofBits .f32 0x45000000#32)) (k0_pay4 mk)) (emOf mx))
      (shapeCast S152x1 (multiReduction .add [1] S152 (expOf sm mx) 0x00000000#32 reduces_S152x152_S152 (.inl rfl) rfl) shapeCasts_S152_S152x1)) broadcasts_S152x1_S152x64)
/-- A head's result. -/
def headOf (o : ℕ) (h : S152x768.Slices ![0, o] S152x64) (h' : S1x768.Slices ![0, o] S1x64) (qw kw : FVec F S152x768 .f32) (sv : FVec F S1x768 .f32)
    (mk : FVec F S152x152 .f32) (vh : FVec F S152x64 .f32) : FVec F S152x64 .f32 :=
  mixOf (scoreOf (extractStridedSlice S152x64 ![0, o] qw h) (extractStridedSlice S152x64 ![0, o] kw h) mk)
    (maxOf (scoreOf (extractStridedSlice S152x64 ![0, o] qw h) (extractStridedSlice S152x64 ![0, o] kw h) mk)) mk vh (extractStridedSlice S1x64 ![0, o] sv h')

/-! ## The lists the second point's run writes -/

variable (c : Dev nD) (arg1 : Memref sig .tc .vmem S1024x768 .f32) (harg1 : arg1.IsWhole) (arg4 : Memref sig .tc .vmem S152x152 .f32) (harg4 : arg4.IsWhole) (arg5 : Memref sig .tc .vmem S1024x768 .f32) (harg5 : arg5.IsWhole)
   (fq : BufOf (F := F) c hbQ) (fk : BufOf (F := F) c hbK) (fa : BufOf (F := F) c scAcc) (p0 p1 p2 p3 p4 p5 p6 p7 p8 : Vec F S8x768 .f32)
   (f1 : BufOf (F := F) c arg1) (fm : BufOf (F := F) c arg4)

/-- The value rows of the windows, one head's columns. -/
abbrev vHead (o : ℕ) (h : ∀ a, (![0, o] : Fin 2 → ℕ) a + S152x64.size a ≤ S152x768.size a) : FVec F S152x64 .f32 :=
  scV.view.readCov (run1.sl.HV_19 c arg1 p0 p1 p2 p3 p4 p5 p6 p7 p8 f1) (Rect.unit (s := S152x768) ![0, o] S152x64.size h).toLoadRect

/-- The heads of the windows' results. -/
def headAt (h : Fin 12) : FVec F S152x64 .f32 :=
  headOf (64 * h.val) (by revert h; decide) (by revert h; decide) (run1.sl.r c fq) (run1.sl.r_1 c fk) (run1.sl.v318 c arg1 fa f1) (run1.sl.r_2 c arg4 fm)
    (vHead c arg1 p0 p1 p2 p3 p4 p5 p6 p7 p8 f1 (64 * h.val) (by revert h; decide))

abbrev rowsOf : FVec F S152x768 .f32 := k0_pay78 (headAt c arg1 arg4 fq fk fa p0 p1 p2 p3 p4 p5 p6 p7 p8 f1 fm 0) (headAt c arg1 arg4 fq fk fa p0 p1 p2 p3 p4 p5 p6 p7 p8 f1 fm 1)
  (headAt c arg1 arg4 fq fk fa p0 p1 p2 p3 p4 p5 p6 p7 p8 f1 fm 2) (headAt c arg1 arg4 fq fk fa p0 p1 p2 p3 p4 p5 p6 p7 p8 f1 fm 3) (headAt c arg1 arg4 fq fk fa p0 p1 p2 p3 p4 p5 p6 p7 p8 f1 fm 4)
  (headAt c arg1 arg4 fq fk fa p0 p1 p2 p3 p4 p5 p6 p7 p8 f1 fm 5) (headAt c arg1 arg4 fq fk fa p0 p1 p2 p3 p4 p5 p6 p7 p8 f1 fm 6) (headAt c arg1 arg4 fq fk fa p0 p1 p2 p3 p4 p5 p6 p7 p8 f1 fm 7)
  (headAt c arg1 arg4 fq fk fa p0 p1 p2 p3 p4 p5 p6 p7 p8 f1 fm 8) (headAt c arg1 arg4 fq fk fa p0 p1 p2 p3 p4 p5 p6 p7 p8 f1 fm 9) (headAt c arg1 arg4 fq fk fa p0 p1 p2 p3 p4 p5 p6 p7 p8 f1 fm 10)
  (headAt c arg1 arg4 fq fk fa p0 p1 p2 p3 p4 p5 p6 p7 p8 f1 fm 11)

theorem run1_acc : (run1 c arg1 harg1 arg4 harg4 arg5 harg5 fq fk fa p0 p1 p2 p3 p4 p5 p6 p7 p8 f1 fm).1.2.1
    = [⟨Rect.unit (s := S1x768) ![0, 0] S1x768.size inb_S1x768_S1x768_0_0, k0_pay57 (View.readAt (Elt F) scAcc.view (Rect.unit (s := S1x768) ![0, 0] S1x768.size inb_S1x768_S1x768_0_0).toLoadRect fa)
        (View.readAt (Elt F) arg1.view (Rect.unit (s := S1024x768) ![0, 0] S1024x768.size inb_S1024x768_S1024x768_0_0).toLoadRect f1)⟩] := rfl

theorem run1_rows : (run1 c arg1 harg1 arg4 harg4 arg5 harg5 fq fk fa p0 p1 p2 p3 p4 p5 p6 p7 p8 f1 fm).1.2.2
    = [⟨Rect.unit (s := S152x768) ![0, 0] S152x768.size inb_S152x768_S152x768_0_0, rowsOf c arg1 arg4 fq fk fa p0 p1 p2 p3 p4 p5 p6 p7 p8 f1 fm⟩] := rfl

/-- Eight rows of the result's block written from eight rows of the windows' results, just written; or found in the scratch. -/
abbrev outPiece (X : FVec F S152x768 .f32) (o k : ℕ) (ho : ∀ a, (![o, 0] : Fin 2 → ℕ) a + S8x768.size a ≤ S1024x768.size a := by decide)
    (hk : ∀ a, (![k, 0] : Fin 2 → ℕ) a + S8x768.size a ≤ S152x768.size a := by decide) : View.Piece (Elt F) S1024x768 .f32 :=
  ⟨Rect.unit (s := S1024x768) ![o, 0] S8x768.size ho, scR.view.readCov [⟨Rect.unit (s := S152x768) ![0, 0] S152x768.size inb_S152x768_S152x768_0_0, X⟩] (Rect.unit (s := S152x768) ![k, 0] S8x768.size hk).toLoadRect⟩
abbrev lastPiece (fr : BufOf (F := F) c scR) (o k : ℕ) (ho : ∀ a, (![o, 0] : Fin 2 → ℕ) a + S8x768.size a ≤ S1024x768.size a := by decide)
    (hk : ∀ a, (![k, 0] : Fin 2 → ℕ) a + S8x768.size a ≤ S152x768.size a := by decide) : View.Piece (Elt F) S1024x768 .f32 :=
  ⟨Rect.unit (s := S1024x768) ![o, 0] S8x768.size ho, View.readAt (Elt F) scR.view (Rect.unit (s := S152x768) ![k, 0] S8x768.size hk).toLoadRect fr⟩
abbrev basePiece (a : FVec F S1x768 .f32) : View.Piece (Elt F) S1024x768 .f32 := ⟨Rect.unit (s := S1024x768) ![0, 0] S1024x768.size inb_S1024x768_S1024x768_0_0, k0_pay79 a⟩

/-- The pieces of the first block of the result, and of the second. -/
abbrev outPieces (X : FVec F S152x768 .f32) (a : FVec F S1x768 .f32) : List (View.Piece (Elt F) S1024x768 .f32) :=
  [outPiece X 995 64, outPiece X 976 56, outPiece X 861 48, outPiece X 829 40, outPiece X 788 32, outPiece X 733 24, outPiece X 621 16, outPiece X 530 8, outPiece X 82 0, basePiece a]
abbrev lastPieces (fr : BufOf (F := F) c scR) (a : FVec F S1x768 .f32) : List (View.Piece (Elt F) S1024x768 .f32) :=
  [lastPiece c fr 958 144, lastPiece c fr 953 136, lastPiece c fr 856 128, lastPiece c fr 799 120, lastPiece c fr 705 112, lastPiece c fr 675 104, lastPiece c fr 581 96, lastPiece c fr 528 88, lastPiece c fr 170 80, lastPiece c fr 23 72, basePiece a]

theorem run1_out : (run1 c arg1 harg1 arg4 harg4 arg5 harg5 fq fk fa p0 p1 p2 p3 p4 p5 p6 p7 p8 f1 fm).1.1
    = outPieces (rowsOf c arg1 arg4 fq fk fa p0 p1 p2 p3 p4 p5 p6 p7 p8 f1 fm) (run1.sl.v318 c arg1 fa f1) := rfl

theorem run2_out (fr : BufOf (F := F) c scR) : (run2 c arg1 harg1 arg4 harg4 arg5 harg5 fa fr).1
    = lastPieces c fr (View.readAt (Elt F) scAcc.view (Rect.unit (s := S1x768) ![0, 0] S1x768.size inb_S1x768_S1x768_0_0).toLoadRect fa) := rfl

theorem run0_acc : ∃ L, (run0 c arg1 harg1 arg4 harg4 arg5 harg5 f1).1
    = ⟨Rect.unit (s := S1x768) ![0, 0] S1x768.size inb_S1x768_S1x768_0_0, k0_pay57 (scAcc.view.readCov [⟨Rect.unit (s := S1x768) ![0, 0] S1x768.size inb_S1x768_S1x768_0_0, k0_pay1⟩] (Rect.unit (s := S1x768) ![0, 0] S1x768.size inb_S1x768_S1x768_0_0).toLoadRect)
        (View.readAt (Elt F) arg1.view (Rect.unit (s := S1024x768) ![0, 0] S1024x768.size inb_S1024x768_S1024x768_0_0).toLoadRect f1)⟩ :: L := ⟨_, rfl⟩

/-- Eight rows of a landed window of the queries, or of the keys: row `o` of the scratch on, the window copied to row `d` from row `s`. -/
abbrev qWin (o d s : ℕ) (ho : ∀ a, (![o, 0] : Fin 2 → ℕ) a + S8x768.size a ≤ S304x768.size a := by decide)
    (hd : ∀ a, (![d, 0] : Fin 2 → ℕ) a + S16x768.size a ≤ S304x768.size a := by decide) (hs : ∀ a, (![s, 0] : Fin 2 → ℕ) a + S16x768.size a ≤ S2048x768.size a := by decide) : FVec F S8x768 .f32 :=
  View.readAt (Elt F) scQ.view (Rect.unit (s := S304x768) ![o, 0] S8x768.size ho).toLoadRect
    ((dstW scQ ![d, 0] hd).view.writes (Elt F) (dstW scQ ![d, 0] hd).view.junk [⟨Rect.whole S16x768, ReadAs.same.apply ((srcW hbQ ![s, 0] hs).view.read (Elt F) fq)⟩])
abbrev kWin (o d s : ℕ) (ho : ∀ a, (![o, 0] : Fin 2 → ℕ) a + S8x768.size a ≤ S304x768.size a := by decide)
    (hd : ∀ a, (![d, 0] : Fin 2 → ℕ) a + S16x768.size a ≤ S304x768.size a := by decide) (hs : ∀ a, (![s, 0] : Fin 2 → ℕ) a + S16x768.size a ≤ S2048x768.size a := by decide) : FVec F S8x768 .f32 :=
  View.readAt (Elt F) scK.view (Rect.unit (s := S304x768) ![o, 0] S8x768.size ho).toLoadRect
    ((dstW scK ![d, 0] hd).view.writes (Elt F) (dstW scK ![d, 0] hd).view.junk [⟨Rect.whole S16x768, ReadAs.same.apply ((srcW hbK ![s, 0] hs).view.read (Elt F) fk)⟩])

theorem run1_q : run1.sl.r c fq = k0_pay2 (qWin c fq 2 0 80) (qWin c fq 18 16 528) (qWin c fq 37 32 616) (qWin c fq 53 48 728) (qWin c fq 68 64 784) (qWin c fq 85 80 824) (qWin c fq 101 96 856) (qWin c fq 112 112 976) (qWin c fq 131 128 992) (qWin c fq 151 144 1040) (qWin c fq 162 160 1192) (qWin c fq 176 176 1552) (qWin c fq 197 192 1600) (qWin c fq 211 208 1696) (qWin c fq 225 224 1728) (qWin c fq 247 240 1816) (qWin c fq 256 256 1880) (qWin c fq 273 272 1976) (qWin c fq 294 288 1976) := rfl
theorem run1_k : run1.sl.r_1 c fk = k0_pay3 (kWin c fk 2 0 80) (kWin c fk 18 16 528) (kWin c fk 37 32 616) (kWin c fk 53 48 728) (kWin c fk 68 64 784) (kWin c fk 85 80 824) (kWin c fk 101 96 856) (kWin c fk 112 112 976) (kWin c fk 131 128 992) (kWin c fk 151 144 1040) (kWin c fk 162 160 1192) (kWin c fk 176 176 1552) (kWin c fk 197 192 1600) (kWin c fk 211 208 1696) (kWin c fk 225 224 1728) (kWin c fk 247 240 1816) (kWin c fk 256 256 1880) (kWin c fk 273 272 1976) (kWin c fk 294 288 1976) := rfl

end Cert.KernelIdeal.Hand

end
-- ==== Proof.RefScores.lean ====
module
public import Idealize.ShloMosaic.Lib.Pointwise
public import Idealize.ShloMosaic.Lib.Routing.OpsSet
public import proofs.«01_k».proof.ReferenceIdeal
public import proofs.«01_k».proof.Proof.Gen.ReferenceIdeal
public import proofs.«01_k».proof.Proof.Gen.ReferenceIdeal.Run
public import Idealize.ShloMosaic.PureOps.Ideal

@[expose] public section

set_option maxRecDepth 8192

noncomputable section

namespace Cert.ReferenceIdeal.Hand

open Cert.ReferenceIdeal Cert.ReferenceIdeal.Gen Cert.ReferenceIdeal.Facts Idealize.ShloMosaic
open Idealize.ShloMosaic.Routing (resultIdx?_eq_some scatter_set_hit scatter_set_miss)

/-- Whether two positions lie in one of the patches that start at `Ss`. -/
def together (Ss : List ℕ) (r c : ℕ) : Bool := Ss.any fun s => decide (s ≤ r ∧ r < s + 5 ∧ s ≤ c ∧ c < s + 5)

/-- The score of a query with a key, in one head. -/
def dotq (q k : FVec Ideal S1x2048x12x64 .f32) (h : Fin 12) (r c : Fin 2048) : EReal :=
  ∑ e : Fin 64, q (ix4 0 r h e) * k (ix4 0 c h e)

/-- One patch's block of scores. -/
theorem block_at (s : ℕ) (hs : S1x2048x12x64.Slices ![0, s, 0, 0] S1x5x12x64) (q k : FVec Ideal S1x2048x12x64 .f32) (h : Fin 12) (i j : Fin 5)
    (r c : Fin 2048) (hr : r.val = s + i.val) (hc : c.val = s + j.val) :
    Host.dotGeneral dot_S1x5x12x64_S1x5x12x64_S1x12x5x5_3_3_1_1_02_02 none (extractStridedSlice S1x5x12x64 ![0, s, 0, 0] q hs) (extractStridedSlice S1x5x12x64 ![0, s, 0, 0] k hs) (ix4 0 h i j)
      = dotq q k h r c := by
  obtain ⟨r, hr'⟩ := r
  obtain ⟨c, hc'⟩ := c
  dsimp only at hr hc
  subst hr hc
  pointwise []
  rfl

/-- Where an update of the scatter lands: both starts on the last two axes. -/
theorem lands_iff (s : ℕ) (k : S1x12x5x5.Idx) (idx : IVec S2 32) (i0 : (idx (ix1 0)).toInt = s) (i1 : (idx (ix1 1)).toInt = s)
    (b : Fin 1) (h : Fin 12) (r c : Fin 2048) :
    scatter_S1x12x2048x2048_S2_S1x12x5x5_0123_n_23_0.resultIdx? k idx = some (ix4 b h r c)
      ↔ (k 1).val = h.val ∧ s + (k 2).val = r.val ∧ s + (k 3).val = c.val := by
  rw [resultIdx?_eq_some]
  have w : ∀ a, scatter_S1x12x2048x2048_S2_S1x12x5x5_0123_n_23_0.window k a = (k a).val := fun a => by fin_cases a <;> rfl
  have s0 : scatter_S1x12x2048x2048_S2_S1x12x5x5_0123_n_23_0.start k idx 0 = 0 := rfl
  have s1 : scatter_S1x12x2048x2048_S2_S1x12x5x5_0123_n_23_0.start k idx 1 = 0 := rfl
  have s2 : scatter_S1x12x2048x2048_S2_S1x12x5x5_0123_n_23_0.start k idx 2 = s := by
    rw [← i0]
    refine congrArg BitVec.toInt (congrArg idx ?_)
    funext a; fin_cases a; rfl
  have s3 : scatter_S1x12x2048x2048_S2_S1x12x5x5_0123_n_23_0.start k idx 3 = s := by
    rw [← i1]
    refine congrArg BitVec.toInt (congrArg idx ?_)
    funext a; fin_cases a; rfl
  constructor
  · intro q
    have q1 := q 1
    have q2 := q 2
    have q3 := q 3
    rw [w, s1] at q1
    rw [w, s2] at q2
    rw [w, s3] at q3
    have e1 : ((ix4 b h r c) 1).val = h.val := rfl
    have e2 : ((ix4 b h r c) 2).val = r.val := rfl
    have e3 : ((ix4 b h r c) 3).val = c.val := rfl
    rw [e1] at q1; rw [e2] at q2; rw [e3] at q3
    omega
  · rintro ⟨q1, q2, q3⟩ a
    rw [w]
    fin_cases a
    · show _ + ((k 0).val : ℤ) = (b.val : ℤ)
      have := (k 0).isLt
      have h1 : (k 0).val < 1 := this
      erw [s0]; omega
    · show _ + ((k 1).val : ℤ) = (h.val : ℤ)
      erw [s1]; omega
    · show _ + ((k 2).val : ℤ) = (r.val : ℤ)
      erw [s2]; omega
    · show _ + ((k 3).val : ℤ) = (c.val : ℤ)
      erw [s3]; omega

/-- An array of scores that holds the products inside the patches `Ss` and zero elsewhere. -/
def Scores (Ss : List ℕ) (q k : FVec Ideal S1x2048x12x64 .f32) (x : FVec Ideal S1x12x2048x2048 .f32) : Prop :=
  ∀ (h : Fin 12) (r c : Fin 2048), x (ix4 0 h r c) = if together Ss r c then dotq q k h r c else 0

/-- Writing one more patch. -/
theorem scores_step {Ss : List ℕ} {q k : FVec Ideal S1x2048x12x64 .f32} {x : FVec Ideal S1x12x2048x2048 .f32} (hx : Scores Ss q k x)
    (s : ℕ) (hs : S1x2048x12x64.Slices ![0, s, 0, 0] S1x5x12x64) (w : BitVec 32) (hw : w.toInt = s) (idx : IVec S2 32) (hidx : ∀ a, idx a = w) :
    Scores (s :: Ss) q k (Host.scatter scatter_S1x12x2048x2048_S2_S1x12x5x5_0123_n_23_0 (fun _ b => b) x idx
      (Host.dotGeneral dot_S1x5x12x64_S1x5x12x64_S1x12x5x5_3_3_1_1_02_02 none (extractStridedSlice S1x5x12x64 ![0, s, 0, 0] q hs) (extractStridedSlice S1x5x12x64 ![0, s, 0, 0] k hs))) := by
  intro h r c
  have i0 : (idx (ix1 0)).toInt = s := by rw [hidx, hw]
  have i1 : (idx (ix1 1)).toInt = s := by rw [hidx, hw]
  by_cases hin : s ≤ r.val ∧ r.val < s + 5 ∧ s ≤ c.val ∧ c.val < s + 5
  · rw [if_pos (by unfold together; rw [List.any_cons, decide_eq_true hin]; rfl)]
    refine scatter_set_hit _ _ _ _ _ _ (fun u hu => ?_) (ix4 0 h ⟨r.val - s, by omega⟩ ⟨c.val - s, by omega⟩) ?_
    · rw [lands_iff s u idx i0 i1] at hu
      obtain ⟨h1, h2, h3⟩ := hu
      have e : u = ix4 0 h (u 2) (u 3) := by
        funext a
        fin_cases a
        · have : (u 0).val < 1 := (u 0).isLt
          exact Fin.ext (by show (u 0).val = 0; omega)
        · exact Fin.ext h1
        · rfl
        · rfl
      rw [e]
      exact block_at s hs q k h (u 2) (u 3) r c h2.symm h3.symm
    · rw [lands_iff s _ idx i0 i1]
      refine ⟨rfl, ?_, ?_⟩
      · show s + (r.val - s) = r.val
        omega
      · show s + (c.val - s) = c.val
        omega
  · have e : together (s :: Ss) r c = together Ss r c := by
      unfold together
      rw [List.any_cons, decide_eq_false hin, Bool.false_or]
    rw [e, ← hx h r c]
    refine scatter_set_miss _ _ _ _ _ fun u hu => hin ?_
    rw [lands_iff s u idx i0 i1] at hu
    obtain ⟨h1, h2, h3⟩ := hu
    have b2 : (u 2).val < 5 := (u 2).isLt
    have b3 : (u 3).val < 5 := (u 3).isLt
    omega

theorem scores_zero (q k : FVec Ideal S1x2048x12x64 .f32) :
    Scores [] q k (broadcastInDim S1x12x2048x2048 ![] bcast_S_S1x12x2048x2048 (constant S_ .f32 0x00000000#32)) := by
  intro h r c
  pointwise []
  simp [together]

/-- The two start words of a patch, one number. -/
theorem starts_at (w : BitVec 32) (a : S2.Idx) :
    concatenate S2 0 [⟨S1, (broadcastInDim S1 ![] bcast_S_S1 (constantI S_ 32 w))⟩, ⟨S1, (broadcastInDim S1 ![] bcast_S_S1 (constantI S_ 32 w))⟩] concatenates_S1_S1_S2_d0 a = w := by
  rw [eq_ix1 a]
  generalize a 0 = k
  revert k
  intro k
  pointwise []
  split <;> rfl

/-- The patches, the last written first. -/
def starts49 : List ℕ := [530, 82, 861, 1823, 1552, 788, 1729]
def starts98 : List ℕ := [1699, 1605, 1880, 829, 995, 1047, 1977, 530, 82, 861, 1823, 1552, 788, 1729]
def starts : List ℕ := [1826, 1194, 733, 976, 1982, 621, 1699, 1605, 1880, 829, 995, 1047, 1977, 530, 82, 861, 1823, 1552, 788, 1729]

theorem scores_v49 (V0 : Valuation τ sig (Elt Ideal)) : Scores starts49 (V0 (Proc.devRef .tc main_arg0)) (V0 (Proc.devRef .tc main_arg1)) (Value.res_main_v49 V0) := by
  unfold Value.res_main_v49 starts49
  iterate 7 refine scores_step ?_ _ _ _ (by decide) _ (starts_at _)
  exact scores_zero _ _

theorem scores_v98 (V0 : Valuation τ sig (Elt Ideal)) : Scores starts98 (V0 (Proc.devRef .tc main_arg0)) (V0 (Proc.devRef .tc main_arg1)) (Value.res_main_v98 V0) := by
  unfold Value.res_main_v98 starts98
  iterate 7 refine scores_step ?_ _ _ _ (by decide) _ (starts_at _)
  exact scores_v49 _

theorem scores_v140 (V0 : Valuation τ sig (Elt Ideal)) : Scores starts (V0 (Proc.devRef .tc main_arg0)) (V0 (Proc.devRef .tc main_arg1)) (Value.res_main_v140 V0) := by
  unfold Value.res_main_v140 starts
  iterate 6 refine scores_step ?_ _ _ _ (by decide) _ (starts_at _)
  exact scores_v98 _

end Cert.ReferenceIdeal.Hand

end
-- ==== Proof.RefQuantile.lean ====
module
public import Idealize.ShloMosaic.Lib.Pointwise
public import Idealize.ShloMosaic.Lib.SortFacts
public import proofs.«01_k».proof.Proof.RefScores

@[expose] public section

set_option maxRecDepth 8192

noncomputable section

namespace Cert.ReferenceIdeal.Hand

open Cert.ReferenceIdeal Cert.ReferenceIdeal.Gen Cert.ReferenceIdeal.Facts Idealize.ShloMosaic

/-- The sort compares by the order of the numbers. -/
theorem before_iff (a b : EReal) : (comparator_f32_d3 (F := Ideal) a b == 1#1) = decide (a < b) := by
  have same : ∀ x : EReal, Scalar.select (Ideal.cmp .une x x) (Ideal.ofBits .f32 0x7FC00000#32) (Scalar.select (Ideal.cmp .oeq x (Ideal.ofBits .f32 0x00000000#32)) (Ideal.ofBits .f32 0x00000000#32) x) = x := fun x => by
    have z : Ideal.ofBits .f32 0x00000000#32 = 0 := by simp [Ideal.ofBits, Ideal.ieee]
    have hx : Ideal.cmp .une x x = 0#1 := by simp [Ideal.cmp]
    rw [z, hx]
    by_cases e : x = 0
    · subst e; simp [Scalar.select, Ideal.cmp]
    · simp [Scalar.select, Ideal.cmp, e]
  have key : (Ideal.cmp .olt a b == 1#1) = decide (a < b) := by
    by_cases e : a < b <;> simp [Ideal.cmp, e]
  exact (congrArg₂ (fun u v => Ideal.cmp .olt u v == 1#1) (same a) (same b)).trans key

/-- A sort read at an index, the row it lies in given. -/
theorem sort_row {s : Shape} {d : ℕ} (hd : d < s.rank) {α : Type} (cmp : α → α → BitVec 1) (x : s.Idx → α) (j : s.Idx)
    (y : Fin (s.size ⟨d, hd⟩) → α) (hy : ∀ k, x (j.along ⟨d, hd⟩ k) = y k) (R : α → α → Bool) (hc : ∀ a b, (cmp a b == 1#1) = R a b) :
    Host.sort s d cmp x j = y (sortedFrom (fun k k' => R (y k) (y k')) (j ⟨d, hd⟩)) := by
  unfold Host.sort
  rw [dif_pos hd]
  dsimp only
  simp only [hy, hc]

/-- Ascending order, element by element: a rearrangement of the row in which no later entry is smaller. -/
theorem sorted_at (x : FVec Ideal S1x12x2048x2048 .f32) (h : Fin 12) (r : Fin 2048) :
    ∃ σ : Fin 2048 → Fin 2048, Function.Injective σ ∧ (∀ i, Host.sort S1x12x2048x2048 3 comparator_f32_d3 x (ix4 0 h r i) = x (ix4 0 h r (σ i)))
      ∧ ∀ i j, i < j → x (ix4 0 h r (σ i)) ≤ x (ix4 0 h r (σ j)) := by
  have al : ∀ (i k : Fin 2048), (ix4 (0 : Fin 1) h r i : S1x12x2048x2048.Idx).along 3 k = ix4 0 h r k := fun i k => by
    funext a; fin_cases a <;> rfl
  refine ⟨sortedFrom (fun k k' => decide (x (ix4 0 h r k) < x (ix4 0 h r k'))), sortedFrom_injective _, fun i => ?_, fun i j hij => ?_⟩
  · have hd : 3 < S1x12x2048x2048.rank := by decide
    exact sort_row (s := S1x12x2048x2048) (d := 3) hd comparator_f32_d3 x (ix4 0 h r i) (fun k : Fin 2048 => x (ix4 0 h r k))
      (fun k => congrArg x (al i k)) (fun a b => decide (a < b)) before_iff
  · have := sortedFrom_noInversion (fun k k' => decide (x (ix4 0 h r k) < x (ix4 0 h r k'))) (fun k k' => decide (x (ix4 0 h r k) < x (ix4 0 h r k')))
      (fun a b q => decide_eq_false (not_lt.2 (of_decide_eq_true q).le)) (fun _ _ q => q)
      (fun a b c p q => decide_eq_false (not_lt.2 ((not_lt.1 (of_decide_eq_false q)).trans (not_lt.1 (of_decide_eq_false p))))) i j hij
    exact not_lt.1 (of_decide_eq_false this)

/-- In a row of numbers that are not negative, few of which are not zero, the lower part of the sorted row is zero. -/
theorem sorted_low (x : FVec Ideal S1x12x2048x2048 .f32) (h : Fin 12) (r : Fin 2048) (h0 : ∀ c, 0 ≤ x (ix4 0 h r c))
    (hn : ∀ c : Fin 2048, x (ix4 0 h r c) ≠ 0 → r.val < c.val + 5 ∧ c.val < r.val + 5) (i : Fin 2048) (hi : i.val ≤ 2000) :
    Host.sort S1x12x2048x2048 3 comparator_f32_d3 x (ix4 0 h r i) = 0 := by
  obtain ⟨σ, inj, e, mono⟩ := sorted_at x h r
  rw [e]
  by_contra hne
  have hpos : 0 < x (ix4 0 h r (σ i)) := lt_of_le_of_ne (h0 _) (Ne.symm hne)
  have all : ∀ j ∈ Finset.Ici i, (σ j).val ∈ Finset.Ico (r.val - 4) (r.val + 5) := fun j hj => by
    have hle : x (ix4 0 h r (σ i)) ≤ x (ix4 0 h r (σ j)) := by
      rcases (Finset.mem_Ici.1 hj).eq_or_lt with rfl | hlt
      · exact le_rfl
      · exact mono _ _ hlt
    have := hn _ (hpos.trans_le hle).ne'
    rw [Finset.mem_Ico]; omega
  have card := Finset.card_le_card_of_injOn (fun j => (σ j).val) all (fun a _ b _ q => inj (Fin.ext q))
  rw [Fin.card_Ici, Nat.card_Ico] at card
  omega

end Cert.ReferenceIdeal.Hand

end
-- ==== Proof.RefValue.lean ====
module
public import proofs.«01_k».proof.Proof.RefQuantile

@[expose] public section

set_option maxRecDepth 8192

noncomputable section

namespace Cert.ReferenceIdeal.Hand

open Cert.ReferenceIdeal Cert.ReferenceIdeal.Gen Cert.ReferenceIdeal.Facts Idealize.ShloMosaic

attribute [local irreducible] Value.res_main_v140 Host.sort

/-- The stages of the reference, as arrays. -/
abbrev s140 (V0 : Valuation τ sig (Elt Ideal)) : FVec Ideal S1x12x2048x2048 .f32 := Value.res_main_v140 V0
abbrev s141 (V0 : Valuation τ sig (Elt Ideal)) : FVec Ideal S1x12x2048x2048 .f32 := Value.res_main_v141 V0
abbrev s4 (V0 : Valuation τ sig (Elt Ideal)) : FVec Ideal S1x12x2048x2048 .f32 := Value.res_main_call0_v4 V0
abbrev s145 (V0 : Valuation τ sig (Elt Ideal)) : FVec Ideal S1x12x2048x2048 .f32 := Value.res_main_v145 V0
abbrev p6 (V0 : Valuation τ sig (Elt Ideal)) : FVec Ideal S_ .f32 := Value.res_main_call0_v6 V0
abbrev p7 (V0 : Valuation τ sig (Elt Ideal)) : FVec Ideal S_ .f32 := Value.res_main_call0_v7 V0
abbrev p8 (V0 : Valuation τ sig (Elt Ideal)) : FVec Ideal S_ .f32 := Host.ceil (Value.res_main_call0_v6 V0)

/-- No number is not a number: the quantile's guard keeps the row. -/
theorem guard_eq (x N : FVec Ideal S1x12x2048x2048 .f32) :
    select (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduce IntOp.ori (cmpf .une x x) (constantI S_ 1 0#1) reducesTo_S1x12x2048x2048_S1x12x2048_d3 h_S_))) N x = x := by
  have e : Host.reduce IntOp.ori (cmpf .une x x) (constantI S_ 1 0#1) reducesTo_S1x12x2048x2048_S1x12x2048_d3 h_S_ = fun _ => 0#1 := by
    funext j
    unfold Host.reduce
    have : ∀ l : List (Fin S1x12x2048x2048.numel), l.foldl (fun r n => IntOp.ori r ((cmpf .une x x) (S1x12x2048x2048.rowMajor.symm n))) 0#1 = 0#1 := by
      intro l
      induction l with
      | nil => rfl
      | cons a l ih =>
        rw [List.foldl_cons]
        have z : IntOp.ori 0#1 ((cmpf .une x x) (S1x12x2048x2048.rowMajor.symm a)) = 0#1 := by
          have : (cmpf .une x x) (S1x12x2048x2048.rowMajor.symm a) = 0#1 := by
            show BitVec.ofBool (decide (_ ≠ _)) = 0#1
            simp
          rw [this]; rfl
        rw [z]; exact ih
    exact this _
  rw [e]
  funext j
  rfl

/-- The position the quantile asks for. -/
theorem pos_eq : Value.res_main_call0_v6 (F := Ideal) = fun _ _ => ((13421773 / 2 ^ 27 * 2047 : ℝ) : EReal) := by
  funext V0 j
  have a : Ideal.ofBits .f32 0x3DCCCCCD#32 = ((13421773 / 2 ^ 27 : ℝ) : EReal) := by simp [Ideal.ofBits, Ideal.ieee, -EReal.coe_mul]; norm_num
  have b : Ideal.ofBits .f32 0x45000000#32 = ((2048 : ℝ) : EReal) := by simp [Ideal.ofBits, Ideal.ieee, -EReal.coe_mul]; norm_num
  have c : Ideal.ofBits .f32 0x3F800000#32 = ((1 : ℝ) : EReal) := by simp [Ideal.ofBits, Ideal.ieee, -EReal.coe_mul]; norm_num
  show Ideal.ofBits .f32 0x3DCCCCCD#32 * (Ideal.ofBits .f32 0x45000000#32 - Ideal.ofBits .f32 0x3F800000#32) = _
  rw [a, b, c, ← EReal.coe_sub, ← EReal.coe_mul]
  norm_num

/-- A small position's word. -/
theorem word_of (n : ℕ) (hn : n ≤ 2000) (x : FVec Ideal S_ .f32) (hx : x ix0 = ((n : ℝ) : EReal)) :
    ((broadcastInDim S1 ![] bcast_S_S1 (fptosi 32 (minimumf (maximumf x (constant S_ .f32 0x00000000#32)) (subf (constant S_ .f32 0x45000000#32) (constant S_ .f32 0x3F800000#32))))) (ix1 0)).toInt = n := by
  have b : Ideal.ofBits .f32 0x45000000#32 = ((2048 : ℝ) : EReal) := by simp [Ideal.ofBits, Ideal.ieee, -EReal.coe_mul]; norm_num
  have c : Ideal.ofBits .f32 0x3F800000#32 = ((1 : ℝ) : EReal) := by simp [Ideal.ofBits, Ideal.ieee, -EReal.coe_mul]; norm_num
  have z : Ideal.ofBits .f32 0x00000000#32 = ((0 : ℝ) : EReal) := by simp [Ideal.ofBits, Ideal.ieee]
  have e0 : ∀ i : S_.Idx, i = ix0 := fun i => funext fun a => a.elim0
  have h0 : (0 : ℝ) ≤ n := Nat.cast_nonneg n
  have h1 : (n : ℝ) ≤ 2048 - 1 := by have : (n : ℝ) ≤ 2000 := by exact_mod_cast hn
                                     linarith
  show (Ideal.fptosi 32 (min (max (x _) (Ideal.ofBits .f32 0x00000000#32)) (Ideal.ofBits .f32 0x45000000#32 - Ideal.ofBits .f32 0x3F800000#32))).toInt = n
  have hx' : ∀ i, x i = ((n : ℝ) : EReal) := fun i => (congrArg x (e0 i)).trans hx
  rw [hx', b, c, z, ← EReal.coe_sub, max_eq_left (EReal.coe_le_coe_iff.2 h0), min_eq_left (EReal.coe_le_coe_iff.2 h1)]
  unfold Ideal.fptosi
  show (BitVec.ofInt 32 (max _ (min _ (if 0 ≤ (n : ℝ) then ⌊(n : ℝ)⌋ else ⌈(n : ℝ)⌉)))).toInt = n
  rw [if_pos h0, Int.floor_natCast, BitVec.toInt_ofInt]
  norm_num
  rw [min_eq_right (by omega)]
  exact Int.bmod_eq_of_le (by omega) (by omega)

/-- The element a gathered position names. -/
theorem gather_low (x : FVec Ideal S1x12x2048x2048 .f32) (idx : IVec S1 32) (p : ℕ) (hp : p < 2048) (hi : (idx (ix1 0)).toInt = p) (h : Fin 12) (r : Fin 2048) :
    Host.gather gather_S1x12x2048x2048_S1_S1x12x2048x1_0123_n_n_n_3_0_11220481 x idx (ix4 0 h r 0) = x (ix4 0 h r ⟨p, hp⟩) := by
  unfold Host.gather
  refine congrArg x (funext fun a => Fin.ext ?_)
  fin_cases a
  · rfl
  · show 0 + 0 + h.val = h.val
    omega
  · show 0 + 0 + r.val = r.val
    omega
  · have e : gather_S1x12x2048x2048_S1_S1x12x2048x1_0123_n_n_n_3_0_11220481.siIdx (ix4 0 h r 0) ⟨0, by decide⟩ = ix1 0 := by
      funext a; fin_cases a; rfl
    show min (idx (gather_S1x12x2048x2048_S1_S1x12x2048x1_0123_n_n_n_3_0_11220481.siIdx (ix4 0 h r 0) ⟨0, by decide⟩)).toInt.toNat (2048 - 1) + 0 + 0 = p
    rw [e, hi]
    omega

/-- The patches are five wide. -/
theorem together_near {Ss : List ℕ} {r c : ℕ} (h : together Ss r c = true) : r < c + 5 ∧ c < r + 5 := by
  obtain ⟨s, _, hs⟩ := List.any_eq_true.1 h
  have := of_decide_eq_true hs
  omega

/-- A threshold that weighs two entries of the sorted row's lower part is zero. -/
theorem threshold_zero {q k : FVec Ideal S1x2048x12x64 .f32} {x y : FVec Ideal S1x12x2048x2048 .f32} {Ss : List ℕ} (hx : Scores Ss q k x)
    (hy : ∀ j, y j = max (x j) (-(x j))) (h : Fin 12) (r : Fin 2048) (i : Fin 2048) (hi : i.val ≤ 2000) :
    Host.sort S1x12x2048x2048 3 comparator_f32_d3 y (ix4 0 h r i) = 0 := by
  refine sorted_low y h r (fun c => ?_) (fun c hc => ?_) i hi
  · rw [hy]
    rcases le_total 0 (x (ix4 0 h r c)) with q | q
    · exact q.trans (le_max_left _ _)
    · exact (EReal.neg_nonneg.2 q).trans (le_max_right _ _)
  · by_contra hn
    refine hc ?_
    rw [hy, hx h r c, if_neg fun t => hn (together_near t)]
    simp

theorem abs_at (V0 : Valuation τ sig (Elt Ideal)) (j : S1x12x2048x2048.Idx) :
    s141 V0 j = max (s140 V0 j) (-s140 V0 j) := by
  unfold s141 Value.res_main_v141
  rfl

theorem v4_at (V0 : Valuation τ sig (Elt Ideal)) (h : Fin 12) (r i : Fin 2048) (hi : i.val ≤ 2000) :
    s4 V0 (ix4 0 h r i) = 0 := by
  have e : s4 V0 = Host.sort S1x12x2048x2048 3 comparator_f32_d3 (s141 V0) := by
    unfold s4 Value.res_main_call0_v4
    exact congrArg (Host.sort S1x12x2048x2048 3 comparator_f32_d3) (guard_eq _ _)
  rw [e]
  exact threshold_zero (scores_v140 V0) (abs_at V0) h r i hi

/-- A selection against a threshold of zero. -/
theorem select_zero (x y N : FVec Ideal S1x12x2048x2048 .f32) (g g' : FVec Ideal S1x12x2048x1 .f32) (f : FVec Ideal S_ .f32) (h : Fin 12) (r c : Fin 2048)
    (hg : g (ix4 0 h r 0) = 0) (hg' : g' (ix4 0 h r 0) = 0) (hy : ¬ y (ix4 0 h r c) < 0) :
    select (cmpf .olt y (broadcastInDim S1x12x2048x2048 ![0, 1, 2, 3] bcast_S1x12x2048x1_S1x12x2048x2048_0_1_2_3
      (addf (mulf g (broadcastInDim S1x12x2048x1 ![] bcast_S_S1x12x2048x1 (subf (constant S_ .f32 0x3F800000#32) f)))
        (mulf g' (broadcastInDim S1x12x2048x1 ![] bcast_S_S1x12x2048x1 f))))) N x (ix4 0 h r c) = x (ix4 0 h r c) := by
  pointwise []
  rw [hg, hg', zero_mul, zero_mul, add_zero, if_neg hy]

/-- Nothing is below a threshold of zero: the scores stay. -/
theorem v145_at (V0 : Valuation τ sig (Elt Ideal)) (h : Fin 12) (r c : Fin 2048) :
    s145 V0 (ix4 0 h r c) = s140 V0 (ix4 0 h r c) := by
  have f6 : ∀ i, p6 V0 i = ((13421773 / 2 ^ 27 * 2047 : ℝ) : EReal) := fun i => congrFun (congrFun pos_eq V0) i
  have f7 : p7 V0 ix0 = (((204 : ℕ) : ℝ) : EReal) := by
    show Ideal.liftRound Int.floor (p6 V0 ix0) = _
    rw [f6]
    show ((⌊(13421773 / 2 ^ 27 * 2047 : ℝ)⌋ : ℝ) : EReal) = _
    have : ⌊(13421773 / 2 ^ 27 * 2047 : ℝ)⌋ = 204 := by rw [Int.floor_eq_iff]; norm_num
    rw [this]; norm_num
  have f8 : p8 V0 ix0 = (((205 : ℕ) : ℝ) : EReal) := by
    show Ideal.liftRound Int.ceil (p6 V0 ix0) = _
    rw [f6]
    show ((⌈(13421773 / 2 ^ 27 * 2047 : ℝ)⌉ : ℝ) : EReal) = _
    have : ⌈(13421773 / 2 ^ 27 * 2047 : ℝ)⌉ = 205 := by rw [Int.ceil_eq_iff]; norm_num
    rw [this]; norm_num
  have g7 := gather_low (s4 V0) _ 204 (by norm_num) (word_of 204 (by norm_num) _ f7) h r
  have g8 := gather_low (s4 V0) _ 205 (by norm_num) (word_of 205 (by norm_num) _ f8) h r
  rw [v4_at V0 h r ⟨204, by norm_num⟩ (by norm_num)] at g7
  rw [v4_at V0 h r ⟨205, by norm_num⟩ (by norm_num)] at g8
  have pos : ¬ s141 V0 (ix4 0 h r c) < 0 := by
    rw [abs_at]
    rw [not_lt]
    rcases le_total 0 (s140 V0 (ix4 0 h r c)) with q | q
    · exact q.trans (le_max_left _ _)
    · exact (EReal.neg_nonneg.2 q).trans (le_max_right _ _)
  unfold s145 Value.res_main_v145
  exact select_zero _ _ _ _ _ _ h r c g7 g8 pos

end Cert.ReferenceIdeal.Hand

end
-- ==== Proof.RefSoftmax.lean ====
module
public import Idealize.ShloMosaic.Lib.Pointwise
public import proofs.«01_k».proof.ReferenceIdeal
public import proofs.«01_k».proof.Proof.Gen.ReferenceIdeal
public import Idealize.ShloMosaic.PureOps.Ideal

@[expose] public section

set_option maxRecDepth 8192

noncomputable section

namespace Cert.ReferenceIdeal.Hand

open Cert.ReferenceIdeal Cert.ReferenceIdeal.Gen Cert.ReferenceIdeal.Facts Idealize.ShloMosaic

/-- The softmax's numerators, of an array of scores and its rows' largest. -/
def expWith (x : FVec Ideal S1x12x2048x2048 .f32) (mx : FVec Ideal S1x12x2048 .f32) : FVec Ideal S1x12x2048x2048 .f32 :=
  Host.exp (subf x (broadcastInDim S1x12x2048x2048 ![0, 1, 2, 3] bcast_S1x12x2048x1_S1x12x2048x2048_0_1_2_3 (broadcastInDim S1x12x2048x1 ![0, 1, 2] bcast_S1x12x2048_S1x12x2048x1_0_1_2 (maximumf (broadcastInDim S1x12x2048 ![] bcast_S_S1x12x2048 (constant S_ .f32 0xFF800000#32)) mx))))

theorem expWith_at (x : FVec Ideal S1x12x2048x2048 .f32) (mx : FVec Ideal S1x12x2048 .f32) (h : Fin 12) (r c : Fin 2048) (M y : ℝ)
    (hM : mx (ix3 0 h r) = M) (hy : x (ix4 0 h r c) = y) : expWith x mx (ix4 0 h r c) = (Real.exp (y - M) : ℝ) := by
  unfold expWith
  have b : Ideal.ofBits .f32 0xFF800000#32 = ⊥ := by simp [Ideal.ofBits, Ideal.ieee]
  pointwise []
  rw [hM, hy, b, max_eq_right bot_le, ← EReal.coe_sub]
  rfl

/-- The numerators, of an array of scores. -/
def expOf (x : FVec Ideal S1x12x2048x2048 .f32) : FVec Ideal S1x12x2048x2048 .f32 :=
  expWith x (Host.reduce FloatOps.maximumf x (constant S_ .f32 0xFF800000#32) reducesTo_S1x12x2048x2048_S1x12x2048_d3 h_S_)

/-- A maximum of real numbers is one of them. -/
theorem foldl_max_real {ι : Type} (f : ι → EReal) (hf : ∀ i, ∃ y : ℝ, f i = y) : ∀ (l : List ι) (a : EReal), ((a = ⊥ ∧ l ≠ []) ∨ ∃ y : ℝ, a = y) →
    ∃ y : ℝ, l.foldl (fun a i => max a (f i)) a = y
  | [], a, h => by
    rcases h with ⟨_, h⟩ | h
    · exact (h rfl).elim
    · exact h
  | i :: l, a, h => by
    rw [List.foldl_cons]
    refine foldl_max_real f hf l _ (Or.inr ?_)
    obtain ⟨y, hy⟩ := hf i
    rcases h with ⟨rfl, _⟩ | ⟨z, rfl⟩
    · exact ⟨y, by rw [hy]; exact max_eq_right bot_le⟩
    · exact ⟨max z y, by rw [hy]; exact (EReal.coe_strictMono.monotone.map_max).symm⟩

/-- A maximum along some axes is a real number, when every element is one. -/
theorem reduce_max_real {s t u : Shape} {axes : List (Fin s.rank)} (x : FVec Ideal s .f32) (init : FVec Ideal u .f32) (h : s.ReducesTo axes t) (hu : 0 < u.numel)
    (j : t.Idx) (i : s.Idx) (hi : h.drop i = j) (hx : ∀ i, ∃ y : ℝ, x i = y) (hb : ∀ i, init i = ⊥) :
    ∃ M : ℝ, Host.reduce FloatOps.maximumf x init h hu j = (M : EReal) := by
  unfold Host.reduce
  refine foldl_max_real (fun n => x (s.rowMajor.symm n)) (fun n => hx _) _ _ (Or.inl ⟨hb _, fun e => ?_⟩)
  have mem : s.rowMajor i ∈ (List.finRange s.numel).filter fun n => h.drop (s.rowMajor.symm n) = j := by
    rw [List.mem_filter]
    refine ⟨List.mem_finRange _, decide_eq_true ?_⟩
    rw [Equiv.symm_apply_apply]
    exact hi
  rw [e] at mem
  exact List.not_mem_nil mem

/-- A row's largest score is a real number when the scores are. -/
theorem rowmax_real (x : FVec Ideal S1x12x2048x2048 .f32) (hx : ∀ i, ∃ y : ℝ, x i = y) (h : Fin 12) (r : Fin 2048) :
    ∃ M : ℝ, (Host.reduce FloatOps.maximumf x (constant S_ .f32 0xFF800000#32) reducesTo_S1x12x2048x2048_S1x12x2048_d3 h_S_ : FVec Ideal S1x12x2048 .f32) (ix3 0 h r) = M :=
  reduce_max_real x _ reducesTo_S1x12x2048x2048_S1x12x2048_d3 h_S_ (ix3 0 h r) (ix4 0 h r 0) (by funext a; fin_cases a <;> rfl) hx (fun _ => by
    show Ideal.ofBits .f32 0xFF800000#32 = ⊥
    simp [Ideal.ofBits, Ideal.ieee])

theorem expOf_at (x : FVec Ideal S1x12x2048x2048 .f32) (hx : ∀ i, ∃ y : ℝ, x i = y) (h : Fin 12) (r : Fin 2048) :
    ∃ M : ℝ, ∀ (c : Fin 2048) (y : ℝ), x (ix4 0 h r c) = y → expOf x (ix4 0 h r c) = (Real.exp (y - M) : ℝ) := by
  obtain ⟨M, hM⟩ := rowmax_real x hx h r
  exact ⟨M, fun c y hy => expWith_at x _ h r c M y hM hy⟩

/-- The reference's result, of its scores. -/
def outOf (E : FVec Ideal S1x12x2048x2048 .f32) (v : FVec Ideal S1x2048x12x64 .f32) : FVec Ideal S1x2048x12x64 .f32 :=
  transpose S1x2048x12x64 [0,3,1,2] (Host.dotGeneral dot_S1x2048x12x64_S1x12x2048x2048_S1x12x64x2048_1_3_3_2_02_01 none v (Host.divf E (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduceAdd E (constant S_ .f32 0x00000000#32) reducesTo_S1x12x2048x2048_S1x12x2048_d3 h_S_))))) transposes_S1x12x64x2048_S1x2048x12x64_0_3_1_2

theorem outOf_at (E : FVec Ideal S1x12x2048x2048 .f32) (v : FVec Ideal S1x2048x12x64 .f32) (h : Fin 12) (r : Fin 2048) (e : Fin 64) :
    outOf E v (ix4 0 r h e) = ∑ c, v (ix4 0 c h e) * Ideal.div (E (ix4 0 h r c)) (∑ c, E (ix4 0 h r c)) := by
  unfold outOf
  pointwise []

/-- A finite sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A softmax of real scores against real values. -/
theorem softmax_at (x : FVec Ideal S1x12x2048x2048 .f32) (v : FVec Ideal S1x2048x12x64 .f32) (hx : ∀ i, ∃ y : ℝ, x i = y)
    (h : Fin 12) (r : Fin 2048) (e : Fin 64) (S w : Fin 2048 → ℝ) (hS : ∀ c, x (ix4 0 h r c) = S c) (hw : ∀ c, v (ix4 0 c h e) = w c) :
    outOf (expOf x) v (ix4 0 r h e) = (((∑ c, Real.exp (S c) * w c) / ∑ c, Real.exp (S c) : ℝ) : EReal) := by
  obtain ⟨M, hM⟩ := expOf_at x hx h r
  have hE : ∀ c, expOf x (ix4 0 h r c) = (Real.exp (S c - M) : ℝ) := fun c => hM c _ (hS c)
  have pos : (0 : ℝ) < ∑ c : Fin 2048, Real.exp (S c - M) := Finset.sum_pos (fun c _ => Real.exp_pos _) Finset.univ_nonempty
  rw [outOf_at]
  simp only [hE, hw]
  rw [← coe_sum]
  simp only [div_coe _ _ pos.ne', ← EReal.coe_mul]
  rw [← coe_sum]
  refine congrArg _ ?_
  have ex : ∀ c, Real.exp (S c - M) = Real.exp (S c) * Real.exp (-M) := fun c => by rw [← Real.exp_add, sub_eq_add_neg]
  simp only [ex]
  rw [← Finset.sum_mul, Finset.sum_div]
  refine Finset.sum_congr rfl fun c _ => ?_
  rw [mul_div_mul_right _ _ (Real.exp_pos _).ne']
  ring

end Cert.ReferenceIdeal.Hand

end
-- ==== Proof.RefFinal.lean ====
module
public import proofs.«01_k».proof.Proof.RefValue
public import proofs.«01_k».proof.Proof.RefSoftmax

@[expose] public section

set_option maxRecDepth 8192

noncomputable section

namespace Cert.ReferenceIdeal.Hand

open Cert.ReferenceIdeal Cert.ReferenceIdeal.Gen Cert.ReferenceIdeal.Facts Idealize.ShloMosaic

/-- The score of two positions over the real numbers: a product inside a patch, zero outside. -/
def score (q k : S1x2048x12x64.Idx → ℝ) (h : Fin 12) (r c : Fin 2048) : ℝ :=
  if together starts r c then ∑ e : Fin 64, q (ix4 0 r h e) * k (ix4 0 c h e) else 0

/-- Attention over all positions, the real numbers: what both programs compute. -/
def attend (q k v : S1x2048x12x64.Idx → ℝ) (r : Fin 2048) (h : Fin 12) (e : Fin 64) : ℝ :=
  (∑ c, Real.exp (score q k h r c) * v (ix4 0 c h e)) / ∑ c, Real.exp (score q k h r c)

theorem dotq_coe (Q K : FVec Ideal S1x2048x12x64 .f32) (q k : S1x2048x12x64.Idx → ℝ) (hQ : ∀ i, Q i = (q i : EReal)) (hK : ∀ i, K i = (k i : EReal)) (h : Fin 12) (r c : Fin 2048) :
    dotq Q K h r c = ((∑ e : Fin 64, q (ix4 0 r h e) * k (ix4 0 c h e) : ℝ) : EReal) := by
  unfold dotq
  simp only [hQ, hK, ← EReal.coe_mul]
  rw [coe_sum]

theorem scores_real {Ss : List ℕ} {Q K : FVec Ideal S1x2048x12x64 .f32} {x : FVec Ideal S1x12x2048x2048 .f32} (hs : Scores Ss Q K x)
    (q k : S1x2048x12x64.Idx → ℝ) (hQ : ∀ i, Q i = (q i : EReal)) (hK : ∀ i, K i = (k i : EReal)) (h : Fin 12) (r c : Fin 2048) :
    x (ix4 0 h r c) = ((if together Ss r c then ∑ e : Fin 64, q (ix4 0 r h e) * k (ix4 0 c h e) else 0 : ℝ) : EReal) := by
  rw [hs h r c]
  split
  · exact dotq_coe Q K q k hQ hK h r c
  · rfl

/-- An index of the scores, its first coordinate zero. -/
theorem idx_scores (i : S1x12x2048x2048.Idx) : ∃ (h : Fin 12) (r c : Fin 2048), i = ix4 0 h r c :=
  ⟨i 1, i 2, i 3, by
    funext a
    fin_cases a
    · have : (i 0).val < 1 := (i 0).isLt
      exact Fin.ext (by show (i 0).val = 0; omega)
    · rfl
    · rfl
    · rfl⟩

abbrev s152 (V0 : Valuation τ sig (Elt Ideal)) : FVec Ideal S1x12x2048x2048 .f32 := Value.res_main_v152 V0

theorem v152_eq (V0 : Valuation τ sig (Elt Ideal)) : s152 V0 = expOf (s145 V0) := by
  unfold s152 Value.res_main_v152 expOf expWith s145
  rfl

/-- The reference's result on real arguments. -/
theorem reference_at (V0 : Valuation τ sig (Elt Ideal)) (Q K W : FVec Ideal S1x2048x12x64 .f32) (eQ : V0 (Proc.devRef .tc main_arg0) = Q) (eK : V0 (Proc.devRef .tc main_arg1) = K)
    (q k v : S1x2048x12x64.Idx → ℝ)
    (hQ : ∀ i, Q i = (q i : EReal)) (hK : ∀ i, K i = (k i : EReal)) (hW : ∀ i, W i = (v i : EReal)) (r : Fin 2048) (h : Fin 12) (e : Fin 64) :
    outOf (s152 V0) W (ix4 0 r h e) = (attend q k v r h e : ℝ) := by
  subst eQ eK
  have key : ∀ (h : Fin 12) (r c : Fin 2048), s145 V0 (ix4 0 h r c) = ((score q k h r c : ℝ) : EReal) := fun h r c =>
    (v145_at V0 h r c).trans (scores_real (scores_v140 V0) q k hQ hK h r c)
  rw [v152_eq]
  refine softmax_at (s145 V0) W (fun i => ?_) h r e (score q k h r) (fun c => v (ix4 0 c h e)) (fun c => key h r c) (fun c => hW _)
  obtain ⟨h, r, c, rfl⟩ := idx_scores i
  exact ⟨_, key h r c⟩

end Cert.ReferenceIdeal.Hand

end
-- ==== Proof.KernelIdealIndex.lean ====
module

public import proofs.«01_k».proof.Proof.RefScores
public import proofs.«01_k».proof.Proof.RefFinal
public import proofs.«01_k».proof.KernelIdeal

@[expose] public section

set_option maxRecDepth 16384

noncomputable section

namespace Cert.KernelIdeal.Hand

open Idealize.ShloMosaic Cert.ReferenceIdeal.Hand

/-- The first rows of the nineteen windows of eight rows. -/
def wins : List ℕ := [82, 530, 621, 733, 788, 829, 861, 976, 995, 1047, 1194, 1552, 1605, 1699, 1729, 1823, 1880, 1977, 1982]

/-- The first row of a window, and the row of the large arrays that row `x` of the stacked windows is. -/
def winOf (ci : ℕ) : ℕ := wins.getD ci 0
def colN (x : ℕ) : ℕ := winOf (x / 8) + x % 8

/-- Where the mask is one: the two rows are of one window and lie in one patch. -/
def maskB (R x : ℕ) : Bool := (R / 8 == x / 8) && together starts (colN R) (colN x)

/-- The rows of the stacked windows whose result is kept: not the last three of the next to last window, which the last
    window overlaps. -/
def kept (R : ℕ) : Bool := !(R / 8 == 17 && decide (5 ≤ R % 8))

theorem colN_lt (x : Fin 152) : colN x < 2048 := by revert x; decide +kernel

/-- The window row as a row of the large arrays. -/
def colF (x : Fin 152) : Fin 2048 := ⟨colN x, colN_lt x⟩

theorem colF_inj {R x x' : Fin 152} (h : maskB R x = true) (h' : maskB R x' = true) (e : colF x = colF x') : x = x' := by
  unfold maskB at h h'
  rw [Bool.and_eq_true, beq_iff_eq] at h h'
  have e' : winOf (x.val / 8) + x.val % 8 = winOf (x'.val / 8) + x'.val % 8 := congrArg Fin.val e
  rw [← h.1, ← h'.1] at e'
  have := h.1; have := h'.1
  exact Fin.ext (by omega)

/-- A patch that meets a kept row of a window lies inside the window. -/
theorem patch_inside : ∀ R : Fin 152, kept R = true → ∀ s ∈ starts, s ≤ colN R → colN R < s + 5 → winOf (R / 8) ≤ s ∧ s + 5 ≤ winOf (R / 8) + 8 := by
  decide +kernel

/-- Every patch lies inside a window. -/
theorem patch_window : ∀ s ∈ starts, ∃ w ∈ wins, w ≤ s ∧ s + 5 ≤ w + 8 := by decide +kernel

theorem mask_complete (R : Fin 152) (hR : kept R = true) (j : Fin 2048) (h : together starts (colF R) j = true) :
    ∃ x : Fin 152, maskB R x = true ∧ colF x = j := by
  have h0 := h
  unfold together at h
  rw [List.any_eq_true] at h
  obtain ⟨s, hs, hd⟩ := h
  have hd := of_decide_eq_true hd
  obtain ⟨h1, h2⟩ := patch_inside R hR s hs hd.1 hd.2.1
  have hj : 8 * (R.val / 8) + (j.val - winOf (R.val / 8)) < 152 := by have := R.isLt; omega
  have hq : (8 * (R.val / 8) + (j.val - winOf (R.val / 8))) / 8 = R.val / 8 := by omega
  have e : colN (8 * (R.val / 8) + (j.val - winOf (R.val / 8))) = j.val := by
    unfold colN
    rw [hq]
    omega
  refine ⟨⟨_, hj⟩, ?_, Fin.ext e⟩
  unfold maskB
  rw [Bool.and_eq_true, beq_iff_eq]
  refine ⟨hq.symm, ?_⟩
  rw [e]
  exact h0

theorem no_patch (r j : Fin 2048) (h : ∀ w ∈ wins, ¬ (w ≤ r.val ∧ r.val < w + 8)) : together starts r j = false := by
  rw [Bool.eq_false_iff]
  intro h0
  unfold together at h0
  rw [List.any_eq_true] at h0
  obtain ⟨s, hs, hd⟩ := h0
  have hd := of_decide_eq_true hd
  obtain ⟨w, hw, h1, h2⟩ := patch_window s hs
  exact h w hw ⟨by omega, by omega⟩

end Cert.KernelIdeal.Hand

end
-- ==== Proof.KernelIdealLoads.lean ====
module

public import Idealize.ShloMosaic.Lib.Pointwise
public import Idealize.ShloMosaic.Lib.Pipeline.Value
public import proofs.«01_k».proof.Proof.KernelIdealTerms
public import proofs.«01_k».proof.Proof.KernelIdealIndex

@[expose] public section

set_option maxRecDepth 16384

noncomputable section

namespace Cert.KernelIdeal.Hand

open Cert.KernelIdeal Cert.KernelIdeal.Gen
open Idealize.ShloMosaic Idealize.ShloMosaic.TcCoe

/-! ## Eight rows of an array -/

/-- Eight rows of a large array, from row `w` on. -/
def rowWin (X : FVec Ideal S2048x768 .f32) (w : ℕ) (hw : w + 8 ≤ 2048) : FVec Ideal S8x768 .f32 :=
  fun y => X (ix2 ⟨w + (y 0).val, by have : (y 0).val < 8 := (y 0).isLt; omega⟩ (y 1))

/-- Two indices of rank two are equal when their coordinates are. -/
theorem idx2_ext {n : Fin 2 → ℕ} {i j : (⟨2, n⟩ : Shape).Idx} (h0 : (i 0).val = (j 0).val) (h1 : (i 1).val = (j 1).val) : i = j := by
  funext a
  fin_cases a
  · exact Fin.ext h0
  · exact Fin.ext h1

/-- The windows stacked. -/
theorem stack_at (W : Fin 19 → FVec Ideal S8x768 .f32) (R : Fin 152) (j : Fin 768) :
    k0_pay2 (W 0) (W 1) (W 2) (W 3) (W 4) (W 5) (W 6) (W 7) (W 8) (W 9) (W 10) (W 11) (W 12) (W 13) (W 14) (W 15) (W 16) (W 17) (W 18) (ix2 R j)
      = W ⟨R.val / 8, by have := R.isLt; omega⟩ (ix2 ⟨R.val % 8, by omega⟩ j) := by
  have h := concatenates_S8x768_S8x768_S8x768_S8x768_S8x768_S8x768_S8x768_S8x768_S8x768_S8x768_S8x768_S8x768_S8x768_S8x768_S8x768_S8x768_S8x768_S8x768_S8x768_S152x768_d0
  exact concatenate_ofFn_apply (t := S152x768) (s₁ := S8x768) 0 W h rfl 8 rfl (ix2 R j) ⟨R.val / 8, by have := R.isLt; omega⟩ rfl
    (ix2 ⟨R.val % 8, by omega⟩ j) rfl (by intro b hb; fin_cases b; exacts [absurd rfl hb, rfl])

/-- The heads side by side. -/
theorem beside_at (W : Fin 12 → FVec Ideal S152x64 .f32) (R : Fin 152) (h : Fin 12) (e : Fin 64) :
    k0_pay78 (W 0) (W 1) (W 2) (W 3) (W 4) (W 5) (W 6) (W 7) (W 8) (W 9) (W 10) (W 11) (ix2 R ⟨64 * h.val + e.val, by omega⟩) = W h (ix2 R e) := by
  have hc := concatenates_S152x64_S152x64_S152x64_S152x64_S152x64_S152x64_S152x64_S152x64_S152x64_S152x64_S152x64_S152x64_S152x768_d1
  have hs : ∀ (x : FVec Ideal S152x768 .f32) (y : S152x768.Idx), shapeCast S152x768 x shapeCasts_S152x768_S152x768 y = x y := by
    intro x y; pointwise
  exact (hs _ _).trans (concatenate_ofFn_apply (t := S152x768) (s₁ := S152x64) 1 W hc rfl 64 rfl (ix2 R ⟨64 * h.val + e.val, by omega⟩) h
    (by show (64 * h.val + e.val) / 64 = h.val; omega) (ix2 R e) (by show e.val = (64 * h.val + e.val) % 64; omega)
    (by intro b hb; fin_cases b; exacts [rfl, absurd rfl hb]))

/-! ## The landed windows of the queries and the keys -/

variable (c : Dev nD)

theorem win_landed (M : Memref sig .tc .vmem S304x768 .f32) (B : Memref sig .tc .hbm S2048x768 .f32) (f : BufOf (F := Ideal) c B)
    (o d s w : ℕ) (ho : ∀ a, (![o, 0] : Fin 2 → ℕ) a + S8x768.size a ≤ S304x768.size a)
    (hd : ∀ a, (![d, 0] : Fin 2 → ℕ) a + S16x768.size a ≤ S304x768.size a) (hs : ∀ a, (![s, 0] : Fin 2 → ℕ) a + S16x768.size a ≤ S2048x768.size a)
    (h1 : d ≤ o) (h2 : o ≤ d + 8) (e : w + d = s + o) (hw : w + 8 ≤ 2048) :
    View.readAt (Elt Ideal) M.view (Rect.unit (s := S304x768) ![o, 0] S8x768.size ho).toLoadRect
      ((dstW M ![d, 0] hd).view.writes (Elt Ideal) (dstW M ![d, 0] hd).view.junk [⟨Rect.whole S16x768, ReadAs.same.apply ((srcW B ![s, 0] hs).view.read (Elt Ideal) f)⟩])
    = rowWin (B.view.read (Elt Ideal) f) w hw := by
  funext y
  have hy : (y 0).val < 8 := (y 0).isLt
  have hx : o - d + (y 0).val < 16 := by omega
  have key : ∀ g, View.readAt (Elt Ideal) M.view (Rect.unit (s := S304x768) ![o, 0] S8x768.size ho).toLoadRect g y
      = (dstW M ![d, 0] hd).view.read (Elt Ideal) g (ix2 ⟨o - d + (y 0).val, hx⟩ (y 1)) := by
    intro g
    show M.view.read (Elt Ideal) g _ = M.view.read (Elt Ideal) g _
    refine congrArg _ (idx2_ext ?_ ?_)
    · show o + 1 * (y 0).val = d + 1 * (o - d + (y 0).val); omega
    · show 0 + 1 * (y 1).val = 0 + 1 * (y 1).val; rfl
  rw [key]
  have e0 := View.read_writes_cons_emb (Val := Elt Ideal) (dstW M ![d, 0] hd).view (dstW M ![d, 0] hd).view.junk (Rect.whole S16x768)
    (ReadAs.same.apply ((srcW B ![s, 0] hs).view.read (Elt Ideal) f)) [] (ix2 ⟨o - d + (y 0).val, hx⟩ (y 1))
  rw [Rect.emb_whole_apply] at e0
  refine e0.trans ?_
  show B.view.read (Elt Ideal) f _ = B.view.read (Elt Ideal) f _
  refine congrArg _ (idx2_ext ?_ ?_)
  · show s + 1 * (o - d + (y 0).val) = w + (y 0).val; omega
  · show 0 + 1 * (y 1).val = (y 1).val; omega

theorem winOf_le : ∀ ci : Fin 19, winOf ci + 8 ≤ 2048 := by decide +kernel

/-- The stacked windows of the queries are the rows of the array; those of the keys too. -/
theorem stacked_q (fq : BufOf (F := Ideal) c hbQ) (R : Fin 152) (j : Fin 768) :
    run1.sl.r c fq (ix2 R j) = (hbQ.view.read (Elt Ideal) fq : FVec Ideal S2048x768 .f32) (ix2 (colF R) j) := by
  have L : ∀ (o d s w : ℕ) ho hd hs, d ≤ o → o ≤ d + 8 → w + d = s + o → ∀ hw : w + 8 ≤ 2048, qWin c fq o d s ho hd hs = rowWin (hbQ.view.read (Elt Ideal) fq) w hw :=
    fun o d s w ho hd hs h1 h2 e hw => win_landed c scQ hbQ fq o d s w ho hd hs h1 h2 e hw
  rw [run1_q]
  rw [L 2 0 80 82, L 18 16 528 530, L 37 32 616 621, L 53 48 728 733, L 68 64 784 788, L 85 80 824 829, L 101 96 856 861, L 112 112 976 976,
    L 131 128 992 995, L 151 144 1040 1047, L 162 160 1192 1194, L 176 176 1552 1552, L 197 192 1600 1605, L 211 208 1696 1699, L 225 224 1728 1729,
    L 247 240 1816 1823, L 256 256 1880 1880, L 273 272 1976 1977, L 294 288 1976 1982]
  · exact stack_at (fun ci => rowWin (hbQ.view.read (Elt Ideal) fq) (winOf ci) (winOf_le ci)) R j
  all_goals decide

theorem stacked_k (fk : BufOf (F := Ideal) c hbK) (R : Fin 152) (j : Fin 768) :
    run1.sl.r_1 c fk (ix2 R j) = (hbK.view.read (Elt Ideal) fk : FVec Ideal S2048x768 .f32) (ix2 (colF R) j) := by
  have L : ∀ (o d s w : ℕ) ho hd hs, d ≤ o → o ≤ d + 8 → w + d = s + o → ∀ hw : w + 8 ≤ 2048, kWin c fk o d s ho hd hs = rowWin (hbK.view.read (Elt Ideal) fk) w hw :=
    fun o d s w ho hd hs h1 h2 e hw => win_landed c scK hbK fk o d s w ho hd hs h1 h2 e hw
  rw [run1_k]
  rw [L 2 0 80 82, L 18 16 528 530, L 37 32 616 621, L 53 48 728 733, L 68 64 784 788, L 85 80 824 829, L 101 96 856 861, L 112 112 976 976,
    L 131 128 992 995, L 151 144 1040 1047, L 162 160 1192 1194, L 176 176 1552 1552, L 197 192 1600 1605, L 211 208 1696 1699, L 225 224 1728 1729,
    L 247 240 1816 1823, L 256 256 1880 1880, L 273 272 1976 1977, L 294 288 1976 1982]
  · exact stack_at (fun ci => rowWin (hbK.view.read (Elt Ideal) fk) (winOf ci) (winOf_le ci)) R j
  all_goals decide

/-! ## The windows of the values -/

/-- A block of the values holds the rows of the array from row `b` on. -/
abbrev Holds (M : Memref sig .tc .vmem S1024x768 .f32) (f : BufOf (F := Ideal) c M) (X : FVec Ideal S2048x768 .f32) (b : ℕ) (hb : b + 1024 ≤ 2048) : Prop :=
  ∀ i j, M.view.read (Elt Ideal) f (ix2 i j) = X (ix2 ⟨b + i.val, by omega⟩ j)

theorem block_rows {M : Memref sig .tc .vmem S1024x768 .f32} {f : BufOf (F := Ideal) c M} {X : FVec Ideal S2048x768 .f32} {b : ℕ} {hb : b + 1024 ≤ 2048}
    (H : Holds c M f X b hb) (o w : ℕ) (ho : ∀ a, (![o, 0] : Fin 2 → ℕ) a + S8x768.size a ≤ S1024x768.size a) (e : w = b + o) (hw : w + 8 ≤ 2048) :
    View.readAt (Elt Ideal) M.view (Rect.unit (s := S1024x768) ![o, 0] S8x768.size ho).toLoadRect f = rowWin X w hw := by
  subst e
  funext y
  have hy : (y 0).val < 8 := (y 0).isLt
  have h0 : o + 8 ≤ 1024 := ho 0
  refine Eq.trans ?_ ((H ⟨o + (y 0).val, by omega⟩ (y 1)).trans ?_)
  · show M.view.read (Elt Ideal) f _ = M.view.read (Elt Ideal) f _
    refine congrArg _ (idx2_ext ?_ ?_)
    · show o + 1 * (y 0).val = o + (y 0).val; omega
    · show 0 + 1 * (y 1).val = (y 1).val; omega
  · refine congrArg X (idx2_ext ?_ rfl)
    show b + (o + (y 0).val) = b + o + (y 0).val; omega

/-- A piece of the value scratch that is a window of the array. -/
theorem piece_ok {X : FVec Ideal S2048x768 .f32} (ci : Fin 19) (o w : ℕ) (ho : ∀ a, (![o, 0] : Fin 2 → ℕ) a + S8x768.size a ≤ S152x768.size a)
    (eo : o = 8 * ci.val) (ew : w = winOf ci) (hw : w + 8 ≤ 2048) (x : (Rect.unit (s := S152x768) ![o, 0] S8x768.size ho).shape.Idx) :
    rowWin X w hw x = (fun y : S152x768.Idx => X (ix2 (colF (y 0)) (y 1))) ((Rect.unit (s := S152x768) ![o, 0] S8x768.size ho).emb x) := by
  subst eo ew
  have hx : (x 0).val < 8 := (x 0).isLt
  refine congrArg X (idx2_ext ?_ ?_)
  · show winOf ci + (x 0).val = winOf ((8 * ci.val + 1 * (x 0).val) / 8) + (8 * ci.val + 1 * (x 0).val) % 8
    rw [show (8 * ci.val + 1 * (x 0).val) / 8 = ci.val by omega, show (8 * ci.val + 1 * (x 0).val) % 8 = (x 0).val by omega]
  · show (x 1).val = 0 + 1 * (x 1).val; omega

theorem stacked_v (arg1 : Memref sig .tc .vmem S1024x768 .f32) (f1 : BufOf (F := Ideal) c arg1) (X : FVec Ideal S2048x768 .f32)
    (H : Holds c arg1 f1 X 1024 (by decide)) (o : ℕ) (h : ∀ a, (![0, o] : Fin 2 → ℕ) a + S152x64.size a ≤ S152x768.size a) (x : Fin 152) (e : Fin 64) (j : Fin 768) (hj : j.val = o + e.val) :
    vHead c arg1 (rowWin X 82 (by decide)) (rowWin X 530 (by decide)) (rowWin X 621 (by decide)) (rowWin X 733 (by decide)) (rowWin X 788 (by decide))
      (rowWin X 829 (by decide)) (rowWin X 861 (by decide)) (rowWin X 976 (by decide)) (rowWin X 995 (by decide)) f1 o h (ix2 x e)
      = X (ix2 (colF x) j) := by
  have cov := View.cover_of_tiledL (Val := Elt Ideal) (run1.sl.HV_19 c arg1 (rowWin X 82 (by decide)) (rowWin X 530 (by decide)) (rowWin X 621 (by decide)) (rowWin X 733 (by decide)) (rowWin X 788 (by decide))
      (rowWin X 829 (by decide)) (rowWin X 861 (by decide)) (rowWin X 976 (by decide)) (rowWin X 995 (by decide)) f1) S8x768.size (by rfl)
  unfold vHead
  rw [View.readCov_eq_canon_ld _ _ _ cov]
  have hc := View.canon_apply_of_pieces (Val := Elt Ideal) (fun y : S152x768.Idx => X (ix2 (colF (y 0)) (y 1))) (run1.sl.HV_19 c arg1 (rowWin X 82 (by decide)) (rowWin X 530 (by decide)) (rowWin X 621 (by decide)) (rowWin X 733 (by decide)) (rowWin X 788 (by decide))
      (rowWin X 829 (by decide)) (rowWin X 861 (by decide)) (rowWin X 976 (by decide)) (rowWin X 995 (by decide)) f1) ?_ _ (cov ((Rect.unit (s := S152x768) ![0, o] S152x64.size h).idx (ix2 x e)))
  · refine hc.trans (congrArg X (idx2_ext ?_ ?_))
    · show colN (0 + 1 * x.val) = colN x.val
      rw [Nat.zero_add, Nat.one_mul]
    · show o + 1 * e.val = j.val; omega
  · have B := block_rows c H
    have S : ∀ v : FVec Ideal S8x768 .f32, shapeCast S8x768 (shapeCast S8x768 v shapeCasts_S8x768_S8x768) shapeCasts_S8x768_S8x768 = v := by
      intro v; funext y; pointwise
    have P : ∀ (o : ℕ) (ho : ∀ a, (![o, 0] : Fin 2 → ℕ) a + S8x768.size a ≤ S1024x768.size a) (ci : Fin 19) (k : ℕ) (hk : ∀ a, (![k, 0] : Fin 2 → ℕ) a + S8x768.size a ≤ S152x768.size a)
        (ek : k = 8 * ci.val) (ew : 1024 + o = winOf ci) (x : (Rect.unit (s := S152x768) ![k, 0] S8x768.size hk).shape.Idx),
        (shapeCast S8x768 (shapeCast S8x768 (View.readAt (Elt Ideal) arg1.view (Rect.unit (s := S1024x768) ![o, 0] S8x768.size ho).toLoadRect f1) shapeCasts_S8x768_S8x768) shapeCasts_S8x768_S8x768 : FVec Ideal S8x768 .f32) x
          = (fun y : S152x768.Idx => X (ix2 (colF (y 0)) (y 1))) ((Rect.unit (s := S152x768) ![k, 0] S8x768.size hk).emb x) := by
      intro o ho ci k hk ek ew x
      have h0 : o + 8 ≤ 1024 := ho 0
      rw [S, B o (1024 + o) ho rfl (by omega)]
      exact piece_ok ci k _ hk ek ew _ x
    have cons := fun (p : View.Piece (Elt Ideal) S152x768 .f32) L h1 h2 => (List.forall_mem_cons (p := fun p : View.Piece (Elt Ideal) S152x768 .f32 => ∀ x, p.2 x = (fun y : S152x768.Idx => X (ix2 (colF (y 0)) (y 1))) (p.1.emb x)) (a := p) (l := L)).mpr ⟨h1, h2⟩
    have Q := fun ci k w hk ek ew hw => piece_ok (X := X) ci k w hk ek ew hw
    refine cons _ _ (P 958 (by decide) 18 144 (by decide) rfl rfl)
      (cons _ _ (P 953 (by decide) 17 136 (by decide) rfl rfl)
      (cons _ _ (P 856 (by decide) 16 128 (by decide) rfl rfl)
      (cons _ _ (P 799 (by decide) 15 120 (by decide) rfl rfl)
      (cons _ _ (P 705 (by decide) 14 112 (by decide) rfl rfl)
      (cons _ _ (P 675 (by decide) 13 104 (by decide) rfl rfl)
      (cons _ _ (P 581 (by decide) 12 96 (by decide) rfl rfl)
      (cons _ _ (P 528 (by decide) 11 88 (by decide) rfl rfl)
      (cons _ _ (P 170 (by decide) 10 80 (by decide) rfl rfl)
      (cons _ _ (P 23 (by decide) 9 72 (by decide) rfl rfl)
      (cons _ _ (Q 8 64 995 (by decide) rfl rfl (by decide))
      (cons _ _ (Q 7 56 976 (by decide) rfl rfl (by decide))
      (cons _ _ (Q 6 48 861 (by decide) rfl rfl (by decide))
      (cons _ _ (Q 5 40 829 (by decide) rfl rfl (by decide))
      (cons _ _ (Q 4 32 788 (by decide) rfl rfl (by decide))
      (cons _ _ (Q 3 24 733 (by decide) rfl rfl (by decide))
      (cons _ _ (Q 2 16 621 (by decide) rfl rfl (by decide))
      (cons _ _ (Q 1 8 530 (by decide) rfl rfl (by decide))
      (cons _ _ (Q 0 0 82 (by decide) rfl rfl (by decide)) (by simp)))))))))))))))))))

end Cert.KernelIdeal.Hand

end
-- ==== Proof.KernelIdealReal.lean ====
module

public import proofs.«01_k».proof.Proof.KernelIdealIndex

@[expose] public section

set_option maxRecDepth 16384

noncomputable section

namespace Cert.KernelIdeal.Hand

open Idealize.ShloMosaic Cert.ReferenceIdeal.Hand

/-- A weighted sum of exponentials, almost all of them of zero: the plain sum, corrected at the rows of the windows that the
    mask keeps. -/
theorem sum_exp (S f : Fin 2048 → ℝ) (M : Fin 152 → Bool) (inj : ∀ x x', M x = true → M x' = true → colF x = colF x' → x = x')
    (all : ∀ j, S j ≠ 0 → ∃ x, M x = true ∧ colF x = j) :
    ∑ j, Real.exp (S j) * f j = ∑ j, f j + ∑ x, (if M x then Real.exp (S (colF x)) - 1 else 0) * f (colF x) := by
  have h1 : ∑ j, Real.exp (S j) * f j = ∑ j, f j + ∑ j, (Real.exp (S j) - 1) * f j := by
    rw [← Finset.sum_add_distrib]
    exact Finset.sum_congr rfl fun j _ => by ring
  rw [h1]
  congr 1
  simp only [ite_mul, zero_mul]
  rw [← Finset.sum_filter, ← Finset.sum_image (s := Finset.univ.filter fun x => M x = true) (g := colF) (f := fun j => (Real.exp (S j) - 1) * f j)
    (fun x hx x' hx' e => inj x x' (Finset.mem_filter.mp hx).2 (Finset.mem_filter.mp hx').2 e)]
  refine (Finset.sum_subset (Finset.subset_univ _) fun j _ hj => ?_).symm
  by_cases h0 : S j = 0
  · rw [h0, Real.exp_zero, sub_self, zero_mul]
  · obtain ⟨x, hx, e⟩ := all j h0
    exact absurd (Finset.mem_image.mpr ⟨x, Finset.mem_filter.mpr ⟨Finset.mem_univ _, hx⟩, e⟩) hj

variable (q k v : Cert.ReferenceIdeal.S1x2048x12x64.Idx → ℝ)

/-- A kept window row: the kernel's quotient is attention at that row. -/
theorem attend_window (R : Fin 152) (hR : kept R = true) (h : Fin 12) (e : Fin 64) :
    ((∑ r, v (ix4 0 r h e)) + ∑ x : Fin 152, (if maskB R x then Real.exp (∑ d : Fin 64, q (ix4 0 (colF R) h d) * k (ix4 0 (colF x) h d)) - 1 else 0) * v (ix4 0 (colF x) h e))
      / (2048 + ∑ x : Fin 152, if maskB R x then Real.exp (∑ d : Fin 64, q (ix4 0 (colF R) h d) * k (ix4 0 (colF x) h d)) - 1 else 0)
      = attend q k v (colF R) h e := by
  have hs : ∀ x : Fin 152, (if maskB R x then Real.exp (∑ d : Fin 64, q (ix4 0 (colF R) h d) * k (ix4 0 (colF x) h d)) - 1 else 0)
      = if maskB R x then Real.exp (score q k h (colF R) (colF x)) - 1 else 0 := by
    intro x
    by_cases hx : maskB R x = true
    · have ht : together starts (colF R) (colF x) = true := by
        unfold maskB at hx
        exact (Bool.and_eq_true _ _ ▸ hx).2
      rw [if_pos hx, if_pos hx]
      unfold score
      rw [if_pos ht]
    · rw [if_neg hx, if_neg hx]
  have key := fun f => sum_exp (score q k h (colF R)) f (fun x => maskB R x) (fun x x' hx hx' => colF_inj hx hx') (fun j hj => by
    refine mask_complete R hR j ?_
    by_contra hn
    exact hj (by unfold score; rw [if_neg hn]))
  unfold attend
  have k1 := key fun _ => 1
  simp only [mul_one, Finset.sum_const, Finset.card_univ, Fintype.card_fin, nsmul_eq_mul] at k1
  rw [key, k1]
  simp only [hs]
  norm_num

/-- A row in no window: attention is the mean of the values. -/
theorem attend_mean (r : Fin 2048) (hr : ∀ w ∈ wins, ¬ (w ≤ r.val ∧ r.val < w + 8)) (h : Fin 12) (e : Fin 64) :
    (∑ r, v (ix4 0 r h e)) * (1 / 2048) = attend q k v r h e := by
  unfold attend score
  have hn := fun c => no_patch r c hr
  simp [hn]
  ring

end Cert.KernelIdeal.Hand

end
-- ==== Proof.KernelIdealHead.lean ====
module

public import Idealize.ShloMosaic.Lib.Pointwise
public import proofs.«01_k».proof.Proof.KernelIdealTerms
public import proofs.«01_k».proof.Proof.RefSoftmax

@[expose] public section

set_option maxRecDepth 16384

noncomputable section

namespace Cert.KernelIdeal.Hand

open Cert.KernelIdeal Cert.KernelIdeal.Gen
open Idealize.ShloMosaic Idealize.ShloMosaic.TcCoe

open Cert.ReferenceIdeal.Hand (coe_sum div_coe)

/-- The scores under the mask: the product of the rows where the mask is one, bottom where it is zero. -/
theorem score_at (qh kh : FVec Ideal S152x64 .f32) (mk : FVec Ideal S152x152 .f32) (R x : Fin 152) :
    scoreOf qh kh mk (ix2 R x) = (∑ e : Fin 64, qh (ix2 R e) * kh (ix2 x e)) * mk (ix2 R x) + (1 - mk (ix2 R x)) * ⊥ := by
  pointwise [scoreOf]
  rfl

theorem score_real (qh kh : FVec Ideal S152x64 .f32) (mk : FVec Ideal S152x152 .f32) (R x : Fin 152) (M : Bool) (a b : Fin 64 → ℝ)
    (hq : ∀ e, qh (ix2 R e) = (a e : EReal)) (hk : ∀ e, kh (ix2 x e) = (b e : EReal)) (hm : mk (ix2 R x) = if M then 1 else 0) :
    scoreOf qh kh mk (ix2 R x) = if M then ((∑ e, a e * b e : ℝ) : EReal) else ⊥ := by
  rw [score_at, hm]
  simp only [hq, hk, ← EReal.coe_mul, ← coe_sum]
  cases M
  · simp
  · have e1 : (1 : EReal) - 1 = 0 := by rw [← EReal.coe_one, ← EReal.coe_sub]; simp
    simp [e1]

theorem max_at (sm : FVec Ideal S152x152 .f32) (R : Fin 152) :
    maxOf sm (ix2 R 0) = max (Finset.fold max (Ideal.ofBits .f32 0xFF800000#32) (fun x => sm (ix2 R x)) Finset.univ) 0 := by
  pointwise [maxOf]

/-- A maximum from bottom of numbers that are real or bottom is one of them. -/
theorem fold_real {ι : Type} (s : Finset ι) (f : ι → EReal) (hf : ∀ i, f i = ⊥ ∨ ∃ y : ℝ, f i = y) :
    Finset.fold max ⊥ f s = ⊥ ∨ ∃ y : ℝ, Finset.fold max ⊥ f s = y := by
  classical
  induction s using Finset.induction_on with
  | empty => exact Or.inl rfl
  | insert a s ha ih =>
    rw [Finset.fold_insert ha]
    rcases le_total (f a) (Finset.fold max ⊥ f s) with h | h
    · rw [max_eq_right h]; exact ih
    · rw [max_eq_left h]; exact hf a

/-- A row's largest score, at least zero, is a real number. -/
theorem max_real (sm : FVec Ideal S152x152 .f32) (R : Fin 152) (hf : ∀ x, sm (ix2 R x) = ⊥ ∨ ∃ y : ℝ, sm (ix2 R x) = y) :
    ∃ μ : ℝ, maxOf sm (ix2 R 0) = μ := by
  have b : Ideal.ofBits .f32 0xFF800000#32 = ⊥ := by simp [Ideal.ofBits, Ideal.ieee]
  rw [max_at, b]
  rcases fold_real Finset.univ (fun x => sm (ix2 R x)) hf with h | ⟨y, h⟩
  · exact ⟨0, by rw [h, max_eq_right bot_le]; rfl⟩
  · rw [h]
    rcases le_total (y : EReal) 0 with h0 | h0
    · exact ⟨0, by rw [max_eq_right h0]; rfl⟩
    · exact ⟨y, by rw [max_eq_left h0]⟩

theorem mix_at (sm : FVec Ideal S152x152 .f32) (mx : FVec Ideal S152x1 .f32) (mk : FVec Ideal S152x152 .f32) (vh : FVec Ideal S152x64 .f32) (sh : FVec Ideal S1x64 .f32) (R : Fin 152) (e : Fin 64) :
    mixOf sm mx mk vh sh (ix2 R e) = Ideal.div
      (Ideal.exp (0 - mx (ix2 R 0)) * sh (ix2 0 e) +
        ∑ x : Fin 152, (Ideal.exp (sm (ix2 R x) - mx (ix2 R 0)) - mk (ix2 R x) * Ideal.exp (0 - mx (ix2 R 0))) * vh (ix2 x e))
      ((Ideal.ofBits FTy.f32 0x45000000#32 - ∑ x : Fin 152, mk (ix2 R x)) * Ideal.exp (0 - mx (ix2 R 0)) +
        ∑ x : Fin 152, Ideal.exp (sm (ix2 R x) - mx (ix2 R 0))) := by
  pointwise [mixOf, emOf, expOf, k0_pay4]

theorem bits_2048 : Ideal.ofBits FTy.f32 0x45000000#32 = ((2048 : ℝ) : EReal) := by
  simp [Ideal.ofBits, Ideal.ieee, -EReal.coe_mul]; norm_num

/-- The denominator of a window row is positive: at most 152 of the terms are above minus one. -/
theorem den_pos (M : Fin 152 → Bool) (t : Fin 152 → ℝ) : (0 : ℝ) < 2048 + ∑ x, if M x then Real.exp (t x) - 1 else 0 := by
  have h : ∑ x : Fin 152, (-1 : ℝ) ≤ ∑ x, if M x then Real.exp (t x) - 1 else 0 := Finset.sum_le_sum fun x _ => by
    split
    · have := Real.exp_pos (t x); linarith
    · norm_num
  rw [Finset.sum_const, Finset.card_univ, Fintype.card_fin] at h
  norm_num at h
  linarith

/-- A head's result at a row: the column sum and the row count, each with the window's corrections. -/
theorem mix_real (sm : FVec Ideal S152x152 .f32) (mx : FVec Ideal S152x1 .f32) (mk : FVec Ideal S152x152 .f32) (vh : FVec Ideal S152x64 .f32) (sh : FVec Ideal S1x64 .f32) (R : Fin 152) (e : Fin 64)
    (M : Fin 152 → Bool) (t w : Fin 152 → ℝ) (μ s : ℝ) (hs : ∀ x, sm (ix2 R x) = if M x then (t x : EReal) else ⊥) (hμ : mx (ix2 R 0) = μ)
    (hm : ∀ x, mk (ix2 R x) = if M x then 1 else 0) (hw : ∀ x, vh (ix2 x e) = w x) (hsv : sh (ix2 0 e) = s) :
    mixOf sm mx mk vh sh (ix2 R e)
      = (((s + ∑ x, (if M x then Real.exp (t x) - 1 else 0) * w x) / (2048 + ∑ x, if M x then Real.exp (t x) - 1 else 0) : ℝ) : EReal) := by
  have em : Ideal.exp (0 - (μ : EReal)) = (Real.exp (-μ) : ℝ) := by rw [zero_sub, ← EReal.coe_neg]; rfl
  have p : ∀ x, Ideal.exp (sm (ix2 R x) - (μ : EReal)) = ((if M x then Real.exp (t x) * Real.exp (-μ) else 0 : ℝ) : EReal) := fun x => by
    rw [hs x]
    cases M x
    · show Ideal.exp (⊥ - (μ : EReal)) = _
      rw [sub_eq_add_neg, EReal.bot_add]; simp
    · simp only [if_true]
      rw [← EReal.coe_sub, ← Real.exp_add, ← sub_eq_add_neg]; rfl
  have k : ∀ x, mk (ix2 R x) = ((if M x then 1 else 0 : ℝ) : EReal) := fun x => by rw [hm x]; cases M x <;> simp
  rw [mix_at, hμ, bits_2048, hsv]
  simp only [em, p, k, hw, ← EReal.coe_mul, ← EReal.coe_sub, ← coe_sum, ← EReal.coe_add]
  have e0 := Real.exp_pos (-μ)
  have num : Real.exp (-μ) * s + ∑ x, ((if M x then Real.exp (t x) * Real.exp (-μ) else 0) - (if M x then 1 else 0) * Real.exp (-μ)) * w x
      = Real.exp (-μ) * (s + ∑ x, (if M x then Real.exp (t x) - 1 else 0) * w x) := by
    rw [mul_add, Finset.mul_sum]
    congr 1
    refine Finset.sum_congr rfl fun x _ => ?_
    cases M x <;> simp; ring
  have den : (2048 - ∑ x, (if M x then 1 else 0 : ℝ)) * Real.exp (-μ) + ∑ x, (if M x then Real.exp (t x) * Real.exp (-μ) else 0)
      = Real.exp (-μ) * (2048 + ∑ x, if M x then Real.exp (t x) - 1 else 0) := by
    rw [sub_mul, mul_add, Finset.mul_sum, Finset.sum_mul, mul_comm, sub_add_eq_add_sub, add_sub_assoc, ← Finset.sum_sub_distrib]
    congr 1
    refine Finset.sum_congr rfl fun x _ => ?_
    cases M x <;> simp; ring
  rw [num, den, div_coe _ _ (mul_pos e0 (den_pos M t)).ne', mul_div_mul_left _ _ e0.ne']

/-- A head's result, of the window's rows. -/
theorem head_real (o : ℕ) (h : S152x768.Slices ![0, o] S152x64) (h' : S1x768.Slices ![0, o] S1x64) (qw kw : FVec Ideal S152x768 .f32) (sv : FVec Ideal S1x768 .f32)
    (mk : FVec Ideal S152x152 .f32) (vh : FVec Ideal S152x64 .f32) (R : Fin 152) (e : Fin 64) (M : Fin 152 → Bool) (a : Fin 64 → ℝ) (b : Fin 152 → Fin 64 → ℝ) (w : Fin 152 → ℝ) (s : ℝ)
    (hq : ∀ e, extractStridedSlice S152x64 ![0, o] qw h (ix2 R e) = (a e : EReal)) (hk : ∀ x e, extractStridedSlice S152x64 ![0, o] kw h (ix2 x e) = (b x e : EReal))
    (hm : ∀ x, mk (ix2 R x) = if M x then 1 else 0) (hw : ∀ x, vh (ix2 x e) = w x) (hsv : extractStridedSlice S1x64 ![0, o] sv h' (ix2 0 e) = s) :
    headOf o h h' qw kw sv mk vh (ix2 R e)
      = (((s + ∑ x, (if M x then Real.exp (∑ e, a e * b x e) - 1 else 0) * w x) / (2048 + ∑ x, if M x then Real.exp (∑ e, a e * b x e) - 1 else 0) : ℝ) : EReal) := by
  have hs := fun x => score_real _ _ mk R x (M x) a (b x) hq (hk x) (hm x)
  obtain ⟨μ, hμ⟩ := max_real (scoreOf (extractStridedSlice S152x64 ![0, o] qw h) (extractStridedSlice S152x64 ![0, o] kw h) mk) R fun x => by
    rw [hs x]
    cases M x
    · exact Or.inl (by simp)
    · exact Or.inr ⟨_, by simp; rfl⟩
  exact mix_real _ _ mk vh _ R e M _ w μ s hs hμ hm hw hsv

end Cert.KernelIdeal.Hand

end
-- ==== Proof.KernelIdealRows.lean ====
module

public import proofs.«01_k».proof.Proof.KernelIdealLoads
public import proofs.«01_k».proof.Proof.KernelIdealReal
public import proofs.«01_k».proof.Proof.KernelIdealHead

@[expose] public section

set_option maxRecDepth 16384

noncomputable section

namespace Cert.KernelIdeal.Hand

open Cert.KernelIdeal Cert.KernelIdeal.Gen
open Idealize.ShloMosaic Idealize.ShloMosaic.TcCoe
open Cert.ReferenceIdeal.Hand (attend coe_sum together starts)

/-- A large array holds real numbers, the heads side by side. -/
def Flat (X : FVec Ideal S2048x768 .f32) (v : S1x2048x12x64.Idx → ℝ) : Prop :=
  ∀ (r : Fin 2048) (h : Fin 12) (e : Fin 64), X (ix2 r ⟨64 * h.val + e.val, by omega⟩) = (v (ix4 0 r h e) : EReal)

theorem slice_rows (x : FVec Ideal S152x768 .f32) (o : ℕ) (h : S152x768.Slices ![0, o] S152x64) (R : Fin 152) (e : Fin 64) (j : Fin 768) (hj : j.val = o + e.val) :
    extractStridedSlice S152x64 ![0, o] x h (ix2 R e) = x (ix2 R j) :=
  extractStridedSlice_apply ![0, o] x h (ix2 R e) (ix2 R j) (by
    intro a
    fin_cases a
    · exact (Nat.zero_add _).symm
    · exact hj)

theorem slice_sums (x : FVec Ideal S1x768 .f32) (o : ℕ) (h : S1x768.Slices ![0, o] S1x64) (e : Fin 64) (j : Fin 768) (hj : j.val = o + e.val) :
    extractStridedSlice S1x64 ![0, o] x h (ix2 0 e) = x (ix2 0 j) :=
  extractStridedSlice_apply ![0, o] x h (ix2 0 e) (ix2 0 j) (by
    intro a
    fin_cases a
    · rfl
    · exact hj)

variable (c : Dev nD)

/-- A row of the windows' results is attention at that row. -/
theorem rows_at (arg1 : Memref sig .tc .vmem S1024x768 .f32) (arg4 : Memref sig .tc .vmem S152x152 .f32)
    (fq : BufOf (F := Ideal) c hbQ) (fk : BufOf (F := Ideal) c hbK) (fa : BufOf (F := Ideal) c scAcc) (f1 : BufOf (F := Ideal) c arg1) (fm : BufOf (F := Ideal) c arg4)
    (X : FVec Ideal S2048x768 .f32) (q k v : S1x2048x12x64.Idx → ℝ) (hq : Flat (hbQ.view.read (Elt Ideal) fq) q) (hk : Flat (hbK.view.read (Elt Ideal) fk) k) (hX : Flat X v)
    (H : Holds c arg1 f1 X 1024 (by decide))
    (hs : ∀ (h : Fin 12) (e : Fin 64), run1.sl.v318 c arg1 fa f1 (ix2 0 ⟨64 * h.val + e.val, by omega⟩) = ((∑ r, v (ix4 0 r h e) : ℝ) : EReal))
    (hm : ∀ R x : Fin 152, run1.sl.r_2 c arg4 fm (ix2 R x) = if maskB R x then 1 else 0)
    (R : Fin 152) (hR : kept R = true) (h : Fin 12) (e : Fin 64) :
    rowsOf c arg1 arg4 fq fk fa (rowWin X 82 (by decide)) (rowWin X 530 (by decide)) (rowWin X 621 (by decide)) (rowWin X 733 (by decide)) (rowWin X 788 (by decide))
      (rowWin X 829 (by decide)) (rowWin X 861 (by decide)) (rowWin X 976 (by decide)) (rowWin X 995 (by decide)) f1 fm (ix2 R ⟨64 * h.val + e.val, by omega⟩)
      = (attend q k v (colF R) h e : EReal) := by
  refine (beside_at (fun h => headAt c arg1 arg4 fq fk fa (rowWin X 82 (by decide)) (rowWin X 530 (by decide)) (rowWin X 621 (by decide)) (rowWin X 733 (by decide)) (rowWin X 788 (by decide))
      (rowWin X 829 (by decide)) (rowWin X 861 (by decide)) (rowWin X 976 (by decide)) (rowWin X 995 (by decide)) f1 fm h) R h e).trans ?_
  unfold headAt
  refine (head_real (64 * h.val) _ _ (run1.sl.r c fq) (run1.sl.r_1 c fk) (run1.sl.v318 c arg1 fa f1) (run1.sl.r_2 c arg4 fm) _ R e (fun x => maskB R x)
    (fun d => q (ix4 0 (colF R) h d)) (fun x d => k (ix4 0 (colF x) h d)) (fun x => v (ix4 0 (colF x) h e)) (∑ r, v (ix4 0 r h e)) (fun d => ?_) (fun x d => ?_) (fun x => hm R x) (fun x => ?_) ?_).trans ?_
  · rw [slice_rows _ _ _ R d ⟨64 * h.val + d.val, by omega⟩ rfl, stacked_q]
    exact hq _ _ _
  · rw [slice_rows _ _ _ x d ⟨64 * h.val + d.val, by omega⟩ rfl, stacked_k]
    exact hk _ _ _
  · rw [stacked_v c arg1 f1 X H (64 * h.val) _ x e ⟨64 * h.val + e.val, by omega⟩ rfl]
    exact hX _ _ _
  · rw [slice_sums _ _ _ e ⟨64 * h.val + e.val, by omega⟩ rfl]
    exact hs _ _
  · rw [attend_window q k v R hR h e]

/-! ## The column sums -/

theorem pay57_at (a : FVec Ideal S1x768 .f32) (x : FVec Ideal S1024x768 .f32) (j : Fin 768) :
    k0_pay57 a x (ix2 0 j) = a (ix2 0 j) + ∑ i : Fin 1024, x (ix2 i j) := by
  pointwise [k0_pay57]

theorem pay1_at (j : Fin 768) : (k0_pay1 : FVec Ideal S1x768 .f32) (ix2 0 j) = 0 := by
  pointwise [k0_pay1]

theorem bits_mean : (Ideal.ofBits .f32 0x3A000000#32 : EReal) = ((1 / 2048 : ℝ) : EReal) := by
  simp [Ideal.ofBits, Ideal.ieee, -EReal.coe_mul]; norm_num

theorem pay79_at (a : FVec Ideal S1x768 .f32) (i : Fin 1024) (j : Fin 768) :
    k0_pay79 a (ix2 i j) = a (ix2 0 j) * ((1 / 2048 : ℝ) : EReal) := by
  rw [← bits_mean]
  pointwise [k0_pay79]

/-! ## The blocks of the result -/

/-- Eight rows of the windows' results put in their place in a block of the result. -/
theorem place (q k v : S1x2048x12x64.Idx → ℝ) (M : Memref sig .tc .vmem S1024x768 .f32) (f : BufOf (F := Ideal) c M) (L : List (View.Piece (Elt Ideal) S1024x768 .f32))
    (X : FVec Ideal S152x768 .f32) (hX : ∀ (R : Fin 152), kept R = true → ∀ (h : Fin 12) (e : Fin 64), X (ix2 R ⟨64 * h.val + e.val, by omega⟩) = (attend q k v (colF R) h e : EReal))
    (b o ci : ℕ) (ho : ∀ a, (![o, 0] : Fin 2 → ℕ) a + S8x768.size a ≤ S1024x768.size a) (w : FVec Ideal S8x768 .f32) (hci : ci < 19) (ew : b + o = winOf ci)
    (hw : ∀ (y : Fin 8) (j : Fin 768), w (ix2 y j) = X (ix2 ⟨8 * ci + y.val, by omega⟩ j))
    (i : Fin 1024) (h : Fin 12) (e : Fin 64) (hb : b + i.val < 2048) (hk : ci ≠ 17 ∨ (i.val < o + 8 → i.val < o + 5))
    (next : i.val < o ∨ o + 8 ≤ i.val → M.view.read (Elt Ideal) (M.view.writes (Elt Ideal) f L) (ix2 i ⟨64 * h.val + e.val, by omega⟩) = (attend q k v ⟨b + i.val, hb⟩ h e : EReal)) :
    M.view.read (Elt Ideal) (M.view.writes (Elt Ideal) f (⟨Rect.unit (s := S1024x768) ![o, 0] S8x768.size ho, w⟩ :: L)) (ix2 i ⟨64 * h.val + e.val, by omega⟩)
      = (attend q k v ⟨b + i.val, hb⟩ h e : EReal) := by
  by_cases hin : i.val < o ∨ o + 8 ≤ i.val
  · exact (View.read_writes_cons_rows_of_not_mem M.view f ho w L (ix2 i ⟨64 * h.val + e.val, by omega⟩) rfl rfl hin).trans (next hin)
  · have h8 : i.val - o < 8 := by omega
    refine (View.read_writes_cons_rows_of_mem M.view f ho w L (ix2 i ⟨64 * h.val + e.val, by omega⟩) (ix2 ⟨i.val - o, h8⟩ ⟨64 * h.val + e.val, by omega⟩) rfl
      (by show i.val = o + (i.val - o); omega) rfl).trans ?_
    rw [hw]
    refine (hX _ ?_ h e).trans ?_
    · show kept (8 * ci + (i.val - o)) = true
      unfold kept
      rw [show (8 * ci + (i.val - o)) / 8 = ci by omega, show (8 * ci + (i.val - o)) % 8 = i.val - o by omega]
      rcases hk with hk | hk
      · simp [hk]
      · have : ¬ 5 ≤ i.val - o := by have := hk (by omega); omega
        simp [this]
    · have : colF ⟨8 * ci + (i.val - o), by omega⟩ = ⟨b + i.val, hb⟩ := Fin.ext (by
        show winOf ((8 * ci + (i.val - o)) / 8) + (8 * ci + (i.val - o)) % 8 = b + i.val
        rw [show (8 * ci + (i.val - o)) / 8 = ci by omega, show (8 * ci + (i.val - o)) % 8 = i.val - o by omega]
        omega)
      rw [this]

/-- A row of the block in no window. -/
theorem place_base (q k v : S1x2048x12x64.Idx → ℝ) (M : Memref sig .tc .vmem S1024x768 .f32) (f : BufOf (F := Ideal) c M) (a : FVec Ideal S1x768 .f32)
    (ha : ∀ (h : Fin 12) (e : Fin 64), a (ix2 0 ⟨64 * h.val + e.val, by omega⟩) = ((∑ r, v (ix4 0 r h e) : ℝ) : EReal))
    (b : ℕ) (i : Fin 1024) (h : Fin 12) (e : Fin 64) (hb : b + i.val < 2048) (hn : ∀ w ∈ wins, ¬ (w ≤ b + i.val ∧ b + i.val < w + 8)) :
    M.view.read (Elt Ideal) (M.view.writes (Elt Ideal) f [basePiece a]) (ix2 i ⟨64 * h.val + e.val, by omega⟩) = (attend q k v ⟨b + i.val, hb⟩ h e : EReal) := by
  rw [View.read_writes_full, pay79_at, ha, ← EReal.coe_mul, attend_mean q k v ⟨b + i.val, hb⟩ hn h e]

theorem read_whole (X : FVec Ideal S152x768 .f32) (f : BufOf (F := Ideal) c scR) (hf : scR.view.read (Elt Ideal) f = X) (o : ℕ) (ho : ∀ a, (![o, 0] : Fin 2 → ℕ) a + S8x768.size a ≤ S152x768.size a)
    (y : Fin 8) (j : Fin 768) (hy : o + y.val < 152) :
    View.readAt (Elt Ideal) scR.view (Rect.unit (s := S152x768) ![o, 0] S8x768.size ho).toLoadRect f (ix2 y j) = X (ix2 ⟨o + y.val, hy⟩ j) := by
  subst hf
  show scR.view.read (Elt Ideal) f _ = scR.view.read (Elt Ideal) f _
  refine congrArg _ (idx2_ext ?_ ?_)
  · show o + 1 * y.val = o + y.val; omega
  · show 0 + 1 * j.val = j.val; omega

theorem first_block (q k v : S1x2048x12x64.Idx → ℝ) (M : Memref sig .tc .vmem S1024x768 .f32) (f : BufOf (F := Ideal) c M) (X : FVec Ideal S152x768 .f32)
    (hX : ∀ (R : Fin 152), kept R = true → ∀ (h : Fin 12) (e : Fin 64), X (ix2 R ⟨64 * h.val + e.val, by omega⟩) = (attend q k v (colF R) h e : EReal))
    (a : FVec Ideal S1x768 .f32) (ha : ∀ (h : Fin 12) (e : Fin 64), a (ix2 0 ⟨64 * h.val + e.val, by omega⟩) = ((∑ r, v (ix4 0 r h e) : ℝ) : EReal))
    (i : Fin 1024) (h : Fin 12) (e : Fin 64) (hb : 0 + i.val < 2048) :
    M.view.read (Elt Ideal) (M.view.writes (Elt Ideal) f (outPieces X a)) (ix2 i ⟨64 * h.val + e.val, by omega⟩) = (attend q k v ⟨0 + i.val, hb⟩ h e : EReal) := by
  have W := fun o ho y j hy => read_whole c X (scR.view.writes (Elt Ideal) scR.view.junk [⟨Rect.unit (s := S152x768) ![0, 0] S152x768.size inb_S152x768_S152x768_0_0, X⟩]) (View.read_writes_full _ _ _ _ _) o ho y j hy
  have P := fun o ci ho L w hci ew hw hk next => place c q k v M f L X hX 0 o ci ho w hci ew hw i h e hb hk next
  refine P 995 8 _ _ _ (by decide) rfl (fun y j => W 64 _ y j _) (Or.inl (by decide)) fun n8 => ?_
  refine P 976 7 _ _ _ (by decide) rfl (fun y j => W 56 _ y j _) (Or.inl (by decide)) fun n7 => ?_
  refine P 861 6 _ _ _ (by decide) rfl (fun y j => W 48 _ y j _) (Or.inl (by decide)) fun n6 => ?_
  refine P 829 5 _ _ _ (by decide) rfl (fun y j => W 40 _ y j _) (Or.inl (by decide)) fun n5 => ?_
  refine P 788 4 _ _ _ (by decide) rfl (fun y j => W 32 _ y j _) (Or.inl (by decide)) fun n4 => ?_
  refine P 733 3 _ _ _ (by decide) rfl (fun y j => W 24 _ y j _) (Or.inl (by decide)) fun n3 => ?_
  refine P 621 2 _ _ _ (by decide) rfl (fun y j => W 16 _ y j _) (Or.inl (by decide)) fun n2 => ?_
  refine P 530 1 _ _ _ (by decide) rfl (fun y j => W 8 _ y j _) (Or.inl (by decide)) fun n1 => ?_
  refine P 82 0 _ _ _ (by decide) rfl (fun y j => W 0 _ y j _) (Or.inl (by decide)) fun n0 => ?_
  refine place_base c q k v M f a ha 0 i h e hb ?_
  have := i.isLt
  simp only [wins, List.forall_mem_cons, List.not_mem_nil, false_imp_iff, implies_true, and_true]
  omega

theorem second_block (q k v : S1x2048x12x64.Idx → ℝ) (M : Memref sig .tc .vmem S1024x768 .f32) (f : BufOf (F := Ideal) c M) (X : FVec Ideal S152x768 .f32)
    (hX : ∀ (R : Fin 152), kept R = true → ∀ (h : Fin 12) (e : Fin 64), X (ix2 R ⟨64 * h.val + e.val, by omega⟩) = (attend q k v (colF R) h e : EReal))
    (fr : BufOf (F := Ideal) c scR) (hr : scR.view.read (Elt Ideal) fr = X) (a : FVec Ideal S1x768 .f32) (ha : ∀ (h : Fin 12) (e : Fin 64), a (ix2 0 ⟨64 * h.val + e.val, by omega⟩) = ((∑ r, v (ix4 0 r h e) : ℝ) : EReal))
    (i : Fin 1024) (h : Fin 12) (e : Fin 64) (hb : 1024 + i.val < 2048) :
    M.view.read (Elt Ideal) (M.view.writes (Elt Ideal) f (lastPieces c fr a)) (ix2 i ⟨64 * h.val + e.val, by omega⟩) = (attend q k v ⟨1024 + i.val, hb⟩ h e : EReal) := by
  have W := fun o ho y j hy => read_whole c X fr hr o ho y j hy
  have P := fun o ci ho L w hci ew hw hk next => place c q k v M f L X hX 1024 o ci ho w hci ew hw i h e hb hk next
  refine P 958 18 _ _ _ (by decide) rfl (fun y j => W 144 _ y j _) (Or.inl (by decide)) fun n18 => ?_
  refine P 953 17 _ _ _ (by decide) rfl (fun y j => W 136 _ y j _) (Or.inr (by omega)) fun n17 => ?_
  refine P 856 16 _ _ _ (by decide) rfl (fun y j => W 128 _ y j _) (Or.inl (by decide)) fun n16 => ?_
  refine P 799 15 _ _ _ (by decide) rfl (fun y j => W 120 _ y j _) (Or.inl (by decide)) fun n15 => ?_
  refine P 705 14 _ _ _ (by decide) rfl (fun y j => W 112 _ y j _) (Or.inl (by decide)) fun n14 => ?_
  refine P 675 13 _ _ _ (by decide) rfl (fun y j => W 104 _ y j _) (Or.inl (by decide)) fun n13 => ?_
  refine P 581 12 _ _ _ (by decide) rfl (fun y j => W 96 _ y j _) (Or.inl (by decide)) fun n12 => ?_
  refine P 528 11 _ _ _ (by decide) rfl (fun y j => W 88 _ y j _) (Or.inl (by decide)) fun n11 => ?_
  refine P 170 10 _ _ _ (by decide) rfl (fun y j => W 80 _ y j _) (Or.inl (by decide)) fun n10 => ?_
  refine P 23 9 _ _ _ (by decide) rfl (fun y j => W 72 _ y j _) (Or.inl (by decide)) fun n9 => ?_
  refine place_base c q k v M f a ha 1024 i h e hb ?_
  have := i.isLt
  simp only [wins, List.forall_mem_cons, List.not_mem_nil, false_imp_iff, implies_true, and_true]
  omega

end Cert.KernelIdeal.Hand

end
-- ==== Proof.KernelIdealMask.lean ====
module

public import proofs.«01_k».proof.Proof.KernelIdealIndex

@[expose] public section

set_option maxRecDepth 16384

noncomputable section

namespace Cert.KernelIdeal.Hand

open Idealize.ShloMosaic Cert.ReferenceIdeal.Hand

/-- The words of the mask. -/
theorem mask_words : ∀ R x : Fin 152, lit0 ⟨152 * R.val + x.val, by have := R.isLt; have := x.isLt; show _ < S152x152.numel; have : S152x152.numel = 23104 := by decide
                                                                    omega⟩ = if maskB R x then 0x3F800000#32 else 0#32 := by
  decide +kernel

end Cert.KernelIdeal.Hand

end
-- ==== Proof.KernelIdealFinal.lean ====
module

public import Idealize.ShloMosaic.Lib.Claim
public import Idealize.ShloMosaic.Lib.Pipeline.ValueKit
public import proofs.«01_k».proof.Proof.KernelIdealRows
public import proofs.«01_k».proof.Proof.KernelIdealMask
public import proofs.«01_k».proof.Proof.KernelIdealFrame

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Cert.ReferenceIdeal.Hand (attend coe_sum together starts)

/-! ## Reshapes -/

theorem join_at (x : FVec Ideal S1x2048x12x64 .f32) (r : Fin 2048) (h : Fin 12) (e : Fin 64) :
    shapeCast S2048x768 x shapeCasts_S1x2048x12x64_S2048x768 (ix2 r ⟨64 * h.val + e.val, by omega⟩) = x (ix4 0 r h e) := by
  pointwise

theorem split_at (x : FVec Ideal S2048x768 .f32) (r : Fin 2048) (h : Fin 12) (e : Fin 64) :
    shapeCast S1x2048x12x64 x shapeCasts_S2048x768_S1x2048x12x64 (ix4 0 r h e) = x (ix2 r ⟨64 * h.val + e.val, by omega⟩) := by
  pointwise
  exact congrArg x (idx2_ext rfl (by show h.val * 64 + e.val = 64 * h.val + e.val; omega))

variable (m : (ℓ : Loc nD τ sig) → Buf (Elt Ideal) ℓ) (c : Dev nD)

theorem entry0 : (V m c main_v0 : FVec Ideal S2048x768 .f32) = shapeCast S2048x768 (m ((c : Thread nD τ).loc main_arg0) : FVec Ideal S1x2048x12x64 .f32) shapeCasts_S1x2048x12x64_S2048x768 := by
  unfold V V0
  simp only [List.flatten_cons, List.flatten_nil, List.append_nil]
  after_results
  rfl
theorem entry1 : (V m c main_v1 : FVec Ideal S2048x768 .f32) = shapeCast S2048x768 (m ((c : Thread nD τ).loc main_arg1) : FVec Ideal S1x2048x12x64 .f32) shapeCasts_S1x2048x12x64_S2048x768 := by
  unfold V V0
  simp only [List.flatten_cons, List.flatten_nil, List.append_nil]
  after_results
  rfl
theorem entry2 : (V m c main_v2 : FVec Ideal S2048x768 .f32) = shapeCast S2048x768 (m ((c : Thread nD τ).loc main_arg2) : FVec Ideal S1x2048x12x64 .f32) shapeCasts_S1x2048x12x64_S2048x768 := by
  unfold V V0
  simp only [List.flatten_cons, List.flatten_nil, List.append_nil]
  after_results
  rfl
theorem entry_mask : (V m c main_cst : FVec Ideal S152x152 .f32) = (fun i => FloatOps.ofBits .f32 (lit0 (S152x152.rowMajor i)) : FVec Ideal S152x152 .f32) := by
  unfold V V0
  simp only [List.flatten_cons, List.flatten_nil, List.append_nil]
  after_results
  rfl

theorem block0 (i : Fin 1024) (j : Fin 768) : iblk m c 0 t0_0 (ix2 i j) = V m c main_v2 (ix2 ⟨i.val, by omega⟩ j) := by
  unfold iblk
  show V m c main_v2 _ = V m c main_v2 _
  refine congrArg _ (idx2_ext ?_ ?_)
  · show 0 * 1024 + 1 * i.val = i.val; omega
  · show 0 * 768 + 1 * j.val = j.val; omega
theorem block1 (i : Fin 1024) (j : Fin 768) : iblk m c 0 t0_1 (ix2 i j) = V m c main_v2 (ix2 ⟨1024 + i.val, by omega⟩ j) := by
  unfold iblk
  show V m c main_v2 _ = V m c main_v2 _
  refine congrArg _ (idx2_ext ?_ ?_)
  · show 1 * 1024 + 1 * i.val = 1024 + i.val; omega
  · show 0 * 768 + 1 * j.val = j.val; omega
theorem mask_block (R x : Fin 152) : iblk m c 1 t0_1 (ix2 R x) = V m c main_cst (ix2 R x) := by
  unfold iblk
  show V m c main_cst _ = V m c main_cst _
  refine congrArg _ (idx2_ext ?_ ?_)
  · show 0 * 152 + 1 * R.val = R.val; omega
  · show 0 * 152 + 1 * x.val = x.val; omega

/-- The mask the program carries. -/
theorem mask_at (R x : Fin 152) : (V m c main_cst : FVec Ideal S152x152 .f32) (ix2 R x) = if maskB R x then (1 : EReal) else 0 := by
  rw [entry_mask]
  have e : S152x152.rowMajor (ix2 R x) = ⟨152 * R.val + x.val, by have := R.isLt; have := x.isLt; show _ < 23104; omega⟩ := Fin.ext (by
    rw [Shape.rowMajor_val_two]; show R.val * 152 + x.val = 152 * R.val + x.val; omega)
  show FloatOps.ofBits .f32 (lit0 _) = _
  rw [e, mask_words]
  split
  · show Ideal.ofBits .f32 0x3F800000#32 = 1
    simp [Ideal.ofBits, Ideal.ieee, -EReal.coe_mul]; norm_num
  · show Ideal.ofBits .f32 0#32 = 0
    simp [Ideal.ofBits, Ideal.ieee, -EReal.coe_mul]

/-- The contents of the result at the end, from the array of the output window. -/
theorem end_result : (Pipeline.afterTail₀ cfgs (dats m) 0 (V0 m) [hostOps1] c main_v4 : FVec Ideal S1x2048x12x64 .f32)
    = shapeCast S1x2048x12x64 ((dats m 0 c).arrAt 2 cfg0.N : FVec Ideal S2048x768 .f32) shapeCasts_S2048x768_S1x2048x12x64 := by
  unfold Pipeline.afterTail₀
  simp only [List.flatten_cons, List.flatten_nil, List.append_nil]
  after_results
  refine congrArg (fun x : FVec Ideal S2048x768 .f32 => shapeCast S1x2048x12x64 x shapeCasts_S2048x768_S1x2048x12x64) ?_
  exact Pipeline.withArrays_arr spec0 (by decide) c (V0 m c) (fun w => (dats m 0 c).arrAt w cfg0.N) 2

theorem out_disj : ∀ t t' : Fin cfg0.N, (cfg0.win 2).flush t = true → (cfg0.win 2).flush t' = true → t ≠ t' →
    Disjoint ((cfg0.win 2).blk t).view.set ((cfg0.win 2).blk t').view.set :=
  Pipeline.Window.hdisj_of_index_inj _ (by decide +kernel)

theorem arr_cell (dat : Pipeline.Dat τ (Elt Ideal) Unit ℕ (Pipeline.UD sig nD τ) ℕ cfg0 c) (t : Fin cfg0.N) (hf : (cfg0.win 2).flush t = true) (y : S1024x768.Idx) :
    (dat.arrAt 2 cfg0.N : FVec Ideal S2048x768 .f32) (((cfg0.win 2).blk t).view.emb y) = (dat.after 2 t : FVec Ideal S1024x768 .f32) y :=
  (dat.arrAt_emb_eq_flushed 2 out_disj t hf y).trans rfl

theorem arr_first (i : Fin 1024) (j : Fin 768) : ((dats m 0 c).arrAt 2 cfg0.N : FVec Ideal S2048x768 .f32) (ix2 ⟨i.val, by omega⟩ j) = out1 m c (ix2 i j) := by
  refine Eq.trans (congrArg _ (idx2_ext ?_ ?_)) ((arr_cell c (dats m 0 c) t0_1 (by decide +kernel) (ix2 i j)).trans ?_)
  · show i.val = 0 * 1024 + 1 * i.val; omega
  · show j.val = 0 * 768 + 1 * j.val; omega
  · rw [after0_2]
    unfold outAt
    rw [if_pos (show t0_1.val = 1 from rfl)]

theorem arr_second (i : Fin 1024) (j : Fin 768) : ((dats m 0 c).arrAt 2 cfg0.N : FVec Ideal S2048x768 .f32) (ix2 ⟨1024 + i.val, by omega⟩ j) = out2 m c (ix2 i j) := by
  refine Eq.trans (congrArg _ (idx2_ext ?_ ?_)) ((arr_cell c (dats m 0 c) t0_2 (by decide +kernel) (ix2 i j)).trans ?_)
  · show 1024 + i.val = 1 * 1024 + 1 * i.val; omega
  · show j.val = 0 * 768 + 1 * j.val; omega
  · rw [after0_2]
    unfold outAt
    rw [if_neg (by decide)]

end Cert.KernelIdeal.Hand

end
-- ==== Proof.KernelIdealResult.lean ====
module

public import proofs.«01_k».proof.Proof.KernelIdealFinal

@[expose] public section

set_option maxRecDepth 16384

noncomputable section

namespace Cert.KernelIdeal.Hand

open Cert.KernelIdeal Cert.KernelIdeal.Gen
open Idealize.ShloMosaic Idealize.ShloMosaic.TcCoe
open Cert.ReferenceIdeal.Hand (attend coe_sum together starts)

variable (m : (ℓ : Loc nD τ sig) → Buf (Elt Ideal) ℓ) (c : Dev nD)

/-! ## What the points load -/

theorem holds0 : Holds c (st0_0 t0_0) ((st0_0 t0_0).view.rep (iblk m c 0 t0_0)) (V m c main_v2) 0 (by decide) := by
  intro i j
  rw [View.read_rep]
  refine (block0 m c i j).trans (congrArg (V m c main_v2) (idx2_ext ?_ rfl))
  show i.val = 0 + i.val; omega

theorem holds1 : Holds c (st0_0 t0_1) ((st0_0 t0_1).view.rep (iblk m c 0 t0_1)) (V m c main_v2) 1024 (by decide) := by
  intro i j
  rw [View.read_rep]
  exact block1 m c i j

theorem twice (v : FVec Ideal S8x768 .f32) : shapeCast S8x768 (shapeCast S8x768 v shapeCasts_S8x768_S8x768) shapeCasts_S8x768_S8x768 = v := by
  funext y; pointwise

section

variable {M : Memref sig .tc .vmem S1024x768 .f32} {f : BufOf (F := Ideal) c M} {X : FVec Ideal S2048x768 .f32}

/-- A window of the first block, as the kernel keeps it. -/
theorem kept_window (H : Holds c M f X 0 (by decide)) (o : ℕ) (ho : ∀ a, (![o, 0] : Fin 2 → ℕ) a + S8x768.size a ≤ S1024x768.size a) (hw : o + 8 ≤ 2048) :
    shapeCast S8x768 (shapeCast S8x768 (View.readAt (Elt Ideal) M.view (Rect.unit (s := S1024x768) ![o, 0] S8x768.size ho).toLoadRect f : FVec Ideal S8x768 .f32)
      shapeCasts_S8x768_S8x768) shapeCasts_S8x768_S8x768 = rowWin X o hw := by
  rw [twice]
  exact block_rows c H o o ho (Nat.zero_add _).symm hw

theorem pieces (H : Holds c M f X 0 (by decide)) : k0_pay58 (vLoad0 (F := Ideal) (c := c) M f) = rowWin X 82 (by decide)
    ∧ k0_pay59 (vLoad1 (F := Ideal) (c := c) M f) = rowWin X 530 (by decide)
    ∧ k0_pay60 (vLoad2 (F := Ideal) (c := c) M f) = rowWin X 621 (by decide)
    ∧ k0_pay61 (vLoad3 (F := Ideal) (c := c) M f) = rowWin X 733 (by decide)
    ∧ k0_pay62 (vLoad4 (F := Ideal) (c := c) M f) = rowWin X 788 (by decide)
    ∧ k0_pay63 (vLoad5 (F := Ideal) (c := c) M f) = rowWin X 829 (by decide)
    ∧ k0_pay64 (vLoad6 (F := Ideal) (c := c) M f) = rowWin X 861 (by decide)
    ∧ k0_pay65 (vLoad7 (F := Ideal) (c := c) M f) = rowWin X 976 (by decide)
    ∧ k0_pay66 (vLoad8 (F := Ideal) (c := c) M f) = rowWin X 995 (by decide) := by
  dsimp only [k0_pay58, k0_pay59, k0_pay60, k0_pay61, k0_pay62, k0_pay63, k0_pay64, k0_pay65, k0_pay66]
  exact ⟨kept_window c H 82 (by decide) (by decide), kept_window c H 530 (by decide) (by decide), kept_window c H 621 (by decide) (by decide), kept_window c H 733 (by decide) (by decide), kept_window c H 788 (by decide) (by decide), kept_window c H 829 (by decide) (by decide), kept_window c H 861 (by decide) (by decide), kept_window c H 976 (by decide) (by decide), kept_window c H 995 (by decide) (by decide)⟩

end

/-! ## The column sums -/

/-- The sum of a column over the first half of the rows. -/
def colSum (X : FVec Ideal S2048x768 .f32) (j : Fin 768) : EReal := ∑ i : Fin 1024, X (ix2 ⟨i.val, by omega⟩ j)

theorem block_sum (x : FVec Ideal S1024x768 .f32) (X : FVec Ideal S2048x768 .f32) (H : ∀ i j, x (ix2 i j) = X (ix2 ⟨i.val, by omega⟩ j)) (j : Fin 768) :
    ∑ i : Fin 1024, x (ix2 i j) = colSum X j := Finset.sum_congr rfl fun i _ => H i j

theorem column (x : FVec Ideal S1024x768 .f32) (X : FVec Ideal S2048x768 .f32) (H : ∀ i j, x (ix2 i j) = X (ix2 ⟨1024 + i.val, by omega⟩ j)) (j : Fin 768) :
    colSum X j + ∑ i : Fin 1024, x (ix2 i j) = ∑ r : Fin 2048, X (ix2 r j) := by
  rw [Fin.sum_univ_two_halves 1024 1024 rfl]
  exact congrArg _ (Finset.sum_congr rfl fun i _ => H i j)

theorem acc1_at (j : Fin 768) : acc1 m c (ix2 0 j) = colSum (V m c main_v2) j := by
  unfold acc1 run0At
  obtain ⟨L, hL⟩ := run0_acc (F := Ideal) c (st0_0 t0_0) (hs0_0 t0_0) (st0_1 t0_0) (hs0_1 t0_0) (st0_2 t0_0) (hs0_2 t0_0) ((st0_0 t0_0).view.rep (iblk m c 0 t0_0))
  rw [hL, View.read_writes_full, pay57_at, View.readCov_full, pay1_at, zero_add, View.readAt_rep_full]
  exact block_sum _ _ (block0 m c) j

theorem sums_eq (arg1 : Memref sig .tc .vmem S1024x768 .f32) (fa : BufOf (F := Ideal) c scAcc) (f1 : BufOf (F := Ideal) c arg1) :
    run1.sl.v318 c arg1 fa f1 = k0_pay57 (View.readAt (Elt Ideal) scAcc.view (Rect.unit (s := S1x768) ![0, 0] S1x768.size inb_S1x768_S1x768_0_0).toLoadRect fa)
        (View.readAt (Elt Ideal) arg1.view (Rect.unit (s := S1024x768) ![0, 0] S1024x768.size inb_S1024x768_S1024x768_0_0).toLoadRect f1) :=
  View.readCov_full _ _ _ _ _

/-- The second point's sums. -/
abbrev sums : FVec Ideal S1x768 .f32 := run1.sl.v318 c (st0_0 t0_1) (scAcc.view.rep (acc1 m c)) ((st0_0 t0_1).view.rep (iblk m c 0 t0_1))

theorem acc2_eq : acc2 m c = sums m c := by
  unfold acc2 run1At sums
  rw [run1_acc, View.read_writes_full, sums_eq]

theorem sums_at (v : S1x2048x12x64.Idx → ℝ) (hX : Flat (V m c main_v2) v) (h : Fin 12) (e : Fin 64) :
    sums m c (ix2 0 ⟨64 * h.val + e.val, by omega⟩) = ((∑ r, v (ix4 0 r h e) : ℝ) : EReal) := by
  unfold sums
  rw [sums_eq, pay57_at, View.readAt_rep_full, View.readAt_rep_full, acc1_at]
  refine (column _ _ (block1 m c) _).trans ?_
  rw [coe_sum]
  exact Finset.sum_congr rfl fun r _ => hX r h e

/-! ## The windows' results and the blocks -/

abbrev rowsX (X : FVec Ideal S2048x768 .f32) : FVec Ideal S152x768 .f32 :=
  rowsOf c (st0_0 t0_1) (st0_1 t0_1) (V m c main_v0) (V m c main_v1) (scAcc.view.rep (acc1 m c)) (rowWin X 82 (by decide)) (rowWin X 530 (by decide)) (rowWin X 621 (by decide)) (rowWin X 733 (by decide)) (rowWin X 788 (by decide)) (rowWin X 829 (by decide)) (rowWin X 861 (by decide)) (rowWin X 976 (by decide)) (rowWin X 995 (by decide))
    ((st0_0 t0_1).view.rep (iblk m c 0 t0_1)) ((st0_1 t0_1).view.rep (iblk m c 1 t0_1))

theorem rows_eq : rows m c = rowsX m c (V m c main_v2) := by
  obtain ⟨e0, e1, e2, e3, e4, e5, e6, e7, e8⟩ := pieces c (holds0 m c)
  unfold rows run1At
  rw [run1_rows, View.read_writes_full, e0, e1, e2, e3, e4, e5, e6, e7, e8]

theorem out1_eq : out1 m c = (st0_2 t0_1).view.read (Elt Ideal) ((st0_2 t0_1).view.writes (Elt Ideal) (st0_2 t0_1).view.junk (outPieces (rowsX m c (V m c main_v2)) (sums m c))) := by
  obtain ⟨e0, e1, e2, e3, e4, e5, e6, e7, e8⟩ := pieces c (holds0 m c)
  unfold out1 run1At
  rw [run1_out, e0, e1, e2, e3, e4, e5, e6, e7, e8]

theorem out2_eq : out2 m c = (st0_2 t0_2).view.read (Elt Ideal) ((st0_2 t0_2).view.writes (Elt Ideal) (st0_2 t0_2).view.junk
    (lastPieces c (scR.view.rep (rowsX m c (V m c main_v2))) (sums m c))) := by
  unfold out2 run2At
  rw [run2_out, View.readAt_rep_full, acc2_eq, rows_eq]

variable (q k v : S1x2048x12x64.Idx → ℝ) (hq : ∀ i, (m ((c : Thread nD τ).loc main_arg0) : FVec Ideal S1x2048x12x64 .f32) i = (q i : EReal))
  (hk : ∀ i, (m ((c : Thread nD τ).loc main_arg1) : FVec Ideal S1x2048x12x64 .f32) i = (k i : EReal))
  (hv : ∀ i, (m ((c : Thread nD τ).loc main_arg2) : FVec Ideal S1x2048x12x64 .f32) i = (v i : EReal))

include hv in
theorem flat2 : Flat (V m c main_v2) v := fun r h e => by rw [entry2, join_at]; exact hv _

include hq hk hv in
theorem rowsX_at (R : Fin 152) (hR : kept R = true) (h : Fin 12) (e : Fin 64) :
    rowsX m c (V m c main_v2) (ix2 R ⟨64 * h.val + e.val, by omega⟩) = (attend q k v (colF R) h e : EReal) := by
  refine rows_at c (st0_0 t0_1) (st0_1 t0_1) (V m c main_v0) (V m c main_v1) (scAcc.view.rep (acc1 m c)) ((st0_0 t0_1).view.rep (iblk m c 0 t0_1)) ((st0_1 t0_1).view.rep (iblk m c 1 t0_1))
    (V m c main_v2) q k v ?_ ?_ (flat2 m c v hv) (holds1 m c) (sums_at m c v (flat2 m c v hv)) ?_ R hR h e
  · intro r h e
    refine Eq.trans (b := (V m c main_v0 : FVec Ideal S2048x768 .f32) (ix2 r ⟨64 * h.val + e.val, by omega⟩)) rfl ?_
    rw [entry0, join_at]
    exact hq _
  · intro r h e
    refine Eq.trans (b := (V m c main_v1 : FVec Ideal S2048x768 .f32) (ix2 r ⟨64 * h.val + e.val, by omega⟩)) rfl ?_
    rw [entry1, join_at]
    exact hk _
  · intro R x
    refine Eq.trans ?_ (mask_at m c R x)
    refine Eq.trans ?_ (mask_block m c R x)
    exact congrFun (View.readAt_rep_full (st0_1 t0_1).view (iblk m c 1 t0_1) inb_S152x152_S152x152_0_0) (ix2 R x)

include hq hk hv in
/-- The kernel's result on real arguments. -/
theorem result_at (r : Fin 2048) (h : Fin 12) (e : Fin 64) :
    (Pipeline.afterTail₀ cfgs (dats m) 0 (V0 m) [hostOps1] c main_v4 : FVec Ideal S1x2048x12x64 .f32) (ix4 0 r h e) = (attend q k v r h e : EReal) := by
  rw [end_result, split_at]
  have hs := sums_at m c v (flat2 m c v hv)
  have hr := rowsX_at m c q k v hq hk hv
  by_cases h1 : r.val < 1024
  · refine (arr_first m c ⟨r.val, h1⟩ _).trans ?_
    rw [out1_eq]
    refine (first_block c q k v (st0_2 t0_1) _ _ hr (sums m c) hs ⟨r.val, h1⟩ h e (by omega)).trans ?_
    rw [show (⟨0 + r.val, by omega⟩ : Fin 2048) = r from Fin.ext (Nat.zero_add _)]
  · have e1 : r = ⟨1024 + (r.val - 1024), by omega⟩ := Fin.ext (by show r.val = 1024 + (r.val - 1024); omega)
    have hlt : r.val - 1024 < 1024 := by omega
    rw [e1]
    refine (arr_second m c ⟨r.val - 1024, hlt⟩ _).trans ?_
    rw [out2_eq]
    exact second_block c q k v (st0_2 t0_2) _ _ hr _ (View.read_rep _ _) (sums m c) hs ⟨r.val - 1024, hlt⟩ h e (by omega)

end Cert.KernelIdeal.Hand

end
-- ==== Proof.Finite.lean ====
module

public import proofs.«01_k».proof.Pre_finite_values
public import Idealize.ShloMosaic.Lib.Pointwise

@[expose] public section

noncomputable section

namespace Cert.Pre_finite_values.Hand

open Cert.Pre_finite_values Idealize.ShloMosaic

instance bcast : Cert.Pre_finite_values.Facts where
  bcast_S_S1x2048x12x64 := by decide

/-- A value whose size lies below the greatest one is a real number. -/
theorem real_of_lt (x : EReal) (h : max x (-x) < ⊤) : ((x.toReal : ℝ) : EReal) = x := by
  rw [max_lt_iff] at h
  refine EReal.coe_toReal h.1.ne fun e => ?_
  rw [e] at h
  exact absurd h.2 (by simp)

theorem real_of_word (x : EReal) (h : BitVec.ofBool (decide (FloatOps.absf (F := Ideal) (φ := .f32) x < (⊤ : EReal))) = 1#1) : ((x.toReal : ℝ) : EReal) = x := by
  refine real_of_lt x (of_decide_eq_true ?_)
  by_contra hn
  rw [Bool.not_eq_true] at hn
  rw [show FloatOps.absf (F := Ideal) (φ := .f32) x = max x (-x) from rfl, hn] at h
  exact absurd h (by decide)

/-- A conjunction of two words of one bit that is one. -/
theorem both (a b : BitVec 1) (h : IntOp.andi a b = 1#1) : a = 1#1 ∧ b = 1#1 := by
  revert a b; decide

theorem top_word : Ideal.ofBits .f32 0x7F800000#32 = ⊤ := by
  simp [Ideal.ofBits, Ideal.ieee]

/-- The precondition makes every value of the three arguments a real number. -/
theorem finite (a b w : FVec Ideal S1x2048x12x64 .f32) (H : fn a b w = fun _ => 1#1) (i : S1x2048x12x64.Idx) :
    a i = ((a i).toReal : EReal) ∧ b i = ((b i).toReal : EReal) ∧ w i = ((w i).toReal : EReal) := by
  have h := congrFun H i
  revert h
  pointwise [fn, top_word]
  intro h
  obtain ⟨h1, hw⟩ := both _ _ h
  obtain ⟨ha, hb⟩ := both _ _ h1
  exact ⟨(real_of_word _ ha).symm, (real_of_word _ hb).symm, (real_of_word _ hw).symm⟩

end Cert.Pre_finite_values.Hand

end
-- ==== Proof.lean ====
/- The proof of the certificate's claims: the frames of the kernel, of its ideal reading and of the reference, the named
   constant's statement, and the equation between the kernel and the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.KernelIdealResult
public import proofs.«01_k».proof.Proof.RefFinal
public import proofs.«01_k».proof.Proof.Finite
public import Idealize.ShloMosaic.Adequacy
public import Idealize.ShloMosaic.Init

@[expose] public section

set_option maxRecDepth 8192

noncomputable section

namespace Cert.Proof

open Idealize.ShloMosaic Idealize.ShloMosaic.TcCoe Idealize.SL.Sem Cert.Kernel

/-- The reference terminates, leaves its arguments unchanged, and has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant: the mask's literal stands for −∞ over the extended reals. -/
theorem preserves : Cert.preserves_Kernel_KernelIdeal :=
  IdealRules.named_const.statement Cert.KernelIdeal.κ "neg" .f32 0xF149F2CA#32 ⊥ rfl

/-- The common result: attention over all positions, of the arguments' real values. -/
def common (a b w : FVec Ideal S1x2048x12x64 .f32) : FVec Ideal S1x2048x12x64 .f32 := fun i =>
  (Cert.ReferenceIdeal.Hand.attend (fun j => (a j).toReal) (fun j => (b j).toReal) (fun j => (w j).toReal) (i 1) (i 2) (i 3) : EReal)

/-- Two results that agree wherever the first coordinate is zero are equal. -/
theorem ext_result (x y : FVec Ideal S1x2048x12x64 .f32) (h : ∀ r h e, x (ix4 0 r h e) = y (ix4 0 r h e)) : x = y := by
  funext i
  have e : i = ix4 0 (i 1) (i 2) (i 3) := by
    funext a
    match a with
    | ⟨0, _⟩ => exact Subsingleton.elim (α := Fin 1) _ _
    | ⟨1, _⟩ => rfl
    | ⟨2, _⟩ => rfl
    | ⟨3, _⟩ => rfl
  rw [e]
  exact h _ _ _

/-- The reference's result of arguments that are real. -/
theorem reference_common (V0 : Valuation Cert.ReferenceIdeal.τ Cert.ReferenceIdeal.sig (Elt Ideal)) (a b w : FVec Ideal S1x2048x12x64 .f32)
    (ea : V0 (Proc.devRef .tc Cert.ReferenceIdeal.main_arg0) = a) (eb : V0 (Proc.devRef .tc Cert.ReferenceIdeal.main_arg1) = b)
    (ew : V0 (Proc.devRef .tc Cert.ReferenceIdeal.main_arg2) = w) (H : Cert.Pre_finite_values.fn a b w = fun _ => 1#1) :
    Cert.ReferenceIdeal.Hand.outOf (Cert.ReferenceIdeal.Hand.s152 V0) (V0 (Proc.devRef .tc Cert.ReferenceIdeal.main_arg2)) = common a b w := by
  rw [ew]
  have F := Cert.Pre_finite_values.Hand.finite a b w H
  exact ext_result _ _ fun r h e => Cert.ReferenceIdeal.Hand.reference_at V0 a b w ea eb _ _ _ (fun i => (F i).1) (fun i => (F i).2.1) (fun i => (F i).2.2) r h e

/-- The kernel's result of arguments that are real. -/
theorem kernel_common (m : (ℓ : Loc Cert.KernelIdeal.nD Cert.KernelIdeal.τ Cert.KernelIdeal.sig) → Buf (Elt Ideal) ℓ) (c : Dev Cert.KernelIdeal.nD) (a b w : FVec Ideal S1x2048x12x64 .f32)
    (ea : m ((c : Thread Cert.KernelIdeal.nD Cert.KernelIdeal.τ).loc Cert.KernelIdeal.main_arg0) = a) (eb : m ((c : Thread Cert.KernelIdeal.nD Cert.KernelIdeal.τ).loc Cert.KernelIdeal.main_arg1) = b)
    (ew : m ((c : Thread Cert.KernelIdeal.nD Cert.KernelIdeal.τ).loc Cert.KernelIdeal.main_arg2) = w)
    (H : Cert.Pre_finite_values.fn a b w = fun _ => 1#1) :
    (Pipeline.afterTail₀ Cert.KernelIdeal.cfgs (Cert.KernelIdeal.Hand.dats m) 0 (Cert.KernelIdeal.Gen.V0 m) [Cert.KernelIdeal.Gen.hostOps1] c Cert.KernelIdeal.main_v4 : FVec Ideal S1x2048x12x64 .f32) = common a b w := by
  have F := Cert.Pre_finite_values.Hand.finite a b w H
  refine ext_result _ _ fun r h e => Cert.KernelIdeal.Hand.result_at m c _ _ _ (fun i => ?_) (fun i => ?_) (fun i => ?_) r h e
  · rw [ea]; exact (F i).1
  · rw [eb]; exact (F i).2.1
  · rw [ew]; exact (F i).2.2

/-- On finite arguments the kernel and the reference end with the same result. -/
theorem equation : Cert.algebraic_KernelIdeal_ReferenceIdeal_pre_finite_values (hPre_finite_values := Cert.Pre_finite_values.Hand.bcast) := by
  intro m g m' g' pre same
  refine ⟨fun c => common (m ((c : Thread Cert.KernelIdeal.nD Cert.KernelIdeal.τ).loc Cert.KernelIdeal.main_arg0)) (m ((c : Thread Cert.KernelIdeal.nD Cert.KernelIdeal.τ).loc Cert.KernelIdeal.main_arg1))
    (m ((c : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Hand.run_main m g)
    · exact ((h.1 c).2 Cert.KernelIdeal.main_v4 (Pipeline.mem_restRefs_of Cert.KernelIdeal.main_v4 (by decide) (by decide))).trans (kernel_common m c _ _ _ rfl rfl rfl (pre c))
    · exact ((h.1 c).2 Cert.KernelIdeal.main_arg0 (Pipeline.mem_restRefs_of Cert.KernelIdeal.main_arg0 (by decide) (by decide))).trans (Cert.KernelIdeal.Hand.end_arg0 m c)
    · exact ((h.1 c).2 Cert.KernelIdeal.main_arg1 (Pipeline.mem_restRefs_of Cert.KernelIdeal.main_arg1 (by decide) (by decide))).trans (Cert.KernelIdeal.Hand.end_arg1 m c)
    · exact ((h.1 c).2 Cert.KernelIdeal.main_arg2 (Pipeline.mem_restRefs_of Cert.KernelIdeal.main_arg2 (by decide) (by decide))).trans (Cert.KernelIdeal.Hand.end_arg2 m c)
  · refine (θ_run Cert.ReferenceIdeal.defs _ _).mono (fun r h c => ⟨(h c).1.trans ?_, (h c).2⟩) (Cert.ReferenceIdeal.Value.run (F := Ideal) m' g')
    obtain ⟨s0, s1, s2⟩ := same c
    have key := reference_common (StableHlo.launchContents m' c) _ _ _ s0 s1 s2 (pre c)
    unfold Cert.ReferenceIdeal.Hand.outOf at key
    exact key

theorem claim : Cert.Claim := ⟨Cert.Kernel.Gen.facts, Cert.KernelIdeal.Gen.facts, Cert.ReferenceIdeal.Gen.facts, Cert.Pre_finite_values.Hand.bcast,
  fun m ρ _ => Cert.Kernel.Hand.frame_args m ρ,
  fun m ρ _ => Cert.KernelIdeal.Hand.frame_args m ρ,
  fun m ρ _ => Cert.KernelIdeal.Hand.frame_args m ρ,
  frame_ri, fun m ρ _ => frame_ri m ρ trivial, preserves, equation⟩

end Cert.Proof

end
